-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v102) = v0 c
          ∧ r.2.mem ((c.tc : Thread Cert.Reference2Ideal.nD Cert.Reference2Ideal.τ).loc Cert.Reference2Ideal.main_v104) = v1 c
          ∧ r.2.mem ((c.tc : Thread Cert.Reference2Ideal.nD Cert.Reference2Ideal.τ).loc Cert.Reference2Ideal.main_v106) = v2 c
          ∧ r.2.mem ((c.tc : Thread Cert.Reference2Ideal.nD Cert.Reference2Ideal.τ).loc Cert.Reference2Ideal.main_v108) = v3 c
          ∧ r.2.mem ((c.tc : Thread Cert.Reference2Ideal.nD Cert.Reference2Ideal.τ).loc Cert.Reference2Ideal.main_v110) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v250) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x1024 : Shape := ⟨2, ![16384, 1024]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x1x128 : Shape := ⟨3, ![8, 1, 128]⟩
abbrev S256x1024 : Shape := ⟨2, ![256, 1024]⟩
abbrev S1x1x128 : Shape := ⟨3, ![1, 1, 128]⟩

abbrev nBuf : Space → Nat
  | .hbm => 68
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S1x128x128, .i1⟩
  | .hbm, ⟨24, _⟩ => ⟨S_, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S8x1x1, .f32⟩
  | .hbm, ⟨30, _⟩ => ⟨S8x128x128, .f32⟩
  | .hbm, ⟨31, _⟩ => ⟨S8x128x128, .f32⟩
  | .hbm, ⟨32, _⟩ => ⟨S8x128x128, .f32⟩
  | .hbm, ⟨33, _⟩ => ⟨S8x128x128, .f32⟩
  | .hbm, ⟨34, _⟩ => ⟨S_, .f32⟩
  | .hbm, ⟨35, _⟩ => ⟨S_, .f32⟩
  | .hbm, ⟨36, _⟩ => ⟨S8x128x128, .i1⟩
  | .hbm, ⟨37, _⟩ => ⟨S8x128x128, .f32⟩
  | .hbm, ⟨38, _⟩ => ⟨S8x128x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S8x1, .f32⟩
  | .hbm, ⟨44, _⟩ => ⟨S8x128, .f32⟩
  | .hbm, ⟨45, _⟩ => ⟨S8x128, .f32⟩
  | .hbm, ⟨46, _⟩ => ⟨S8x128, .f32⟩
  | .hbm, ⟨47, _⟩ => ⟨S8x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S8x1, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S8x128, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S8x128x1, .f32⟩
  | .hbm, ⟨62, _⟩ => ⟨S8x128x128, .f32⟩
  | .hbm, ⟨63, _⟩ => ⟨S8x128x1, .f32⟩
  | .hbm, ⟨64, _⟩ => ⟨S8x128x128, .f32⟩
  | .hbm, ⟨65, _⟩ => ⟨S8x1x1, .f32⟩
  | .hbm, ⟨66, _⟩ => ⟨S8x1x128, .f32⟩
  | .hbm, ⟨67, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .f32⟩
  | .local _ .vmem, ⟨11, _⟩ => ⟨S8x1x128, .f32⟩
  | .local _ .vmem, ⟨12, _⟩ => ⟨S256x1024, .bf16⟩
  | .local _ .vmem, ⟨13, _⟩ => ⟨S256x1024, .bf16⟩
  | .local _ .vmem, ⟨14, _⟩ => ⟨S8x128x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x1024 : Shape := ⟨2, ![16384, 1024]⟩
abbrev S4x4096x8x128 : Shape := ⟨4, ![4, 4096, 8, 128]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S4x32x128x8x128 : Shape := ⟨5, ![4, 32, 128, 8, 128]⟩
abbrev S4x32x8x128x128 : Shape := ⟨5, ![4, 32, 8, 128, 128]⟩
abbrev S1x1x8x128x128 : Shape := ⟨5, ![1, 1, 8, 128, 128]⟩
abbrev S128x8 : Shape := ⟨2, ![128, 8]⟩
abbrev S1x1x128x8x1 : Shape := ⟨5, ![1, 1, 128, 8, 1]⟩
abbrev S4x8x128x128 : Shape := ⟨4, ![4, 8, 128, 128]⟩
abbrev S32x4x8x128x128 : Shape := ⟨5, ![32, 4, 8, 128, 128]⟩
abbrev S1x4x8x128x128 : Shape := ⟨5, ![1, 4, 8, 128, 128]⟩
abbrev S1x8x1x1 : Shape := ⟨4, ![1, 8, 1, 1]⟩
abbrev S4x4096x8 : Shape := ⟨3, ![4, 4096, 8]⟩
abbrev S4x4096x8x1 : Shape := ⟨4, ![4, 4096, 8, 1]⟩

abbrev nBuf : Space → Nat
  | .hbm => 147
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S16384x1024, .f32⟩
  | 4 => ⟨S16384x1024, .f32⟩
  | 5 => ⟨S4x4096x8x128, .f32⟩
  | 6 => ⟨S16384x1024, .f32⟩
  | 7 => ⟨S4x4096x8x128, .f32⟩
  | 8 => ⟨S16384x1024, .f32⟩
  | 9 => ⟨S4x4096x8x128, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S8, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S1x128x128, .i1⟩
  | 30 => ⟨S_, .f32⟩
  | 31 => ⟨S_, .f32⟩
  | 32 => ⟨S128x128, .f32⟩
  | 33 => ⟨S128x128, .f32⟩
  | 34 => ⟨S1x128x128, .f32⟩
  | 35 => ⟨S8x1x1, .f32⟩
  | 36 => ⟨S8x128x128, .f32⟩
  | 37 => ⟨S8x128x128, .f32⟩
  | 38 => ⟨S8x128x128, .f32⟩
  | 39 => ⟨S8x128x128, .f32⟩
  | 40 => ⟨S_, .f32⟩
  | 41 => ⟨S_, .f32⟩
  | 42 => ⟨S8x128x128, .i1⟩
  | 43 => ⟨S8x128x128, .f32⟩
  | 44 => ⟨S8x128x128, .f32⟩
  | 45 => ⟨S1x128, .f32⟩
  | 46 => ⟨S_, .f32⟩
  | 47 => ⟨S1x128, .f32⟩
  | 48 => ⟨S1x128, .f32⟩
  | 49 => ⟨S8x1, .f32⟩
  | 50 => ⟨S8x128, .f32⟩
  | 51 => ⟨S8x128, .f32⟩
  | 52 => ⟨S8x128, .f32⟩
  | 53 => ⟨S8x128, .f32⟩
  | 54 => ⟨S1x128, .f32⟩
  | 55 => ⟨S_, .f32⟩
  | 56 => ⟨S1x128, .f32⟩
  | 57 => ⟨S1x128, .f32⟩
  | 58 => ⟨S8x1, .f32⟩
  | 59 => ⟨S8x128, .f32⟩
  | 60 => ⟨S8x128, .f32⟩
  | 61 => ⟨S8x128, .f32⟩
  | 62 => ⟨S8x128, .f32⟩
  | 63 => ⟨S_, .f32⟩
  | 64 => ⟨S8, .f32⟩
  | 65 => ⟨S8, .f32⟩
  | 66 => ⟨S8, .f32⟩
  | 67 => ⟨S4x32x128x8x128, .f32⟩
  | 68 => ⟨S4x32x128x8x128, .f32⟩
  | 69 => ⟨S4x32x128x8x128, .f32⟩
  | 70 => ⟨S4x32x8x128x128, .f32⟩
  | 71 => ⟨S1x1x8x128x128, .f32⟩
  | 72 => ⟨S4x32x8x128x128, .f32⟩
  | 73 => ⟨S4x32x8x128x128, .f32⟩
  | 74 => ⟨S4x32x8x128x128, .f32⟩
  | 75 => ⟨S4x32x128x8x128, .f32⟩
  | 76 => ⟨S128x8, .f32⟩
  | 77 => ⟨S1x1x128x8x1, .f32⟩
  | 78 => ⟨S4x32x128x8x128, .f32⟩
  | 79 => ⟨S4x32x128x8x128, .f32⟩
  | 80 => ⟨S4x32x8x128x128, .f32⟩
  | 81 => ⟨S_, .f32⟩
  | 82 => ⟨S4x8x128x128, .f32⟩
  | 83 => ⟨S32x4x8x128x128, .f32⟩
  | 84 => ⟨S_, .f32⟩
  | 85 => ⟨S32x4x8x128x128, .f32⟩
  | 86 => ⟨S_, .i32⟩
  | 87 => ⟨S32x4x8x128x128, .f32⟩
  | 88 => ⟨S8, .f32⟩
  | 89 => ⟨S_, .i32⟩
  | 90 => ⟨S4x8x128x128, .f32⟩
  | 91 => ⟨S32x4x8x128x128, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x4x8x128x128, .f32⟩
  | 99 => ⟨S4x8x128x128, .f32⟩
  | 100 => ⟨S1x8x1x1, .f32⟩
  | 101 => ⟨S4x8x128x128, .f32⟩
  | 102 => ⟨S4x8x128x128, .f32⟩
  | 103 => ⟨S4x8x128x128, .f32⟩
  | 104 => ⟨S1x4x8x128x128, .f32⟩
  | 105 => ⟨S_, .i32⟩
  | 106 => ⟨S_, .i32⟩
  | 107 => ⟨S_, .i32⟩
  | 108 => ⟨S_, .i32⟩
  | 109 => ⟨S32x4x8x128x128, .f32⟩
  | 110 => ⟨S_, .i32⟩
  | 111 => ⟨S_, .i32⟩
  | 112 => ⟨S4x32x8x128x128, .f32⟩
  | 113 => ⟨S128x8, .f32⟩
  | 114 => ⟨S1x1x128x8x1, .f32⟩
  | 115 => ⟨S4x32x128x8x128, .f32⟩
  | 116 => ⟨S4x32x128x8x128, .f32⟩
  | 117 => ⟨S4x32x8x128x128, .f32⟩
  | 118 => ⟨S4x32x128x8x128, .f32⟩
  | 119 => ⟨S4x32x128x8x128, .f32⟩
  | 120 => ⟨S4x4096x8x128, .f32⟩
  | 121 => ⟨S_, .f32⟩
  | 122 => ⟨S4x4096x8, .f32⟩
  | 123 => ⟨S4x4096x8x1, .f32⟩
  | 124 => ⟨S_, .f32⟩
  | 125 => ⟨S4x4096x8x1, .f32⟩
  | 126 => ⟨S4x4096x8x1, .f32⟩
  | 127 => ⟨S4x4096x8x128, .f32⟩
  | _ => ⟨S16384x1024, .bf16⟩

abbrev hbmTy0_1 (i : Nat) : BufTy := match i % 128 with
  | 0 => ⟨S4x4096x8x128, .f32⟩
  | 1 => ⟨S4x4096x8x128, .f32⟩
  | 2 => ⟨S_, .f32⟩
  | 3 => ⟨S4x4096x8, .f32⟩
  | 4 => ⟨S4x4096x8x1, .f32⟩
  | 5 => ⟨S_, .f32⟩
  | 6 => ⟨S4x4096x8x1, .f32⟩
  | 7 => ⟨S4x4096x8x1, .f32⟩
  | 8 => ⟨S4x4096x8x128, .f32⟩
  | 9 => ⟨S4x4096x8x128, .f32⟩
  | 10 => ⟨S_, .f32⟩
  | 11 => ⟨S4x4096x8x1, .f32⟩
  | 12 => ⟨S4x4096x8x1, .f32⟩
  | 13 => ⟨S4x4096x8x1, .f32⟩
  | 14 => ⟨S4x4096x8x128, .f32⟩
  | 15 => ⟨S4x4096x8x128, .f32⟩
  | 16 => ⟨S16384x1024, .f32⟩
  | 17 => ⟨S16384x1024, .f32⟩
  | 18 => ⟨S16384x1024, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_c : Ref sig .tc := ⟨.hbm, 86, rfl⟩
abbrev main_v67_0 : Ref sig .tc := ⟨.hbm, 87, rfl⟩
abbrev main_v67_1 : Ref sig .tc := ⟨.hbm, 88, rfl⟩
abbrev main_v67_2 : Ref sig .tc := ⟨.hbm, 89, rfl⟩
abbrev main_v67_3 : Ref sig .tc := ⟨.hbm, 90, rfl⟩
abbrev main_v67_4 : Ref sig .tc := ⟨.hbm, 91, rfl⟩
abbrev main_while0c_c_18 : Ref sig .tc := ⟨.hbm, 92, rfl⟩
abbrev main_while0c_v98 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v98 : Ref sig .tc := ⟨.hbm, 99, rfl⟩
abbrev main_while0b_v99 : Ref sig .tc := ⟨.hbm, 100, rfl⟩
abbrev main_while0b_v100 : Ref sig .tc := ⟨.hbm, 101, rfl⟩
abbrev main_while0b_v101 : Ref sig .tc := ⟨.hbm, 102, rfl⟩
abbrev main_while0b_v102 : Ref sig .tc := ⟨.hbm, 103, rfl⟩
abbrev main_while0b_call3_v0 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_c_2 : Ref sig .tc := ⟨.hbm, 108, rfl⟩
abbrev main_while0b_v103 : Ref sig .tc := ⟨.hbm, 109, rfl⟩
abbrev main_while0b_c_18 : Ref sig .tc := ⟨.hbm, 110, rfl⟩
abbrev main_while0b_v104 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_9 : Ref sig .tc := ⟨.hbm, 121, rfl⟩
abbrev main_v77 : Ref sig .tc := ⟨.hbm, 122, rfl⟩
abbrev main_v78 : Ref sig .tc := ⟨.hbm, 123, rfl⟩
abbrev main_cst_10 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_11 : Ref sig .tc := ⟨.hbm, 130, rfl⟩
abbrev main_v84 : Ref sig .tc := ⟨.hbm, 131, rfl⟩
abbrev main_v85 : Ref sig .tc := ⟨.hbm, 132, rfl⟩
abbrev main_cst_12 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_13 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S4x1x2048 : Shape := ⟨3, ![4, 1, 2048]⟩
abbrev S16384x1 : Shape := ⟨2, ![16384, 1]⟩
abbrev S2048x6144 : Shape := ⟨2, ![2048, 6144]⟩
abbrev S64 : Shape := ⟨1, ![64]⟩
abbrev S_ : Shape := ⟨0, ![]⟩
abbrev S128 : Shape := ⟨1, ![128]⟩
abbrev S1x128 : Shape := ⟨2, ![1, 128]⟩
abbrev S16384x1024 : Shape := ⟨2, ![16384, 1024]⟩
abbrev S512x2048 : Shape := ⟨2, ![512, 2048]⟩
abbrev S1x1x2048 : Shape := ⟨3, ![1, 1, 2048]⟩
abbrev S512x1 : Shape := ⟨2, ![512, 1]⟩
abbrev S2048x1024 : Shape := ⟨2, ![2048, 1024]⟩
abbrev S512x1024 : Shape := ⟨2, ![512, 1024]⟩
abbrev S2x512x2048 : Shape := ⟨3, ![2, 512, 2048]⟩
abbrev S2x512x128 : Shape := ⟨3, ![2, 512, 128]⟩
abbrev S512 : Shape := ⟨1, ![512]⟩
abbrev S1x2048 : Shape := ⟨2, ![1, 2048]⟩
abbrev S1x512x2048 : Shape := ⟨3, ![1, 512, 2048]⟩
abbrev S512x128 : Shape := ⟨2, ![512, 128]⟩
abbrev S1x512x128 : Shape := ⟨3, ![1, 512, 128]⟩

abbrev nBuf : Space → Nat
  | .hbm => 28
  | .vmem => 28
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S16384x1, .i32⟩
  | .hbm, ⟨4, _⟩ => ⟨S2048x6144, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S2048x6144, .bf16⟩
  | .hbm, ⟨23, _⟩ => ⟨S16384x1024, .f32⟩
  | .hbm, ⟨24, _⟩ => ⟨S16384x1024, .bf16⟩
  | .hbm, ⟨25, _⟩ => ⟨S16384x1024, .bf16⟩
  | .hbm, ⟨26, _⟩ => ⟨S16384x1024, .bf16⟩
  | .hbm, ⟨27, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S512x1, .i32⟩
  | .local _ .vmem, ⟨7, _⟩ => ⟨S512x1, .i32⟩
  | .local _ .vmem, ⟨8, _⟩ => ⟨S1x128, .f32⟩
  | .local _ .vmem, ⟨9, _⟩ => ⟨S1x128, .f32⟩
  | .local _ .vmem, ⟨10, _⟩ => ⟨S2048x1024, .bf16⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S2x512x2048, .bf16⟩
  | .local _ .vmem, ⟨23, _⟩ => ⟨S2x512x128, .f32⟩
  | .local _ .vmem, ⟨24, _⟩ => ⟨S2x512x128, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![33, 6], ![false, false]⟩

def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let arg0 : BitVec 32 := BitVec.ofNat 32 (i 0).val
  let c0_i32_5 : BitVec 32 := 0#32
  let v12 : BitVec 1 := Scalar.cmpi .eq arg0 c0_i32_5
  let v13 : BitVec 1 := Scalar.andi v11 v12
  let v14 : BitVec 32 := Scalar.extui v13
  let c0_i32_6 : BitVec 32 := 0#32
  let v15 : BitVec 1 := Scalar.cmpi .ne v14 c0_i32_6
  v15

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v74 : Index := Scalar.indexCast v9
  let c0_34 : Index := 0#32
  let c0_35 : Index := 0#32
  ![v74.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c0_40 : Index := 0#32
  let c0_41 : Index := 0#32
  ![v86.toNat, 0, 0]
def k0_cond2 (i : grid0.Coords) : BitVec 1 :=
  let arg1 : BitVec 32 := BitVec.ofNat 32 (i 1).val
  let c0_i32_7 : BitVec 32 := 0#32
  let v16 : BitVec 1 := Scalar.cmpi .eq arg1 c0_i32_7
  let arg0 : BitVec 32 := BitVec.ofNat 32 (i 0).val
  let c0_i32_8 : BitVec 32 := 0#32
  let v17 : BitVec 1 := Scalar.cmpi .sgt arg0 c0_i32_8
  let v18 : BitVec 1 := Scalar.andi v16 v17
  let v19 : BitVec 32 := Scalar.extui v18
  let c0_i32_9 : BitVec 32 := 0#32
  let v20 : BitVec 1 := Scalar.cmpi .ne v19 c0_i32_9
  v20

def k0_off3 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v46 : Index := Scalar.indexCast v10
  let c0 : Index := 0#32
  let c0_22 : Index := 0#32
  ![v46.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v83 : Index := Scalar.indexCast v9
  let c0_41 : Index := 0#32
  let c0_42 : Index := 0#32
  ![v83.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v95 : Index := Scalar.indexCast v9
  let c0_47 : Index := 0#32
  let c0_48 : Index := 0#32
  ![v95.toNat, 0, 0]
def k0_cond3 (i : grid0.Coords) : BitVec 1 :=
  let arg1 : BitVec 32 := BitVec.ofNat 32 (i 1).val
  let c1_i32_10 : BitVec 32 := 1#32
  let v21 : BitVec 1 := Scalar.cmpi .eq arg1 c1_i32_10
  let arg0 : BitVec 32 := BitVec.ofNat 32 (i 0).val
  let c0_i32_11 : BitVec 32 := 0#32
  let v22 : BitVec 1 := Scalar.cmpi .sgt arg0 c0_i32_11
  let v23 : BitVec 1 := Scalar.andi v21 v22
  let v24 : BitVec 32 := Scalar.extui v23
  let c0_i32_12 : BitVec 32 := 0#32
  let v25 : BitVec 1 := Scalar.cmpi .ne v24 c0_i32_12
  v25

def k0_off6 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v46 : Index := Scalar.indexCast v10
  let c0 : Index := 0#32
  let c0_22 : Index := 0#32
  ![v46.toNat, 0, 0]
def k0_cond4 (i : grid0.Coords) : BitVec 1 :=
  let arg1 : BitVec 32 := BitVec.ofNat 32 (i 1).val
  let c2_i32_13 : BitVec 32 := 2#32
  let v26 : BitVec 1 := Scalar.cmpi .eq arg1 c2_i32_13
  let arg0 : BitVec 32 := BitVec.ofNat 32 (i 0).val
  let c0_i32_14 : BitVec 32 := 0#32
  let v27 : BitVec 1 := Scalar.cmpi .sgt arg0 c0_i32_14
  let v28 : BitVec 1 := Scalar.andi v26 v27
  let v29 : BitVec 32 := Scalar.extui v28
  let c0_i32_15 : BitVec 32 := 0#32
  let v30 : BitVec 1 := Scalar.cmpi .ne v29 c0_i32_15
  v30

def k0_off7 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v46 : Index := Scalar.indexCast v10
  let c0 : Index := 0#32
  let c0_22 : Index := 0#32
  ![v46.toNat, 0, 0]
def k0_cond5 (i : grid0.Coords) : BitVec 1 :=
  let arg1 : BitVec 32 := BitVec.ofNat 32 (i 1).val
  let c3_i32 : BitVec 32 := 3#32
  let v31 : BitVec 1 := Scalar.cmpi .eq arg1 c3_i32
  let arg0 : BitVec 32 := BitVec.ofNat 32 (i 0).val
  let c0_i32_16 : BitVec 32 := 0#32
  let v32 : BitVec 1 := Scalar.cmpi .sgt arg0 c0_i32_16
  let v33 : BitVec 1 := Scalar.andi v31 v32
  let v34 : BitVec 32 := Scalar.extui v33
  let c0_i32_17 : BitVec 32 := 0#32
  let v35 : BitVec 1 := Scalar.cmpi .ne v34 c0_i32_17
  v35

def k0_off8 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v46 : Index := Scalar.indexCast v10
  let c0 : Index := 0#32
  let c0_22 : Index := 0#32
  ![v46.toNat, 0, 0]
def k0_off9 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v55 : Index := Scalar.indexCast v10
  let c0_27 : Index := 0#32
  let c0_28 : Index := 0#32
  ![v55.toNat, 0, 0]
def k0_cond6 (i : grid0.Coords) : BitVec 1 :=
  let arg1 : BitVec 32 := BitVec.ofNat 32 (i 1).val
  let c4_i32 : BitVec 32 := 4#32
  let v36 : BitVec 1 := Scalar.cmpi .eq arg1 c4_i32
  let arg0 : BitVec 32 := BitVec.ofNat 32 (i 0).val
  let c0_i32_18 : BitVec 32 := 0#32
  let v37 : BitVec 1 := Scalar.cmpi .sgt arg0 c0_i32_18
  let v38 : BitVec 1 := Scalar.andi v36 v37
  let v39 : BitVec 32 := Scalar.extui v38
  let c0_i32_19 : BitVec 32 := 0#32
  let v40 : BitVec 1 := Scalar.cmpi .ne v39 c0_i32_19
  v40

def k0_off10 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v46 : Index := Scalar.indexCast v10
  let c0 : Index := 0#32
  let c0_22 : Index := 0#32
  ![v46.toNat, 0, 0]
def k0_off11 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v55 : Index := Scalar.indexCast v10
  let c0_27 : Index := 0#32
  let c0_28 : Index := 0#32
  ![v55.toNat, 0, 0]
def k0_cond7 (i : grid0.Coords) : BitVec 1 :=
  let arg1 : BitVec 32 := BitVec.ofNat 32 (i 1).val
  let c5_i32 : BitVec 32 := 5#32
  let v41 : BitVec 1 := Scalar.cmpi .eq arg1 c5_i32
  let arg0 : BitVec 32 := BitVec.ofNat 32 (i 0).val
  let c0_i32_20 : BitVec 32 := 0#32
  let v42 : BitVec 1 := Scalar.cmpi .sgt arg0 c0_i32_20
  let v43 : BitVec 1 := Scalar.andi v41 v42
  let v44 : BitVec 32 := Scalar.extui v43
  let c0_i32_21 : BitVec 32 := 0#32
  let v45 : BitVec 1 := Scalar.cmpi .ne v44 c0_i32_21
  v45

def k0_off12 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v46 : Index := Scalar.indexCast v10
  let c0 : Index := 0#32
  let c0_22 : Index := 0#32
  ![v46.toNat, 0, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16384x2048 : Shape := ⟨2, ![16384, 2048]⟩
abbrev S4x1x2048 : Shape := ⟨3, ![4, 1, 2048]⟩
abbrev S16384x1 : Shape := ⟨2, ![16384, 1]⟩
abbrev S2048x6144 : Shape := ⟨2, ![2048, 6144]⟩
abbrev S4x4096x2048 : Shape := ⟨3, ![4, 4096, 2048]⟩
abbrev S4x4096 : Shape := ⟨2, ![4, 4096]⟩
abbrev S_ : Shape := ⟨0, ![]⟩
abbrev S4x4096x1 : Shape := ⟨3, ![4, 4096, 1]⟩
abbrev S4x4096x6144 : Shape := ⟨3, ![4, 4096, 6144]⟩
abbrev S4x4096x1024 : Shape := ⟨3, ![4, 4096, 1024]⟩
abbrev S4x4096x8x128 : Shape := ⟨4, ![4, 4096, 8, 128]⟩
abbrev S64 : Shape := ⟨1, ![64]⟩
abbrev S1x1x64 : Shape := ⟨3, ![1, 1, 64]⟩
abbrev S4x4096x64 : Shape := ⟨3, ![4, 4096, 64]⟩
abbrev S4x4096x1x64 : Shape := ⟨4, ![4, 4096, 1, 64]⟩
abbrev S4x4096x8x64 : Shape := ⟨4, ![4, 4096, 8, 64]⟩
abbrev S16384x1024 : Shape := ⟨2, ![16384, 1024]⟩

abbrev nBuf : Space → Nat
  | .hbm => 137
  | .vmem => 0
  | .smem => 0
  | _ => 0

abbrev hbmTy0_0 (i : Nat) : BufTy := match i % 128 with
  | 0 => ⟨S16384x2048, .f32⟩
  | 1 => ⟨S4x1x2048, .f32⟩
  | 2 => ⟨S4x1x2048, .f32⟩
  | 3 => ⟨S16384x1, .i32⟩
  | 4 => ⟨S2048x6144, .f32⟩
  | 5 => ⟨S4x4096x2048, .f32⟩
  | 6 => ⟨S4x4096, .i32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S4x4096x2048, .f32⟩
  | 14 => ⟨S4x4096x2048, .f32⟩
  | 15 => ⟨S4x4096x2048, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S4x4096x2048, .f32⟩
  | 23 => ⟨S4x4096x2048, .f32⟩
  | 24 => ⟨S_, .f32⟩
  | 25 => ⟨S4x4096x1, .f32⟩
  | 26 => ⟨S4x4096x1, .f32⟩
  | 27 => ⟨S4x4096x1, .f32⟩
  | 28 => ⟨S4x4096x2048, .f32⟩
  | 29 => ⟨S4x4096x2048, .f32⟩
  | 30 => ⟨S_, .f32⟩
  | 31 => ⟨S4x1x2048, .f32⟩
  | 32 => ⟨S4x1x2048, .f32⟩
  | 33 => ⟨S4x4096x2048, .f32⟩
  | 34 => ⟨S4x4096x2048, .f32⟩
  | 35 => ⟨S4x4096x2048, .f32⟩
  | 36 => ⟨S4x4096x2048, .f32⟩
  | 37 => ⟨S4x4096x6144, .f32⟩
  | 38 => ⟨S4x4096x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S4x4096x1024, .f32⟩
  | 53 => ⟨S4x4096x8x128, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S64, .f32⟩
  | 62 => ⟨S4x4096, .f32⟩
  | 63 => ⟨S4x4096x1, .f32⟩
  | 64 => ⟨S1x1x64, .f32⟩
  | 65 => ⟨S4x4096x64, .f32⟩
  | 66 => ⟨S4x4096x64, .f32⟩
  | 67 => ⟨S4x4096x64, .f32⟩
  | 68 => ⟨S4x4096x64, .f32⟩
  | 69 => ⟨S4x4096x1x64, .f32⟩
  | 70 => ⟨S4x4096x64, .f32⟩
  | 71 => ⟨S4x4096x1x64, .f32⟩
  | 72 => ⟨S4x4096x8x64, .f32⟩
  | 73 => ⟨S4x4096x8x64, .f32⟩
  | 74 => ⟨S4x4096x8x64, .f32⟩
  | 75 => ⟨S4x4096x8x64, .f32⟩
  | 76 => ⟨S4x4096x8x64, .f32⟩
  | 77 => ⟨S4x4096x8x64, .f32⟩
  | 78 => ⟨S4x4096x8x64, .f32⟩
  | 79 => ⟨S4x4096x8x64, .f32⟩
  | 80 => ⟨S4x4096x8x64, .f32⟩
  | 81 => ⟨S4x4096x8x64, .f32⟩
  | 82 => ⟨S4x4096x8x64, .f32⟩
  | 83 => ⟨S4x4096x8x64, .f32⟩
  | 84 => ⟨S4x4096x8x128, .f32⟩
  | 85 => ⟨S4x4096x8x128, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S64, .f32⟩
  | 94 => ⟨S4x4096, .f32⟩
  | 95 => ⟨S4x4096x1, .f32⟩
  | 96 => ⟨S1x1x64, .f32⟩
  | 97 => ⟨S4x4096x64, .f32⟩
  | 98 => ⟨S4x4096x64, .f32⟩
  | 99 => ⟨S4x4096x64, .f32⟩
  | 100 => ⟨S4x4096x64, .f32⟩
  | 101 => ⟨S4x4096x1x64, .f32⟩
  | 102 => ⟨S4x4096x64, .f32⟩
  | 103 => ⟨S4x4096x1x64, .f32⟩
  | 104 => ⟨S4x4096x8x64, .f32⟩
  | 105 => ⟨S4x4096x8x64, .f32⟩
  | 106 => ⟨S4x4096x8x64, .f32⟩
  | 107 => ⟨S4x4096x8x64, .f32⟩
  | 108 => ⟨S4x4096x8x64, .f32⟩
  | 109 => ⟨S4x4096x8x64, .f32⟩
  | 110 => ⟨S4x4096x8x64, .f32⟩
  | 111 => ⟨S4x4096x8x64, .f32⟩
  | 112 => ⟨S4x4096x8x64, .f32⟩
  | 113 => ⟨S4x4096x8x64, .f32⟩
  | 114 => ⟨S4x4096x8x64, .f32⟩
  | 115 => ⟨S4x4096x8x64, .f32⟩
  | 116 => ⟨S4x4096x8x128, .f32⟩
  | 117 => ⟨S_, .f32⟩
  | 118 => ⟨S4x4096x8x128, .f32⟩
  | 119 => ⟨S4x4096x8x128, .f32⟩
  | 120 => ⟨S16384x1024, .f32⟩
  | 121 => ⟨S16384x1024, .f32⟩
  | 122 => ⟨S16384x1024, .bf16⟩
  | 123 => ⟨S16384x1024, .f32⟩
  | 124 => ⟨S16384x1024, .bf16⟩
  | 125 => ⟨S16384x1024, .f32⟩
  | 126 => ⟨S16384x1024, .bf16⟩
  | 127 => ⟨S4x4096x1024, .f32⟩
  | _ => ⟨S16384x2048, .f32⟩

abbrev hbmTy0_1 (i : Nat) : BufTy := match i % 128 with
  | 0 => ⟨S4x4096x1024, .f32⟩
  | 1 => ⟨S_, .f32⟩
  | 2 => ⟨S4x4096x1024, .f32⟩
  | 3 => ⟨S4x4096x1024, .f32⟩
  | 4 => ⟨S_, .f32⟩
  | 5 => ⟨S4x4096x1024, .f32⟩
  | 6 => ⟨S4x4096x1024, .f32⟩
  | 7 => ⟨S4x4096x1024, .f32⟩
  | 8 => ⟨S16384x1024, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_11 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_call0_v0 : Ref sig .tc := ⟨.hbm, 127, rfl⟩
abbrev main_call0_v1 : Ref sig .tc := ⟨.hbm, 128, rfl⟩
abbrev main_call0_cst : Ref sig .tc := ⟨.hbm, 129, rfl⟩
abbrev main_call0_v2 : Ref sig .tc := ⟨.hbm, 130, rfl⟩
abbrev main_call0_v3 : Ref sig .tc := ⟨.hbm, 131, rfl⟩
abbrev main_call0_cst_0 : Ref sig .tc := ⟨.hbm, 132, rfl⟩
abbrev main_call0_v4 : Ref sig .tc := ⟨.hbm, 133, rfl⟩
abbrev main_call0_v5 : Ref sig .tc := ⟨.hbm, 134, rfl⟩
abbrev main_v109 : Ref sig .tc := ⟨.hbm, 135, rfl⟩
abbrev main_v110 : Ref sig .tc := ⟨.hbm, 136, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S2048x2048 : Shape := ⟨2, ![2048, 2048]⟩
abbrev S4x1x2048 : Shape := ⟨3, ![4, 1, 2048]⟩
abbrev S1x2048 : Shape := ⟨2, ![1, 2048]⟩
abbrev S2048x128 : Shape := ⟨2, ![2048, 128]⟩
abbrev S1x128 : Shape := ⟨2, ![1, 128]⟩
abbrev S262144x128 : Shape := ⟨2, ![262144, 128]⟩
abbrev S16384x128 : Shape := ⟨2, ![16384, 128]⟩
abbrev S256x1024 : Shape := ⟨2, ![256, 1024]⟩
abbrev S256x2048 : Shape := ⟨2, ![256, 2048]⟩
abbrev S1x1x2048 : Shape := ⟨3, ![1, 1, 2048]⟩
abbrev S4096x128 : Shape := ⟨2, ![4096, 128]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S4x1x2048, .f32⟩
  | .hbm, ⟨5, _⟩ => ⟨S1x2048, .f32⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S2048x128, .f32⟩
  | .hbm, ⟨10, _⟩ => ⟨S1x128, .f32⟩
  | .hbm, ⟨11, _⟩ => ⟨S2048x2048, .bf16⟩
  | .hbm, ⟨12, _⟩ => ⟨S16384x2048, .f32⟩
  | .hbm, ⟨13, _⟩ => ⟨S262144x128, .f32⟩
  | .hbm, ⟨14, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S2048x128, .f32⟩
  | .local _ .vmem, ⟨16, _⟩ => ⟨S1x128, .f32⟩
  | .local _ .vmem, ⟨17, _⟩ => ⟨S256x2048, .f32⟩
  | .local _ .vmem, ⟨18, _⟩ => ⟨S256x2048, .f32⟩
  | .local _ .vmem, ⟨19, _⟩ => ⟨S4096x128, .f32⟩
  | .local _ .vmem, ⟨20, _⟩ => ⟨S4096x128, .f32⟩
  | .local _ .vmem, ⟨21, _⟩ => ⟨S256x128, .f32⟩
  | .local _ .vmem, ⟨22, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S16384x2048 : Shape := ⟨2, ![16384, 2048]⟩
abbrev S2048x2048 : Shape := ⟨2, ![2048, 2048]⟩
abbrev S4x1x2048 : Shape := ⟨3, ![4, 1, 2048]⟩
abbrev S1x2048 : Shape := ⟨2, ![1, 2048]⟩
abbrev S2048x128 : Shape := ⟨2, ![2048, 128]⟩
abbrev S1x128 : Shape := ⟨2, ![1, 128]⟩
abbrev S4x4096x1024 : Shape := ⟨3, ![4, 4096, 1024]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S262144x128 : Shape := ⟨2, ![262144, 128]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S4x1x2048, .f32⟩
  | .hbm, ⟨5, _⟩ => ⟨S1x2048, .f32⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S2048x128, .f32⟩
  | .hbm, ⟨10, _⟩ => ⟨S1x128, .f32⟩
  | .hbm, ⟨11, _⟩ => ⟨S16384x1024, .f32⟩
  | .hbm, ⟨12, _⟩ => ⟨S4x4096x1024, .f32⟩
  | .hbm, ⟨13, _⟩ => ⟨S16384x1024, .f32⟩
  | .hbm, ⟨14, _⟩ => ⟨S4x4096x1024, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x2048, .f32⟩
  | .hbm, ⟨49, _⟩ => ⟨S4x4096x2048, .f32⟩
  | .hbm, ⟨50, _⟩ => ⟨S2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x2048, .f32⟩
  | .hbm, ⟨74, _⟩ => ⟨S4x4096x2048, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x2048, .f32⟩
  | .hbm, ⟨80, _⟩ => ⟨S4x4096x2048, .f32⟩
  | .hbm, ⟨81, _⟩ => ⟨S_, .f32⟩
  | .hbm, ⟨82, _⟩ => ⟨S4x1x2048, .f32⟩
  | .hbm, ⟨83, _⟩ => ⟨S4x1x2048, .f32⟩
  | .hbm, ⟨84, _⟩ => ⟨S4x4096x2048, .f32⟩
  | .hbm, ⟨85, _⟩ => ⟨S4x4096x2048, .f32⟩
  | .hbm, ⟨86, _⟩ => ⟨S4x4096x2048, .f32⟩
  | .hbm, ⟨87, _⟩ => ⟨S4x4096x2048, .f32⟩
  | .hbm, ⟨88, _⟩ => ⟨S16384x2048, .f32⟩
  | .hbm, ⟨89, _⟩ => ⟨S262144x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel4.lean ====
abbrev S8x2048 : Shape := ⟨2, ![8, 2048]⟩
abbrev S2048x12288 : Shape := ⟨2, ![2048, 12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S1x12288, .f32⟩
  | .hbm, ⟨3, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2048x12288 : Shape := ⟨2, ![2048, 12288]⟩
abbrev S1x12288 : Shape := ⟨2, ![1, 12288]⟩
abbrev S_ : Shape := ⟨0, ![]⟩
abbrev S8x12288 : Shape := ⟨2, ![8, 12288]⟩
abbrev S12288 : Shape := ⟨1, ![12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S12288, .f32⟩
  | .hbm, ⟨14, _⟩ => ⟨S1x12288, .f32⟩
  | .hbm, ⟨15, _⟩ => ⟨S8x12288, .f32⟩
  | .hbm, ⟨16, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S4x4096x1024 : Shape := ⟨3, ![4, 4096, 1024]⟩
abbrev S31x1024 : Shape := ⟨2, ![31, 1024]⟩
abbrev S1x1024 : Shape := ⟨2, ![1, 1024]⟩
abbrev S1x512x1024 : Shape := ⟨3, ![1, 512, 1024]⟩
abbrev S1x32x1024 : Shape := ⟨3, ![1, 32, 1024]⟩
abbrev S544x1024 : Shape := ⟨2, ![544, 1024]⟩
abbrev S512x1024 : Shape := ⟨2, ![512, 1024]⟩
abbrev S32x1024 : Shape := ⟨2, ![32, 1024]⟩
abbrev S1x128 : Shape := ⟨2, ![1, 128]⟩
abbrev S128x128 : Shape := ⟨2, ![128, 128]⟩
abbrev S136x128 : Shape := ⟨2, ![136, 128]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S544x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_8 : BitVec 32 := 0#32
  let c4_i32 : BitVec 32 := 4#32
  let v13 : BitVec 32 := Scalar.addi c0_i32_8 c4_i32
  let c1_i32 : BitVec 32 := 1#32
  ⟨c0_i32_8, v13, c1_i32⟩
def k0_mult1 (k0_t1 : Fin k0_t1_loop.trips) : BitVec 32 :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  v46
def k0_off1 (k0_t1 : Fin k0_t1_loop.trips) (c8_i32 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v49 : BitVec 32 := Scalar.addi v47 c8_i32
  let v50 : Index := Scalar.indexCast v49
  let c0_27 : Index := 0#32
  ![v50.toNat, 0]
def k0_off2 (k0_t1 : Fin k0_t1_loop.trips) (c8_i32_35 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v76 : BitVec 32 := Scalar.addi v47 c8_i32_35
  let v77 : Index := Scalar.indexCast v76
  let c0_36 : Index := 0#32
  ![v77.toNat, 0]
def k0_off3 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v271 : Index := Scalar.indexCast v47
  let c0_116 : Index := 0#32
  ![v271.toNat, 0]
def k0_off4 (k0_t1 : Fin k0_t1_loop.trips) (c8_i32_118 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v276 : BitVec 32 := Scalar.addi v47 c8_i32_118
  let v277 : Index := Scalar.indexCast v276
  let c128_119 : Index := 128#32
  ![v277.toNat, 128]
def k0_off5 (k0_t1 : Fin k0_t1_loop.trips) (c8_i32_134 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v303 : BitVec 32 := Scalar.addi v47 c8_i32_134
  let v304 : Index := Scalar.indexCast v303
  let c128_135 : Index := 128#32
  ![v304.toNat, 128]
def k0_off6 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v498 : Index := Scalar.indexCast v47
  let c128_240 : Index := 128#32
  ![v498.toNat, 128]
def k0_off7 (k0_t1 : Fin k0_t1_loop.trips) (c8_i32_242 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v503 : BitVec 32 := Scalar.addi v47 c8_i32_242
  let v504 : Index := Scalar.indexCast v503
  let c256_243 : Index := 256#32
  ![v504.toNat, 256]
def k0_off8 (k0_t1 : Fin k0_t1_loop.trips) (c8_i32_258 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v530 : BitVec 32 := Scalar.addi v47 c8_i32_258
  let v531 : Index := Scalar.indexCast v530
  let c256_259 : Index := 256#32
  ![v531.toNat, 256]
def k0_off9 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v725 : Index := Scalar.indexCast v47
  let c256_364 : Index := 256#32
  ![v725.toNat, 256]
def k0_off10 (k0_t1 : Fin k0_t1_loop.trips) (c8_i32_366 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v730 : BitVec 32 := Scalar.addi v47 c8_i32_366
  let v731 : Index := Scalar.indexCast v730
  let c384_367 : Index := 384#32
  ![v731.toNat, 384]
def k0_off11 (k0_t1 : Fin k0_t1_loop.trips) (c8_i32_382 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v757 : BitVec 32 := Scalar.addi v47 c8_i32_382
  let v758 : Index := Scalar.indexCast v757
  let c384_383 : Index := 384#32
  ![v758.toNat, 384]
def k0_off12 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v952 : Index := Scalar.indexCast v47
  let c384_488 : Index := 384#32
  ![v952.toNat, 384]
def k0_off13 (k0_t1 : Fin k0_t1_loop.trips) (c8_i32_490 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v957 : BitVec 32 := Scalar.addi v47 c8_i32_490
  let v958 : Index := Scalar.indexCast v957
  let c512_491 : Index := 512#32
  ![v958.toNat, 512]
def k0_off14 (k0_t1 : Fin k0_t1_loop.trips) (c8_i32_506 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v984 : BitVec 32 := Scalar.addi v47 c8_i32_506
  let v985 : Index := Scalar.indexCast v984
  let c512_507 : Index := 512#32
  ![v985.toNat, 512]
def k0_off15 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1179 : Index := Scalar.indexCast v47
  let c512_612 : Index := 512#32
  ![v1179.toNat, 512]
def k0_off16 (k0_t1 : Fin k0_t1_loop.trips) (c8_i32_614 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1184 : BitVec 32 := Scalar.addi v47 c8_i32_614
  let v1185 : Index := Scalar.indexCast v1184
  let c640_615 : Index := 640#32
  ![v1185.toNat, 640]
def k0_off17 (k0_t1 : Fin k0_t1_loop.trips) (c8_i32_630 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1211 : BitVec 32 := Scalar.addi v47 c8_i32_630
  let v1212 : Index := Scalar.indexCast v1211
  let c640_631 : Index := 640#32
  ![v1212.toNat, 640]
def k0_off18 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1406 : Index := Scalar.indexCast v47
  let c640_736 : Index := 640#32
  ![v1406.toNat, 640]
def k0_off19 (k0_t1 : Fin k0_t1_loop.trips) (c8_i32_738 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1411 : BitVec 32 := Scalar.addi v47 c8_i32_738
  let v1412 : Index := Scalar.indexCast v1411
  let c768_739 : Index := 768#32
  ![v1412.toNat, 768]
def k0_off20 (k0_t1 : Fin k0_t1_loop.trips) (c8_i32_754 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1438 : BitVec 32 := Scalar.addi v47 c8_i32_754
  let v1439 : Index := Scalar.indexCast v1438
  let c768_755 : Index := 768#32
  ![v1439.toNat, 768]
def k0_off21 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1633 : Index := Scalar.indexCast v47
  let c768_860 : Index := 768#32
  ![v1633.toNat, 768]
def k0_off22 (k0_t1 : Fin k0_t1_loop.trips) (c8_i32_862 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1638 : BitVec 32 := Scalar.addi v47 c8_i32_862
  let v1639 : Index := Scalar.indexCast v1638
  let c896_863 : Index := 896#32
  ![v1639.toNat, 896]
def k0_off23 (k0_t1 : Fin k0_t1_loop.trips) (c8_i32_878 : BitVec 32) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1665 : BitVec 32 := Scalar.addi v47 c8_i32_878
  let v1666 : Index := Scalar.indexCast v1665
  let c896_879 : Index := 896#32
  ![v1666.toNat, 896]
def k0_off24 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c128_i32 : BitVec 32 := 128#32
  let v46 : BitVec 32 := Scalar.muli arg11 c128_i32
  let v47 : BitVec 32 := v46
  let v1860 : Index := Scalar.indexCast v47
  let c896_984 : Index := 896#32
  ![v1860.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x4096x1024 : Shape := ⟨3, ![4, 4096, 1024]⟩
abbrev S31x1024 : Shape := ⟨2, ![31, 1024]⟩
abbrev S1x1024 : Shape := ⟨2, ![1, 1024]⟩
abbrev S_ : Shape := ⟨0, ![]⟩
abbrev S4x4126x1024 : Shape := ⟨3, ![4, 4126, 1024]⟩
abbrev S1024 : Shape := ⟨1, ![1024]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 272
  | .vmem => 0
  | .smem => 0
  | _ => 0

abbrev hbmTy0_0 (i : Nat) : BufTy := match i % 128 with
  | 0 => ⟨S4x4096x1024, .f32⟩
  | 1 => ⟨S31x1024, .f32⟩
  | 2 => ⟨S1x1024, .f32⟩
  | 3 => ⟨S1x1024, .f32⟩
  | 4 => ⟨S1x1024, .f32⟩
  | 5 => ⟨S_, .i32⟩
  | 6 => ⟨S_, .f32⟩
  | 7 => ⟨S4x4126x1024, .f32⟩
  | 8 => ⟨S4x4096x1024, .f32⟩
  | 9 => ⟨S1x1024, .f32⟩
  | 10 => ⟨S1024, .f32⟩
  | 11 => ⟨S1x1x1024, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S4x4096x1024, .f32⟩
  | 18 => ⟨S1x1024, .f32⟩
  | 19 => ⟨S1024, .f32⟩
  | 20 => ⟨S1x1x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S1x1024, .f32⟩
  | 33 => ⟨S1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1024, .f32⟩
  | 61 => ⟨S1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S1x1024, .f32⟩
  | 117 => ⟨S1024, .f32⟩
  | 118 => ⟨S1x1x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S1x1024, .f32⟩
  | 124 => ⟨S1024, .f32⟩
  | 125 => ⟨S1x1x1024, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S1x1024, .f32⟩
  | 3 => ⟨S1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S1x1024, .f32⟩
  | 10 => ⟨S1024, .f32⟩
  | 11 => ⟨S1x1x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S1x1024, .f32⟩
  | 17 => ⟨S1024, .f32⟩
  | 18 => ⟨S1x1x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S1x1024, .f32⟩
  | 24 => ⟨S1024, .f32⟩
  | 25 => ⟨S1x1x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S1x1024, .f32⟩
  | 31 => ⟨S1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S1x1024, .f32⟩
  | 45 => ⟨S1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S1x1024, .f32⟩
  | 52 => ⟨S1024, .f32⟩
  | 53 => ⟨S1x1x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S1x1024, .f32⟩
  | 59 => ⟨S1024, .f32⟩
  | 60 => ⟨S1x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1024, .f32⟩
  | 73 => ⟨S1024, .f32⟩
  | 74 => ⟨S1x1x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S1x1024, .f32⟩
  | 87 => ⟨S1024, .f32⟩
  | 88 => ⟨S1x1x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S1024, .f32⟩
  | 100 => ⟨S1x1x1024, .f32⟩
  | 101 => ⟨S4x4096x1024, .f32⟩
  | 102 => ⟨S4x4096x1024, .f32⟩
  | 103 => ⟨S_, .f32⟩
  | 104 => ⟨S4x4096, .f32⟩
  | 105 => ⟨S4x4096x1, .f32⟩
  | 106 => ⟨S_, .f32⟩
  | 107 => ⟨S4x4096x1, .f32⟩
  | 108 => ⟨S4x4096x1, .f32⟩
  | 109 => ⟨S4x4096x1024, .f32⟩
  | 110 => ⟨S4x4096x1024, .f32⟩
  | 111 => ⟨S4x4096x1024, .f32⟩
  | 112 => ⟨S_, .f32⟩
  | 113 => ⟨S4x4096, .f32⟩
  | 114 => ⟨S4x4096x1, .f32⟩
  | 115 => ⟨S_, .f32⟩
  | 116 => ⟨S4x4096x1, .f32⟩
  | 117 => ⟨S4x4096x1, .f32⟩
  | 118 => ⟨S4x4096x1024, .f32⟩
  | 119 => ⟨S4x4096x1024, .f32⟩
  | 120 => ⟨S_, .f32⟩
  | 121 => ⟨S4x4096x1, .f32⟩
  | 122 => ⟨S4x4096x1, .f32⟩
  | 123 => ⟨S4x4096x1, .f32⟩
  | 124 => ⟨S4x4096x1024, .f32⟩
  | 125 => ⟨S4x4096x1024, .f32⟩
  | 126 => ⟨S1024, .f32⟩
  | 127 => ⟨S1x1x1024, .f32⟩
  | _ => ⟨S4x4096x1024, .f32⟩

abbrev hbmTy0_2 (i : Nat) : BufTy := match i % 128 with
  | 0 => ⟨S4x4096x1024, .f32⟩
  | 1 => ⟨S4x4096x1024, .f32⟩
  | 2 => ⟨S1024, .f32⟩
  | 3 => ⟨S1x1x1024, .f32⟩
  | 4 => ⟨S4x4096x1024, .f32⟩
  | 5 => ⟨S4x4096x1024, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S_, .f32⟩
  | 12 => ⟨S4x4096x1024, .f32⟩
  | 13 => ⟨S4x4096x1024, .f32⟩
  | 14 => ⟨S4x4096x1024, .f32⟩
  | 15 => ⟨S4x4096x1024, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_cst_0 : Ref sig .tc := ⟨.hbm, 231, rfl⟩
abbrev main_v223 : Ref sig .tc := ⟨.hbm, 232, rfl⟩
abbrev main_v224 : Ref sig .tc := ⟨.hbm, 233, rfl⟩
abbrev main_cst_1 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_cst_2 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_cst_4 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_call1_v0 : Ref sig .tc := ⟨.hbm, 262, rfl⟩
abbrev main_call1_v1 : Ref sig .tc := ⟨.hbm, 263, rfl⟩
abbrev main_call1_cst : Ref sig .tc := ⟨.hbm, 264, rfl⟩
abbrev main_call1_v2 : Ref sig .tc := ⟨.hbm, 265, rfl⟩
abbrev main_call1_v3 : Ref sig .tc := ⟨.hbm, 266, rfl⟩
abbrev main_call1_cst_0 : Ref sig .tc := ⟨.hbm, 267, rfl⟩
abbrev main_call1_v4 : Ref sig .tc := ⟨.hbm, 268, rfl⟩
abbrev main_call1_v5 : Ref sig .tc := ⟨.hbm, 269, rfl⟩
abbrev main_v249 : Ref sig .tc := ⟨.hbm, 270, rfl⟩
abbrev main_v250 : Ref sig .tc := ⟨.hbm, 271, rfl⟩

abbrev nD : Nat := 1
abbrev τ : Topo := Topo.v7x

variable {F : FTy → Type} [FloatOps F]
-- ==== Proof.Spec.lean ====
module
public import Idealize.ShloMosaic.Lib.Pointwise

@[expose] public section
noncomputable section
namespace Cert.Ret
open Idealize.ShloMosaic

/-- A head's 128 × 128 table: a chunk's rows by a head's columns, or a state. -/
abbrev Mat := Fin 128 → Fin 128 → EReal

/-- The number 128 that the means divide by. -/
def c128 : EReal := Ideal.ofBits .f32 0x43000000#32
/-- The small number a variance is raised by. -/
def eps : EReal := Ideal.ofBits .f32 0x3727C5AC#32

/-- A row's mean. -/
def mean (f : Fin 128 → EReal) : EReal := Ideal.div (∑ e, f e) c128

/-- A row normalised to mean 0 and variance 1, at one place. -/
def lnRow (f : Fin 128 → EReal) (e : Fin 128) : EReal :=
  (f e - mean f) * Ideal.rsqrt (mean (fun y => (f y - mean f) * (f y - mean f)) + eps)

/-- The state after a chunk, from the state before it. -/
def stepM (k v z : Mat) (cd : EReal) (S : Mat) : Mat :=
  fun d e => S d e * cd + ∑ j, k j d * z j d * v j e

/-- A chunk's rows before the normalisation: the chunk's own tokens, then the state before the chunk. -/
def rowM (q k v dec xi S : Mat) : Mat := fun i e =>
  (∑ j, (∑ d, q i d * k j d) * dec i j * v j e) + ∑ d, q i d * xi i d * S d e

/-- Rows of chunk `c` and columns of head `h` of an array, `o` chunks down. -/
def blk {R : Nat} (x : (⟨2, ![R, 1024]⟩ : Shape).Idx → EReal) (o : Nat) (ho : 128 * o + 128 ≤ R) (h : Fin 8) : Mat :=
  fun j d => x (ix2 ⟨128 * o + j.val, by omega⟩ ⟨128 * h.val + d.val, by omega⟩)

/-- Head `h` of a table of eight. -/
def tab (x : (⟨3, ![8, 128, 128]⟩ : Shape).Idx → EReal) (h : Fin 8) : Mat := fun i d => x (ix3 h i d)

/-- A column's head, and the place of a row in its chunk or of a column in its head. -/
def hd (d : Fin 1024) : Fin 8 := ⟨d.val / 128, by omega⟩
def lo {n : Nat} (r : Fin n) : Fin 128 := ⟨r.val % 128, by omega⟩

/-- A token's or a head's number as a float. -/
def num (n : Nat) : EReal := FloatOps.sitofp (F := Ideal) .f32 (BitVec.ofNat 32 n)

/-- The logarithm of head `h`'s decay rate, `log(1 - 2^(-5-h))`, with the power of 2 by its exponential. -/
def lgam (h : Fin 8) : EReal :=
  Ideal.log1p (-Ideal.exp (Ideal.ofBits .f32 0x3F317218#32 * (Ideal.ofBits .f32 0xC0A00000#32 - num h.val)))

/-- Head `h`'s decay from token `j` to token `i` of a chunk: 0 where `j` is later. -/
def decT (h : Fin 8) : Mat := fun i j =>
  if 0 ≤ num i.val - num j.val then
    Ideal.exp ((if 0 ≤ num i.val - num j.val then num i.val - num j.val else Ideal.ofBits .f32 0#32) * lgam h)
  else Ideal.ofBits .f32 0#32

/-- Head `h`'s decay from before a chunk to its token `i`. -/
def xiT (h : Fin 8) (i : Fin 128) : EReal := Ideal.exp ((num i.val + 1) * lgam h)

/-- Head `h`'s decay from token `j` to the chunk's last. -/
def zetaT (h : Fin 8) (j : Fin 128) : EReal := Ideal.exp ((Ideal.ofBits .f32 0x42FE0000#32 - num j.val) * lgam h)

/-- Head `h`'s decay over a whole chunk. -/
def cdT (h : Fin 8) : EReal := Ideal.exp (c128 * lgam h)

/-- An array of the layer: 4 sequences of 4096 tokens, 8 heads of 128. -/
abbrev Arr := (⟨2, ![16384, 1024]⟩ : Shape).Idx → EReal

/-- Rows of chunk `g` (of 128 over all four sequences) and columns of head `h`. -/
def blkN (x : Arr) (g : Nat) (h : Fin 8) : Mat :=
  fun j d => x (ix2 ⟨(128 * g + j.val) % 16384, by omega⟩ ⟨128 * h.val + d.val, by omega⟩)

/-- Sequence `b`'s state of head `h` after its first `n` chunks. -/
def St (k v : Arr) (b : Nat) (h : Fin 8) : Nat → Mat
  | 0 => fun _ _ => 0
  | n + 1 => stepM (blkN k (32 * b + n) h) (blkN v (32 * b + n) h) (fun j _ => zetaT h j) (cdT h) (St k v b h n)

/-- What the layer's retention gives in sequence `b`, chunk `n`, head `h`, at row `i` and column `e`. -/
def outM (q k v gs : Arr) (b n : Nat) (h : Fin 8) (i e : Fin 128) : EReal :=
  blkN gs (32 * b + n) h i e *
    lnRow (rowM (blkN q (32 * b + n) h) (blkN k (32 * b + n) h) (blkN v (32 * b + n) h)
      (decT h) (fun i _ => xiT h i) (St k v b h n) i) e

end Cert.Ret
-- ==== Proof.Units.lean ====
module
public import proofs.«01_k».proof.Proof.Gen.KernelIdeal.Value
public import proofs.«01_k».proof.Proof.Spec
public import Idealize.ShloMosaic.Lib.Pipeline.ReadBack

@[expose] public section
noncomputable section
namespace Cert.KernelIdeal.Ret
open Cert.KernelIdeal Cert.KernelIdeal.Gen Idealize.ShloMosaic Idealize.ShloMosaic.TcCoe Idealize.SL.Sem Cert.Ret

/-- One head's new state, from its old one: the old state decayed, plus the keys (decayed to the chunk's end) times
    the values, summed over the chunk's tokens. -/
def newS (k v : Vec Ideal S128x128 .bf16) (z : Vec Ideal S1x128x128 .f32) (cd : Vec Ideal S1x1x128 .f32)
    (S : Vec Ideal S1x128x128 .f32) : Vec Ideal S1x128x128 .f32 :=
  k0_pay7 (k0_pay3 S) (k0_pay5 k v z) (k0_pay6 cd)

/-- One head's rows of the result, from one chunk's queries, keys, values and gate and the state before the chunk. -/
def outC (q k v : Vec Ideal S128x128 .bf16) (gs : Vec Ideal S128x128 .f32) (dec xi S : Vec Ideal S1x128x128 .f32) :
    Vec Ideal S128x128 .bf16 :=
  k0_pay8 (k0_pay2 q k v dec) (k0_pay4 q S xi) gs

/-- The new state at an index. -/
theorem newS_apply (k v : Vec Ideal S128x128 .bf16) (z : Vec Ideal S1x128x128 .f32) (cd : Vec Ideal S1x1x128 .f32)
    (S : Vec Ideal S1x128x128 .f32) (x : S1x128x128.Idx) :
    newS k v z cd S x = S x * cd (ix3 0 0 (x 2)) + ∑ j : Fin 128, k (ix2 j (x 1)) * z (ix3 0 j (x 1)) * v (ix2 j (x 2)) := by
  unfold newS k0_pay7 k0_pay3 k0_pay5 k0_pay6
  pointwise [dot_S128x128_S128x128_S128x128_0_0_1_1_n_n]

/-- The within-chunk part at an index. -/
theorem pay2_apply (q k v : Vec Ideal S128x128 .bf16) (dec : Vec Ideal S1x128x128 .f32) (x : S128x128.Idx) :
    k0_pay2 q k v dec x = ∑ j : Fin 128, (∑ d : Fin 128, q (ix2 (x 0) d) * k (ix2 j d)) * dec (ix3 0 (x 0) j) * v (ix2 j (x 1)) := by
  unfold k0_pay2
  pointwise [dot_S128x128_S128x128_S128x128_1_0_0_1_n_n, dot_S128x128_S128x128_S128x128_1_1_0_0_n_n]

/-- The part read from the state before the chunk, at an index. -/
theorem pay4_apply (q : Vec Ideal S128x128 .bf16) (xi S : Vec Ideal S1x128x128 .f32) (x : S128x128.Idx) :
    k0_pay4 q S xi x = ∑ d : Fin 128, q (ix2 (x 0) d) * xi (ix3 0 (x 0) d) * S (ix3 0 d (x 1)) := by
  unfold k0_pay4 k0_pay3
  pointwise [dot_S128x128_S128x128_S128x128_1_0_0_1_n_n]

/-- The normalised and gated rows at an index. -/
theorem pay8_apply (a b gs : Vec Ideal S128x128 .f32) (x : S128x128.Idx) :
    k0_pay8 a b gs x = gs x * lnRow (fun e => a (ix2 (x 0) e) + b (ix2 (x 0) e)) (x 1) := by
  obtain ⟨i, e, rfl⟩ : ∃ i e, x = ix2 i e := ⟨x 0, x 1, by funext a; fin_cases a <;> rfl⟩
  unfold k0_pay8 lnRow mean c128 eps
  pointwise

/-- A chunk's result at an index. -/
theorem outC_apply (q k v : Vec Ideal S128x128 .bf16) (gs : Vec Ideal S128x128 .f32) (dec xi S : Vec Ideal S1x128x128 .f32)
    (x : S128x128.Idx) :
    outC q k v gs dec xi S x = gs x * lnRow (rowM (fun i d => q (ix2 i d)) (fun i d => k (ix2 i d)) (fun i d => v (ix2 i d))
      (fun i d => dec (ix3 0 i d)) (fun i d => xi (ix3 0 i d)) (fun i d => S (ix3 0 i d)) (x 0)) (x 1) := by
  unfold outC
  rw [pay8_apply]
  congr 2
  funext e
  rw [pay2_apply, pay4_apply]
  rfl

/-! ## What a point leaves, at an index of its blocks -/

/-- Row `r` of 256 lies in one of two chunks, column `d` of 1024 in one of eight heads. -/
def chk (r : Fin 256) : Fin 2 := ⟨r.val / 128, by omega⟩

/-- Either chunk lies within the 256 rows. -/
theorem two_le (c : Fin 2) : 128 * c.val + 128 ≤ 256 := by omega

/-- Chunk `c` of the two in a point's block. -/
def blk2 (x : S256x1024.Idx → EReal) (c : Fin 2) (h : Fin 8) : Mat := blk x c.val (two_le c) h

/-- The states (all heads) after chunk `c` of a point, from those before it. -/
def SG (c : Fin 2) (x1 x2 : Vec Ideal S256x1024 .bf16) (x6 : Vec Ideal S8x128x128 .f32) (x7 : Vec Ideal S8x1x128 .f32)
    (S : Vec Ideal S8x128x128 .f32) : Vec Ideal S8x128x128 .f32 := fun y =>
  stepM (blk2 x1 c (y 0)) (blk2 x2 c (y 0)) (tab x6 (y 0)) (x7 (ix3 (y 0) 0 (y 2))) (tab S (y 0)) (y 1) (y 2)

/-- The result rows of a point, from the states before its two chunks. -/
def OG (x0 x1 x2 : Vec Ideal S256x1024 .bf16) (x3 : Vec Ideal S256x1024 .f32) (x4 x5 : Vec Ideal S8x128x128 .f32)
    (S : Fin 2 → Vec Ideal S8x128x128 .f32) : Vec Ideal S256x1024 .bf16 := fun y =>
  x3 y * lnRow (rowM (blk2 x0 (chk (y 0)) (hd (y 1))) (blk2 x1 (chk (y 0)) (hd (y 1)))
    (blk2 x2 (chk (y 0)) (hd (y 1))) (tab x4 (hd (y 1))) (tab x5 (hd (y 1))) (tab (S (chk (y 0))) (hd (y 1)))
    (lo (y 0))) (lo (y 1))

/-- A chunk's and head's rows lie within the block. -/
theorem rowsIn (c : Fin 2) (h : Fin 8) : ∀ a : Fin S256x1024.rank, (![128 * c.val, 128 * h.val] : Fin 2 → Nat) a + S128x128.size a ≤ S256x1024.size a := by
  intro a; fin_cases a
  · show 128 * c.val + 128 ≤ 256; omega
  · show 128 * h.val + 128 ≤ 1024; omega
/-- A head's table lies within the tables. -/
theorem tabIn (h : Fin 8) : ∀ a : Fin S8x128x128.rank, (![h.val, 0, 0] : Fin 3 → Nat) a + S1x128x128.size a ≤ S8x128x128.size a := by
  intro a; fin_cases a
  · show h.val + 1 ≤ 8; omega
  · show 0 + 128 ≤ 128; omega
  · show 0 + 128 ≤ 128; omega
/-- A head's decay row lies within the decays. -/
theorem cdIn (h : Fin 8) : ∀ a : Fin S8x1x128.rank, (![h.val, 0, 0] : Fin 3 → Nat) a + S1x1x128.size a ≤ S8x1x128.size a := by
  intro a; fin_cases a
  · show h.val + 1 ≤ 8; omega
  · show 0 + 1 ≤ 1; omega
  · show 0 + 128 ≤ 128; omega

/-- Where a chunk's and head's rows lie, where a head's table lies, and a head's row of the decays. -/
def rR (c : Fin 2) (h : Fin 8) : Rect S256x1024 := Rect.unit ![128 * c.val, 128 * h.val] S128x128.size (rowsIn c h)
def rT (h : Fin 8) : Rect S8x128x128 := Rect.unit ![h.val, 0, 0] S1x128x128.size (tabIn h)
def rC (h : Fin 8) : Rect S8x1x128 := Rect.unit ![h.val, 0, 0] S1x1x128.size (cdIn h)

/-- A chunk's and head's rows, read at an index. -/
theorem ld_rR {α : Type} (X : S256x1024.Idx → α) (c : Fin 2) (h : Fin 8) (j d : Fin 128) :
    X ((rR c h).idx (ix2 j d)) = X (ix2 ⟨128 * c.val + j.val, by omega⟩ ⟨128 * h.val + d.val, by omega⟩) := by
  congr 1; funext a; fin_cases a
  · exact Fin.ext (by show 128 * c.val + 1 * j.val = 128 * c.val + j.val; omega)
  · exact Fin.ext (by show 128 * h.val + 1 * d.val = 128 * h.val + d.val; omega)
/-- A head's table, read at an index. -/
theorem ld_rT {α : Type} (X : S8x128x128.Idx → α) (h : Fin 8) (j d : Fin 128) :
    X ((rT h).idx (ix3 0 j d)) = X (ix3 h j d) := by
  congr 1; funext a; fin_cases a
  · exact Fin.ext (by show h.val + 1 * 0 = h.val; omega)
  · exact Fin.ext (by show 0 + 1 * j.val = j.val; omega)
  · exact Fin.ext (by show 0 + 1 * d.val = d.val; omega)
/-- A head's decay row, read at an index. -/
theorem ld_rC {α : Type} (X : S8x1x128.Idx → α) (h : Fin 8) (d : Fin 128) :
    X ((rC h).idx (ix3 0 0 d)) = X (ix3 h 0 d) := by
  congr 1; funext a; fin_cases a
  · exact Fin.ext (by show h.val + 1 * 0 = h.val; omega)
  · exact Fin.ext (by show 0 + 1 * 0 = 0; omega)
  · exact Fin.ext (by show 0 + 1 * d.val = d.val; omega)

/-- A head's stored state is that head of the states after the chunk. -/
theorem piece_S (c : Fin 2) (h : Fin 8) (x1 x2 : Vec Ideal S256x1024 .bf16) (x6 : Vec Ideal S8x128x128 .f32)
    (x7 : Vec Ideal S8x1x128 .f32) (S : Vec Ideal S8x128x128 .f32) (x : S1x128x128.Idx) :
    newS (View.ld (e' := .bf16) (Val := Elt Ideal) x1 (rR c h)) (View.ld (e' := .bf16) (Val := Elt Ideal) x2 (rR c h)) (View.ld (e' := .f32) (Val := Elt Ideal) x6 (rT h)) (View.ld (e' := .f32) (Val := Elt Ideal) x7 (rC h)) (View.ld (e' := .f32) (Val := Elt Ideal) S (rT h)) x
      = SG c x1 x2 x6 x7 S ((rT h).emb x) := by
  obtain ⟨d, e, rfl⟩ : ∃ d e, x = ix3 0 d e :=
    ⟨x 1, x 2, by funext a; fin_cases a; exact Subsingleton.elim (α := Fin 1) _ _; rfl; rfl⟩
  refine (newS_apply _ _ _ _ _ _).trans ?_
  show S ((rT h).idx _) * x7 ((rC h).idx (ix3 0 0 e)) + ∑ j : Fin 128, x1 ((rR c h).idx (ix2 j d)) * x6 ((rT h).idx (ix3 0 j d)) * x2 ((rR c h).idx (ix2 j e)) = _
  simp only [ld_rR, ld_rT, ld_rC]
  exact (ld_rT (SG c x1 x2 x6 x7 S) h d e).symm

/-- A head's and chunk's stored rows are those of the point's result. -/
theorem piece_O (c : Fin 2) (h : Fin 8) (x0 x1 x2 : Vec Ideal S256x1024 .bf16) (x3 : Vec Ideal S256x1024 .f32)
    (x4 x5 : Vec Ideal S8x128x128 .f32) (S : Fin 2 → Vec Ideal S8x128x128 .f32) (x : S128x128.Idx) :
    outC (View.ld (e' := .bf16) (Val := Elt Ideal) x0 (rR c h)) (View.ld (e' := .bf16) (Val := Elt Ideal) x1 (rR c h)) (View.ld (e' := .bf16) (Val := Elt Ideal) x2 (rR c h)) (View.ld (e' := .f32) (Val := Elt Ideal) x3 (rR c h)) (View.ld (e' := .f32) (Val := Elt Ideal) x4 (rT h)) (View.ld (e' := .f32) (Val := Elt Ideal) x5 (rT h)) (View.ld (e' := .f32) (Val := Elt Ideal) (S c) (rT h)) x
      = OG x0 x1 x2 x3 x4 x5 S ((rR c h).emb x) := by
  obtain ⟨i, e, rfl⟩ : ∃ i e, x = ix2 i e := ⟨x 0, x 1, by funext a; fin_cases a <;> rfl⟩
  refine (outC_apply _ _ _ _ _ _ _ _).trans ?_
  show x3 ((rR c h).idx (ix2 i e)) * lnRow (rowM (fun j d => x0 ((rR c h).idx (ix2 j d))) (fun j d => x1 ((rR c h).idx (ix2 j d)))
    (fun j d => x2 ((rR c h).idx (ix2 j d))) (fun j d => x4 ((rT h).idx (ix3 0 j d))) (fun j d => x5 ((rT h).idx (ix3 0 j d)))
    (fun j d => S c ((rT h).idx (ix3 0 j d))) i) e = OG x0 x1 x2 x3 x4 x5 S ((rR c h).idx (ix2 i e))
  simp only [ld_rR, ld_rT]
  have hc : chk ⟨128 * c.val + i.val, by omega⟩ = c := Fin.ext (by show (128 * c.val + i.val) / 128 = _; omega)
  have hh : hd ⟨128 * h.val + e.val, by omega⟩ = h := Fin.ext (by show (128 * h.val + e.val) / 128 = _; omega)
  have hi : lo (n := 256) ⟨128 * c.val + i.val, by omega⟩ = i := Fin.ext (by show (128 * c.val + i.val) % 128 = _; omega)
  have he : lo (n := 1024) ⟨128 * h.val + e.val, by omega⟩ = e := Fin.ext (by show (128 * h.val + e.val) % 128 = _; omega)
  show _ = x3 _ * lnRow (rowM (blk2 x0 (chk ⟨128 * c.val + i.val, _⟩) (hd ⟨128 * h.val + e.val, _⟩)) (blk2 x1 (chk ⟨128 * c.val + i.val, _⟩) (hd ⟨128 * h.val + e.val, _⟩))
    (blk2 x2 (chk ⟨128 * c.val + i.val, _⟩) (hd ⟨128 * h.val + e.val, _⟩)) (tab x4 (hd ⟨128 * h.val + e.val, _⟩)) (tab x5 (hd ⟨128 * h.val + e.val, _⟩)) (tab (S (chk ⟨128 * c.val + i.val, _⟩)) (hd ⟨128 * h.val + e.val, _⟩))
    (lo (n := 256) ⟨128 * c.val + i.val, _⟩)) (lo (n := 1024) ⟨128 * h.val + e.val, _⟩)
  simp only [hc, hh, hi, he]
  rfl

/-- The states a point's two chunks start from. -/
def two (S S' : Vec Ideal S8x128x128 .f32) : Fin 2 → Vec Ideal S8x128x128 .f32 := fun c => if c = 0 then S else S'

/-- The first chunk's stored rows, from the states the point starts with. -/
theorem piece_O0 (h : Fin 8) (x0 x1 x2 : Vec Ideal S256x1024 .bf16) (x3 : Vec Ideal S256x1024 .f32)
    (x4 x5 x6 : Vec Ideal S8x128x128 .f32) (x7 : Vec Ideal S8x1x128 .f32) (S : Vec Ideal S8x128x128 .f32)
    (s : Vec Ideal S1x128x128 .f32) (hs : s = (View.ld (e' := .f32) (Val := Elt Ideal) S (rT h))) (x : S128x128.Idx) :
    outC (View.ld (e' := .bf16) (Val := Elt Ideal) x0 (rR 0 h)) (View.ld (e' := .bf16) (Val := Elt Ideal) x1 (rR 0 h)) (View.ld (e' := .bf16) (Val := Elt Ideal) x2 (rR 0 h)) (View.ld (e' := .f32) (Val := Elt Ideal) x3 (rR 0 h)) (View.ld (e' := .f32) (Val := Elt Ideal) x4 (rT h)) (View.ld (e' := .f32) (Val := Elt Ideal) x5 (rT h)) s x
      = OG x0 x1 x2 x3 x4 x5 (two S (SG 0 x1 x2 x6 x7 S)) ((rR 0 h).emb x) := by
  subst hs
  exact piece_O 0 h x0 x1 x2 x3 x4 x5 (two S (SG 0 x1 x2 x6 x7 S)) x

/-- The first chunk's stored state, as a block. -/
theorem state_S (h : Fin 8) (x1 x2 : Vec Ideal S256x1024 .bf16) (x6 : Vec Ideal S8x128x128 .f32)
    (x7 : Vec Ideal S8x1x128 .f32) (S : Vec Ideal S8x128x128 .f32)
    (s : Vec Ideal S1x128x128 .f32) (hs : s = (View.ld (e' := .f32) (Val := Elt Ideal) S (rT h))) :
    newS (View.ld (e' := .bf16) (Val := Elt Ideal) x1 (rR 0 h)) (View.ld (e' := .bf16) (Val := Elt Ideal) x2 (rR 0 h)) (View.ld (e' := .f32) (Val := Elt Ideal) x6 (rT h)) (View.ld (e' := .f32) (Val := Elt Ideal) x7 (rC h)) s
      = (View.ld (e' := .f32) (Val := Elt Ideal) (SG 0 x1 x2 x6 x7 S) (rT h)) := by
  subst hs
  exact funext fun x => piece_S 0 h x1 x2 x6 x7 S x

/-- A load after stores of which the last `n` are elsewhere reads the stores before those. -/
theorem readCov_drop {sg : RefSig} {κ : Kind} {sp : Space} {s : Shape} {e : EltTy} (v : View sg κ sp s e) (B : LoadRect s) :
    ∀ (n : Nat) (L : List (View.Piece (Elt Ideal) s e)) (_ : (L.take n).all (fun p => LoadRect.disj p.1 B) = true),
      v.readCov L B = v.readCov (L.drop n) B
  | 0, _, _ => rfl
  | _ + 1, [], _ => rfl
  | n + 1, p :: L, h => by
    simp only [List.take_succ_cons, List.all_cons, Bool.and_eq_true] at h
    exact (View.readCov_skip v p.1 p.2 L B h.1).trans (readCov_drop v B n L h.2)

/-- The second chunk's stored rows, from the states the first chunk stored. -/
theorem piece_O1 (h : Fin 8) (x0 x1 x2 : Vec Ideal S256x1024 .bf16) (x3 : Vec Ideal S256x1024 .f32)
    (x4 x5 x6 : Vec Ideal S8x128x128 .f32) (x7 : Vec Ideal S8x1x128 .f32) (S : Vec Ideal S8x128x128 .f32)
    (s : Vec Ideal S1x128x128 .f32) (hs : s = (View.ld (e' := .f32) (Val := Elt Ideal) (SG 0 x1 x2 x6 x7 S) (rT h))) (x : S128x128.Idx) :
    outC (View.ld (e' := .bf16) (Val := Elt Ideal) x0 (rR 1 h)) (View.ld (e' := .bf16) (Val := Elt Ideal) x1 (rR 1 h)) (View.ld (e' := .bf16) (Val := Elt Ideal) x2 (rR 1 h)) (View.ld (e' := .f32) (Val := Elt Ideal) x3 (rR 1 h)) (View.ld (e' := .f32) (Val := Elt Ideal) x4 (rT h)) (View.ld (e' := .f32) (Val := Elt Ideal) x5 (rT h)) s x
      = OG x0 x1 x2 x3 x4 x5 (two S (SG 0 x1 x2 x6 x7 S)) ((rR 1 h).emb x) := by
  subst hs
  exact piece_O 1 h x0 x1 x2 x3 x4 x5 (two S (SG 0 x1 x2 x6 x7 S)) x

/-- The second chunk's stored state, from the one the first chunk stored. -/
theorem piece_S1 (h : Fin 8) (x1 x2 : Vec Ideal S256x1024 .bf16) (x6 : Vec Ideal S8x128x128 .f32)
    (x7 : Vec Ideal S8x1x128 .f32) (S : Vec Ideal S8x128x128 .f32)
    (s : Vec Ideal S1x128x128 .f32) (hs : s = (View.ld (e' := .f32) (Val := Elt Ideal) (SG 0 x1 x2 x6 x7 S) (rT h))) (x : S1x128x128.Idx) :
    newS (View.ld (e' := .bf16) (Val := Elt Ideal) x1 (rR 1 h)) (View.ld (e' := .bf16) (Val := Elt Ideal) x2 (rR 1 h)) (View.ld (e' := .f32) (Val := Elt Ideal) x6 (rT h)) (View.ld (e' := .f32) (Val := Elt Ideal) x7 (rC h)) s x
      = SG 1 x1 x2 x6 x7 (SG 0 x1 x2 x6 x7 S) ((rT h).emb x) := by
  subst hs
  exact piece_S 1 h x1 x2 x6 x7 (SG 0 x1 x2 x6 x7 S) x

end Cert.KernelIdeal.Ret
-- ==== Proof.BodyA.lean ====
module
public import proofs.«01_k».proof.Proof.Units
public import Idealize.ShloMosaic.Lib.Pipeline.ReadBack

@[expose] public section
noncomputable section
namespace Cert.KernelIdeal.Ret
open Cert.KernelIdeal Cert.KernelIdeal.Gen Idealize.ShloMosaic Idealize.ShloMosaic.TcCoe Idealize.SL.Sem Cert.Ret

variable (c : Dev nD) (i : grid0.Coords)
  (arg2 : Memref sig .tc .vmem S256x1024 .bf16) (harg2 : arg2.IsWhole)
  (arg3 : Memref sig .tc .vmem S256x1024 .bf16) (harg3 : arg3.IsWhole)
  (arg4 : Memref sig .tc .vmem S256x1024 .bf16) (harg4 : arg4.IsWhole)
  (arg5 : Memref sig .tc .vmem S256x1024 .f32) (harg5 : arg5.IsWhole)
  (arg6 : Memref sig .tc .vmem S8x128x128 .f32) (harg6 : arg6.IsWhole)
  (arg7 : Memref sig .tc .vmem S8x128x128 .f32) (harg7 : arg7.IsWhole)
  (arg8 : Memref sig .tc .vmem S8x128x128 .f32) (harg8 : arg8.IsWhole)
  (arg9 : Memref sig .tc .vmem S8x1x128 .f32) (harg9 : arg9.IsWhole)
  (arg10 : Memref sig .tc .vmem S256x1024 .bf16) (harg10 : arg10.IsWhole)
  (arg11 : Memref sig .tc .vmem S8x128x128 .f32) (harg11 : arg11.IsWhole)
  (x0 x1 x2 : Vec Ideal S256x1024 .bf16) (x3 : Vec Ideal S256x1024 .f32) (x4 x5 x6 : Vec Ideal S8x128x128 .f32)
  (x7 : Vec Ideal S8x1x128 .f32)

/-- The first chunk reads, for head 0, the zero state the point began by storing. -/
theorem st0_A0 : kernelRun0_A.sl.v12 c arg11 = View.ld (e' := .f32) (Val := Elt Ideal) (k0_pay1 (F := Ideal)) (rT 0) :=
  (readCov_drop _ _ 0 _ (by sl_kernel_rfl)).trans (View.readCov_fill _ _ _ _ (rT 0) (by decide))

/-- The first chunk reads, for head 1, the zero state the point began by storing. -/
theorem st1_A0 : kernelRun0_A.sl.v65 c arg3 harg3 arg4 harg4 arg8 harg8 arg9 harg9 arg11 x1 x2 x6 x7 = View.ld (e' := .f32) (Val := Elt Ideal) (k0_pay1 (F := Ideal)) (rT 1) :=
  (readCov_drop _ _ 1 _ (by sl_kernel_rfl)).trans (View.readCov_fill _ _ _ _ (rT 1) (by decide))

/-- The first chunk reads, for head 2, the zero state the point began by storing. -/
theorem st2_A0 : kernelRun0_A.sl.v118 c arg3 harg3 arg4 harg4 arg8 harg8 arg9 harg9 arg11 x1 x2 x6 x7 = View.ld (e' := .f32) (Val := Elt Ideal) (k0_pay1 (F := Ideal)) (rT 2) :=
  (readCov_drop _ _ 2 _ (by sl_kernel_rfl)).trans (View.readCov_fill _ _ _ _ (rT 2) (by decide))

/-- The first chunk reads, for head 3, the zero state the point began by storing. -/
theorem st3_A0 : kernelRun0_A.sl.v171 c arg3 harg3 arg4 harg4 arg8 harg8 arg9 harg9 arg11 x1 x2 x6 x7 = View.ld (e' := .f32) (Val := Elt Ideal) (k0_pay1 (F := Ideal)) (rT 3) :=
  (readCov_drop _ _ 3 _ (by sl_kernel_rfl)).trans (View.readCov_fill _ _ _ _ (rT 3) (by decide))

/-- The first chunk reads, for head 4, the zero state the point began by storing. -/
theorem st4_A0 : kernelRun0_A.sl.v224 c arg3 harg3 arg4 harg4 arg8 harg8 arg9 harg9 arg11 x1 x2 x6 x7 = View.ld (e' := .f32) (Val := Elt Ideal) (k0_pay1 (F := Ideal)) (rT 4) :=
  (readCov_drop _ _ 4 _ (by sl_kernel_rfl)).trans (View.readCov_fill _ _ _ _ (rT 4) (by decide))

/-- The first chunk reads, for head 5, the zero state the point began by storing. -/
theorem st5_A0 : kernelRun0_A.sl.v277 c arg3 harg3 arg4 harg4 arg8 harg8 arg9 harg9 arg11 x1 x2 x6 x7 = View.ld (e' := .f32) (Val := Elt Ideal) (k0_pay1 (F := Ideal)) (rT 5) :=
  (readCov_drop _ _ 5 _ (by sl_kernel_rfl)).trans (View.readCov_fill _ _ _ _ (rT 5) (by decide))

/-- The first chunk reads, for head 6, the zero state the point began by storing. -/
theorem st6_A0 : kernelRun0_A.sl.v330 c arg3 harg3 arg4 harg4 arg8 harg8 arg9 harg9 arg11 x1 x2 x6 x7 = View.ld (e' := .f32) (Val := Elt Ideal) (k0_pay1 (F := Ideal)) (rT 6) :=
  (readCov_drop _ _ 6 _ (by sl_kernel_rfl)).trans (View.readCov_fill _ _ _ _ (rT 6) (by decide))

/-- The first chunk reads, for head 7, the zero state the point began by storing. -/
theorem st7_A0 : kernelRun0_A.sl.v383 c arg3 harg3 arg4 harg4 arg8 harg8 arg9 harg9 arg11 x1 x2 x6 x7 = View.ld (e' := .f32) (Val := Elt Ideal) (k0_pay1 (F := Ideal)) (rT 7) :=
  (readCov_drop _ _ 7 _ (by sl_kernel_rfl)).trans (View.readCov_fill _ _ _ _ (rT 7) (by decide))

/-- The second chunk reads, for head 0, the state the first chunk stored. -/
theorem st0_A : kernelRun0_A.sl.v436 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 0) :=
  (readCov_drop _ _ 7 _ (by sl_kernel_rfl)).trans ((View.readCov_cons_toLoadRect _ _ _ _).trans (state_S 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st0_A0 c arg11)))

/-- The second chunk reads, for head 1, the state the first chunk stored. -/
theorem st1_A : kernelRun0_A.sl.v489 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 1) :=
  (readCov_drop _ _ 7 _ (by sl_kernel_rfl)).trans ((View.readCov_cons_toLoadRect _ _ _ _).trans (state_S 1 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st1_A0 c arg3 harg3 arg4 harg4 arg8 harg8 arg9 harg9 arg11 x1 x2 x6 x7)))

/-- The second chunk reads, for head 2, the state the first chunk stored. -/
theorem st2_A : kernelRun0_A.sl.v542 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 2) :=
  (readCov_drop _ _ 7 _ (by sl_kernel_rfl)).trans ((View.readCov_cons_toLoadRect _ _ _ _).trans (state_S 2 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st2_A0 c arg3 harg3 arg4 harg4 arg8 harg8 arg9 harg9 arg11 x1 x2 x6 x7)))

/-- The second chunk reads, for head 3, the state the first chunk stored. -/
theorem st3_A : kernelRun0_A.sl.v595 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 3) :=
  (readCov_drop _ _ 7 _ (by sl_kernel_rfl)).trans ((View.readCov_cons_toLoadRect _ _ _ _).trans (state_S 3 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st3_A0 c arg3 harg3 arg4 harg4 arg8 harg8 arg9 harg9 arg11 x1 x2 x6 x7)))

/-- The second chunk reads, for head 4, the state the first chunk stored. -/
theorem st4_A : kernelRun0_A.sl.v648 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 4) :=
  (readCov_drop _ _ 7 _ (by sl_kernel_rfl)).trans ((View.readCov_cons_toLoadRect _ _ _ _).trans (state_S 4 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st4_A0 c arg3 harg3 arg4 harg4 arg8 harg8 arg9 harg9 arg11 x1 x2 x6 x7)))

/-- The second chunk reads, for head 5, the state the first chunk stored. -/
theorem st5_A : kernelRun0_A.sl.v701 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 5) :=
  (readCov_drop _ _ 7 _ (by sl_kernel_rfl)).trans ((View.readCov_cons_toLoadRect _ _ _ _).trans (state_S 5 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st5_A0 c arg3 harg3 arg4 harg4 arg8 harg8 arg9 harg9 arg11 x1 x2 x6 x7)))

/-- The second chunk reads, for head 6, the state the first chunk stored. -/
theorem st6_A : kernelRun0_A.sl.v754 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 6) :=
  (readCov_drop _ _ 7 _ (by sl_kernel_rfl)).trans ((View.readCov_cons_toLoadRect _ _ _ _).trans (state_S 6 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st6_A0 c arg3 harg3 arg4 harg4 arg8 harg8 arg9 harg9 arg11 x1 x2 x6 x7)))

/-- The second chunk reads, for head 7, the state the first chunk stored. -/
theorem st7_A : kernelRun0_A.sl.v807 c arg3 harg3 arg4 harg4 arg8 harg8 arg9 harg9 arg11 x1 x2 x6 x7
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) (rT 7) :=
  (readCov_drop _ _ 7 _ (by sl_kernel_rfl)).trans ((View.readCov_cons_toLoadRect _ _ _ _).trans (state_S 7 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st7_A0 c arg3 harg3 arg4 harg4 arg8 harg8 arg9 harg9 arg11 x1 x2 x6 x7)))

set_option maxRecDepth 16384 in
/-- What a point that starts a batch leaves in its block of the result. -/
theorem out_A (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6 x7  = OG x0 x1 x2 x3 x4 x5 (two (k0_pay1 (F := Ideal)) (SG 0 x1 x2 x6 x7 (k0_pay1 (F := Ideal)))) := by
  have key : out0_A_8 c i arg2 harg2 arg3 harg3 arg4 harg4 arg5 harg5 arg6 harg6 arg7 harg7 arg8 harg8 arg9 harg9 arg10 harg10 arg11 harg11 hc0 x0 x1 x2 x3 x4 x5 x6 x7  = OG (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (two (k0_pay1 (F := Ideal)) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)))) := by
    unfold out0_A_8
    rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7 )]
    funext y
    refine View.canon_apply_of_pieces _ _ (View.PiecesOf.mem ?_) y (cover0_A_8 c i arg2 harg2 arg3 harg3 arg4 harg4 arg5 harg5 arg6 harg6 arg7 harg7 arg8 harg8 arg9 harg9 arg10 harg10 arg11 harg11 hc0 x0 x1 x2 x3 x4 x5 x6 x7  y)
    unfold kernelRun0_A
    dsimp only
    exact ⟨
      piece_O1 7 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st7_A c arg3 harg3 arg4 harg4 arg8 harg8 arg9 harg9 arg11 x1 x2 x6 x7),
      piece_O1 6 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st6_A c arg3 harg3 arg4 harg4 arg8 harg8 arg9 harg9 arg11 x1 x2 x6 x7),
      piece_O1 5 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st5_A c arg3 harg3 arg4 harg4 arg8 harg8 arg9 harg9 arg11 x1 x2 x6 x7),
      piece_O1 4 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st4_A c arg3 harg3 arg4 harg4 arg8 harg8 arg9 harg9 arg11 x1 x2 x6 x7),
      piece_O1 3 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st3_A c arg3 harg3 arg4 harg4 arg8 harg8 arg9 harg9 arg11 x1 x2 x6 x7),
      piece_O1 2 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st2_A c arg3 harg3 arg4 harg4 arg8 harg8 arg9 harg9 arg11 x1 x2 x6 x7),
      piece_O1 1 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st1_A c arg3 harg3 arg4 harg4 arg8 harg8 arg9 harg9 arg11 x1 x2 x6 x7),
      piece_O1 0 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st0_A c arg3 harg3 arg4 harg4 arg8 harg8 arg9 harg9 arg11 x1 x2 x6 x7),
      piece_O0 7 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st7_A0 c arg3 harg3 arg4 harg4 arg8 harg8 arg9 harg9 arg11 x1 x2 x6 x7),
      piece_O0 6 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st6_A0 c arg3 harg3 arg4 harg4 arg8 harg8 arg9 harg9 arg11 x1 x2 x6 x7),
      piece_O0 5 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st5_A0 c arg3 harg3 arg4 harg4 arg8 harg8 arg9 harg9 arg11 x1 x2 x6 x7),
      piece_O0 4 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st4_A0 c arg3 harg3 arg4 harg4 arg8 harg8 arg9 harg9 arg11 x1 x2 x6 x7),
      piece_O0 3 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st3_A0 c arg3 harg3 arg4 harg4 arg8 harg8 arg9 harg9 arg11 x1 x2 x6 x7),
      piece_O0 2 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st2_A0 c arg3 harg3 arg4 harg4 arg8 harg8 arg9 harg9 arg11 x1 x2 x6 x7),
      piece_O0 1 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st1_A0 c arg3 harg3 arg4 harg4 arg8 harg8 arg9 harg9 arg11 x1 x2 x6 x7),
      piece_O0 0 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (k0_pay1 (F := Ideal)) _ (st0_A0 c arg11),
      trivial⟩
  rw [key]
  simp only [harg2.read_unread, harg3.read_unread, harg4.read_unread, harg5.read_unread, harg6.read_unread, harg7.read_unread, harg8.read_unread, harg9.read_unread]

set_option maxRecDepth 16384 in
/-- What it leaves in the states. -/
theorem sout_A (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 x7  = SG 1 x1 x2 x6 x7 (SG 0 x1 x2 x6 x7 (k0_pay1 (F := Ideal))) := by
  have key : sout0_A_0 c i arg2 harg2 arg3 harg3 arg4 harg4 arg5 harg5 arg6 harg6 arg7 harg7 arg8 harg8 arg9 harg9 arg10 harg10 arg11 harg11 hc0 x0 x1 x2 x3 x4 x5 x6 x7  = SG 1 (arg3.view.read (Elt Ideal) (harg3.unread x1)) (arg4.view.read (Elt Ideal) (harg4.unread x2)) (arg8.view.read (Elt Ideal) (harg8.unread x6)) (arg9.view.read (Elt Ideal) (harg9.unread x7)) (SG 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal))) := by
    unfold sout0_A_0
    rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7 )]
    funext y
    rw [← List.take_append_drop 8 (kernelRun0_A c i arg2 harg2 arg3 harg3 arg4 harg4 arg5 harg5 arg6 harg6 arg7 harg7 arg8 harg8 arg9 harg9 arg10 harg10 arg11 harg11 hc0 x0 x1 x2 x3 x4 x5 x6 x7 ).2.1]
    refine View.canon_append_of_piecesOf _ _ _ ?_ y (View.cover_of_tiledL (List.take 8 (kernelRun0_A c i arg2 harg2 arg3 harg3 arg4 harg4 arg5 harg5 arg6 harg6 arg7 harg7 arg8 harg8 arg9 harg9 arg10 harg10 arg11 harg11 hc0 x0 x1 x2 x3 x4 x5 x6 x7 ).2.1) S1x128x128.size (by sl_kernel_rfl) y)
    unfold kernelRun0_A
    dsimp only [List.take]
    exact ⟨
      piece_S1 7 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st7_A c arg3 harg3 arg4 harg4 arg8 harg8 arg9 harg9 arg11 x1 x2 x6 x7),
      piece_S1 6 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st6_A c arg3 harg3 arg4 harg4 arg8 harg8 arg9 harg9 arg11 x1 x2 x6 x7),
      piece_S1 5 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st5_A c arg3 harg3 arg4 harg4 arg8 harg8 arg9 harg9 arg11 x1 x2 x6 x7),
      piece_S1 4 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st4_A c arg3 harg3 arg4 harg4 arg8 harg8 arg9 harg9 arg11 x1 x2 x6 x7),
      piece_S1 3 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st3_A c arg3 harg3 arg4 harg4 arg8 harg8 arg9 harg9 arg11 x1 x2 x6 x7),
      piece_S1 2 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st2_A c arg3 harg3 arg4 harg4 arg8 harg8 arg9 harg9 arg11 x1 x2 x6 x7),
      piece_S1 1 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st1_A c arg3 harg3 arg4 harg4 arg8 harg8 arg9 harg9 arg11 x1 x2 x6 x7),
      piece_S1 0 (arg3.view.read (Elt Ideal) (harg3.unread x1)) (arg4.view.read (Elt Ideal) (harg4.unread x2)) (arg8.view.read (Elt Ideal) (harg8.unread x6)) (arg9.view.read (Elt Ideal) (harg9.unread x7)) (k0_pay1 (F := Ideal)) _ (st0_A c arg3 harg3 arg4 harg4 arg8 harg8 arg9 harg9 arg11 x1 x2 x6 x7),
      trivial⟩
  rw [key]
  simp only [harg2.read_unread, harg3.read_unread, harg4.read_unread, harg5.read_unread, harg6.read_unread, harg7.read_unread, harg8.read_unread, harg9.read_unread]

end Cert.KernelIdeal.Ret
-- ==== Proof.BodyB.lean ====
module
public import proofs.«01_k».proof.Proof.Units
public import Idealize.ShloMosaic.Lib.Pipeline.ReadBack

@[expose] public section
noncomputable section
namespace Cert.KernelIdeal.Ret
open Cert.KernelIdeal Cert.KernelIdeal.Gen Idealize.ShloMosaic Idealize.ShloMosaic.TcCoe Idealize.SL.Sem Cert.Ret

variable (c : Dev nD) (i : grid0.Coords)
  (arg2 : Memref sig .tc .vmem S256x1024 .bf16) (harg2 : arg2.IsWhole)
  (arg3 : Memref sig .tc .vmem S256x1024 .bf16) (harg3 : arg3.IsWhole)
  (arg4 : Memref sig .tc .vmem S256x1024 .bf16) (harg4 : arg4.IsWhole)
  (arg5 : Memref sig .tc .vmem S256x1024 .f32) (harg5 : arg5.IsWhole)
  (arg6 : Memref sig .tc .vmem S8x128x128 .f32) (harg6 : arg6.IsWhole)
  (arg7 : Memref sig .tc .vmem S8x128x128 .f32) (harg7 : arg7.IsWhole)
  (arg8 : Memref sig .tc .vmem S8x128x128 .f32) (harg8 : arg8.IsWhole)
  (arg9 : Memref sig .tc .vmem S8x1x128 .f32) (harg9 : arg9.IsWhole)
  (arg10 : Memref sig .tc .vmem S256x1024 .bf16) (harg10 : arg10.IsWhole)
  (arg11 : Memref sig .tc .vmem S8x128x128 .f32) (harg11 : arg11.IsWhole)
  (x0 x1 x2 : Vec Ideal S256x1024 .bf16) (x3 : Vec Ideal S256x1024 .f32) (x4 x5 x6 : Vec Ideal S8x128x128 .f32)
  (x7 : Vec Ideal S8x1x128 .f32) (xs0 : Vec Ideal S8x128x128 .f32)

/-- The second chunk reads, for head 0, the state the first chunk stored. -/
theorem st0_B : kernelRun0_B.sl.v436 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 0) :=
  (readCov_drop _ _ 7 _ (by sl_kernel_rfl)).trans ((View.readCov_cons_toLoadRect _ _ _ _).trans (state_S 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 1, the state the first chunk stored. -/
theorem st1_B : kernelRun0_B.sl.v489 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 1) :=
  (readCov_drop _ _ 7 _ (by sl_kernel_rfl)).trans ((View.readCov_cons_toLoadRect _ _ _ _).trans (state_S 1 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 2, the state the first chunk stored. -/
theorem st2_B : kernelRun0_B.sl.v542 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 2) :=
  (readCov_drop _ _ 7 _ (by sl_kernel_rfl)).trans ((View.readCov_cons_toLoadRect _ _ _ _).trans (state_S 2 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 3, the state the first chunk stored. -/
theorem st3_B : kernelRun0_B.sl.v595 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 3) :=
  (readCov_drop _ _ 7 _ (by sl_kernel_rfl)).trans ((View.readCov_cons_toLoadRect _ _ _ _).trans (state_S 3 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 4, the state the first chunk stored. -/
theorem st4_B : kernelRun0_B.sl.v648 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 4) :=
  (readCov_drop _ _ 7 _ (by sl_kernel_rfl)).trans ((View.readCov_cons_toLoadRect _ _ _ _).trans (state_S 4 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 5, the state the first chunk stored. -/
theorem st5_B : kernelRun0_B.sl.v701 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 5) :=
  (readCov_drop _ _ 7 _ (by sl_kernel_rfl)).trans ((View.readCov_cons_toLoadRect _ _ _ _).trans (state_S 5 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 6, the state the first chunk stored. -/
theorem st6_B : kernelRun0_B.sl.v754 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 6) :=
  (readCov_drop _ _ 7 _ (by sl_kernel_rfl)).trans ((View.readCov_cons_toLoadRect _ _ _ _).trans (state_S 6 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

/-- The second chunk reads, for head 7, the state the first chunk stored. -/
theorem st7_B : kernelRun0_B.sl.v807 c arg3 harg3 arg4 harg4 arg8 harg8 arg9 harg9 arg11 harg11 x1 x2 x6 x7 xs0
    = View.ld (e' := .f32) (Val := Elt Ideal) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) (rT 7) :=
  (readCov_drop _ _ 7 _ (by sl_kernel_rfl)).trans ((View.readCov_cons_toLoadRect _ _ _ _).trans (state_S 7 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (rfl)))

set_option maxRecDepth 16384 in
/-- What a point that goes on from the point before leaves in its block of the result. -/
theorem out_B (hc0 : ¬cond0_0 i) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = OG x0 x1 x2 x3 x4 x5 (two xs0 (SG 0 x1 x2 x6 x7 xs0)) := by
  have key : out0_B_8 c i arg2 harg2 arg3 harg3 arg4 harg4 arg5 harg5 arg6 harg6 arg7 harg7 arg8 harg8 arg9 harg9 arg10 harg10 arg11 harg11 hc0 x0 x1 x2 x3 x4 x5 x6 x7 xs0 = OG (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (two (arg11.view.read (Elt Ideal) (harg11.unread xs0)) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)))) := by
    unfold out0_B_8
    rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
    funext y
    refine View.canon_apply_of_pieces _ _ (View.PiecesOf.mem ?_) y (cover0_B_8 c i arg2 harg2 arg3 harg3 arg4 harg4 arg5 harg5 arg6 harg6 arg7 harg7 arg8 harg8 arg9 harg9 arg10 harg10 arg11 harg11 hc0 x0 x1 x2 x3 x4 x5 x6 x7 xs0 y)
    unfold kernelRun0_B
    dsimp only
    exact ⟨
      piece_O1 7 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st7_B c arg3 harg3 arg4 harg4 arg8 harg8 arg9 harg9 arg11 harg11 x1 x2 x6 x7 xs0),
      piece_O1 6 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st6_B c arg3 harg3 arg4 harg4 arg8 harg8 arg9 harg9 arg11 harg11 x1 x2 x6 x7 xs0),
      piece_O1 5 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st5_B c arg3 harg3 arg4 harg4 arg8 harg8 arg9 harg9 arg11 harg11 x1 x2 x6 x7 xs0),
      piece_O1 4 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st4_B c arg3 harg3 arg4 harg4 arg8 harg8 arg9 harg9 arg11 harg11 x1 x2 x6 x7 xs0),
      piece_O1 3 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st3_B c arg3 harg3 arg4 harg4 arg8 harg8 arg9 harg9 arg11 harg11 x1 x2 x6 x7 xs0),
      piece_O1 2 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st2_B c arg3 harg3 arg4 harg4 arg8 harg8 arg9 harg9 arg11 harg11 x1 x2 x6 x7 xs0),
      piece_O1 1 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st1_B c arg3 harg3 arg4 harg4 arg8 harg8 arg9 harg9 arg11 harg11 x1 x2 x6 x7 xs0),
      piece_O1 0 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (st0_B c arg3 harg3 arg4 harg4 arg8 harg8 arg9 harg9 arg11 harg11 x1 x2 x6 x7 xs0),
      piece_O0 7 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 6 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 5 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 4 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 3 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 2 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 1 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      piece_O0 0 (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg11.view.read (Elt Ideal) (harg11.unread xs0)) _ (rfl),
      trivial⟩
  rw [key]
  simp only [harg2.read_unread, harg3.read_unread, harg4.read_unread, harg5.read_unread, harg6.read_unread, harg7.read_unread, harg8.read_unread, harg9.read_unread, harg11.read_unread]

set_option maxRecDepth 16384 in
/-- What it leaves in the states. -/
theorem sout_B (hc0 : ¬cond0_0 i) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 = SG 1 x1 x2 x6 x7 (SG 0 x1 x2 x6 x7 xs0) := by
  have key : sout0_B_0 c i arg2 harg2 arg3 harg3 arg4 harg4 arg5 harg5 arg6 harg6 arg7 harg7 arg8 harg8 arg9 harg9 arg10 harg10 arg11 harg11 hc0 x0 x1 x2 x3 x4 x5 x6 x7 xs0 = SG 1 (arg3.view.read (Elt Ideal) (harg3.unread x1)) (arg4.view.read (Elt Ideal) (harg4.unread x2)) (arg8.view.read (Elt Ideal) (harg8.unread x6)) (arg9.view.read (Elt Ideal) (harg9.unread x7)) (SG 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0))) := by
    unfold sout0_B_0
    rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 x7 xs0)]
    funext y
    rw [← List.take_append_drop 8 (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1]
    refine View.canon_append_of_piecesOf _ _ _ ?_ y (View.cover_of_tiledL (List.take 8 (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1) S1x128x128.size (by sl_kernel_rfl) y)
    unfold kernelRun0_B
    dsimp only [List.take]
    exact ⟨
      piece_S1 7 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st7_B c arg3 harg3 arg4 harg4 arg8 harg8 arg9 harg9 arg11 harg11 x1 x2 x6 x7 xs0),
      piece_S1 6 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st6_B c arg3 harg3 arg4 harg4 arg8 harg8 arg9 harg9 arg11 harg11 x1 x2 x6 x7 xs0),
      piece_S1 5 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st5_B c arg3 harg3 arg4 harg4 arg8 harg8 arg9 harg9 arg11 harg11 x1 x2 x6 x7 xs0),
      piece_S1 4 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st4_B c arg3 harg3 arg4 harg4 arg8 harg8 arg9 harg9 arg11 harg11 x1 x2 x6 x7 xs0),
      piece_S1 3 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st3_B c arg3 harg3 arg4 harg4 arg8 harg8 arg9 harg9 arg11 harg11 x1 x2 x6 x7 xs0),
      piece_S1 2 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st2_B c arg3 harg3 arg4 harg4 arg8 harg8 arg9 harg9 arg11 harg11 x1 x2 x6 x7 xs0),
      piece_S1 1 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st1_B c arg3 harg3 arg4 harg4 arg8 harg8 arg9 harg9 arg11 harg11 x1 x2 x6 x7 xs0),
      piece_S1 0 (arg3.view.read (Elt Ideal) (harg3.unread x1)) (arg4.view.read (Elt Ideal) (harg4.unread x2)) (arg8.view.read (Elt Ideal) (harg8.unread x6)) (arg9.view.read (Elt Ideal) (harg9.unread x7)) (arg11.view.read (Elt Ideal) (harg11.unread xs0)) _ (st0_B c arg3 harg3 arg4 harg4 arg8 harg8 arg9 harg9 arg11 harg11 x1 x2 x6 x7 xs0),
      trivial⟩
  rw [key]
  simp only [harg2.read_unread, harg3.read_unread, harg4.read_unread, harg5.read_unread, harg6.read_unread, harg7.read_unread, harg8.read_unread, harg9.read_unread, harg11.read_unread]

end Cert.KernelIdeal.Ret
-- ==== Proof.Tabs.lean ====
module
public import proofs.«01_k».proof.Proof.Gen.KernelIdeal.Value
public import proofs.«01_k».proof.Proof.Spec
public import Idealize.ShloMosaic.Lib.StableHlo.ReadAt

@[expose] public section
noncomputable section
namespace Cert.KernelIdeal.Ret
open Idealize.ShloMosaic Idealize.ShloMosaic.TcCoe Cert.Ret Cert.KernelIdeal.Gen

variable (m : (ℓ : Loc nD τ sig) → Buf (Elt Ideal) ℓ) (c : Dev nD)

/-- The kernel's first table is the decay between a chunk's tokens. -/
theorem V_dec (h : Fin 8) (i j : Fin 128) : (V m c main_v24 (ix3 h i j) : EReal) = decT h i j := by
  unfold V
  simp only [List.flatten_cons, List.flatten_nil, List.append_nil, List.cons_append, List.nil_append, hostOps0, hostOps0_1, hostOps0_2, hostOps0_3, hostOps0_4]
  after_reads_at
  rfl

/-- The second is the decay from before the chunk, the same in every column. -/
theorem V_xi (h : Fin 8) (i j : Fin 128) : (V m c main_v45 (ix3 h i j) : EReal) = xiT h i := by
  unfold V
  simp only [List.flatten_cons, List.flatten_nil, List.append_nil, List.cons_append, List.nil_append, hostOps0, hostOps0_1, hostOps0_2, hostOps0_3, hostOps0_4]
  after_reads_at
  rfl

/-- The third is the decay to the chunk's end. -/
theorem V_zeta (h : Fin 8) (i j : Fin 128) : (V m c main_v47 (ix3 h i j) : EReal) = zetaT h i := by
  unfold V
  simp only [List.flatten_cons, List.flatten_nil, List.append_nil, List.cons_append, List.nil_append, hostOps0, hostOps0_1, hostOps0_2, hostOps0_3, hostOps0_4]
  after_reads_at
  rfl

/-- The fourth is the decay over a chunk. -/
theorem V_cd (h : Fin 8) (j : Fin 128) : (V m c main_v49 (ix3 h (0 : Fin 1) j) : EReal) = cdT h := by
  unfold V
  simp only [List.flatten_cons, List.flatten_nil, List.append_nil, List.cons_append, List.nil_append, hostOps0, hostOps0_1, hostOps0_2, hostOps0_3, hostOps0_4]
  after_reads_at
  rfl
end Cert.KernelIdeal.Ret
-- ==== Proof.Kern.lean ====
module
public import proofs.«01_k».proof.Proof.BodyA
public import proofs.«01_k».proof.Proof.BodyB
public import proofs.«01_k».proof.Proof.Tabs

@[expose] public section
noncomputable section
namespace Cert.KernelIdeal.Ret
open Idealize.ShloMosaic Idealize.ShloMosaic.TcCoe Cert.Ret Cert.KernelIdeal.Gen

variable (m : (ℓ : Loc nD τ sig) → Buf (Elt Ideal) ℓ) (c : Dev nD)

/-- The kernel's queries, keys, values and gates. -/
def aq : Arr := m ((c : Thread nD τ).loc main_arg0)
def ak : Arr := m ((c : Thread nD τ).loc main_arg1)
def av : Arr := m ((c : Thread nD τ).loc main_arg2)
def ag : Arr := m ((c : Thread nD τ).loc main_arg3)

/-- Where the windows' blocks lie: rows by the point's number, the tables whole. -/
theorem idx_rows : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0) :=
  (by decide +kernel : ∀ t : Fin grid0.N, _)
/-- The tables' blocks lie at the origin at every point. -/
theorem idx_tabs : ∀ (t : Fin cfg0.N) (a : Fin 3),
    win0_4.index t a = 0 ∧ win0_5.index t a = 0 ∧ win0_6.index t a = 0 ∧ win0_7.index t a = 0 :=
  (by decide +kernel : ∀ (t : Fin grid0.N) (a : Fin 3), _)

/-- There are 64 points. -/
theorem lt64 (t : Fin cfg0.N) : t.val < 64 := lt_of_lt_of_eq t.isLt N_0

/-- The array's row that a point's row is. -/
def arow (t : Fin cfg0.N) (r : Fin 256) : Fin 16384 := ⟨256 * t.val + r.val, by have := lt64 t; omega⟩

/-- A point's rows of the queries. -/
theorem iblk0 (t : Fin cfg0.N) (y : S256x1024.Idx) :
    iblk m c 0 t y = aq m c (ix2 (arow t (y 0)) (y 1)) := by
  refine (congrFun (V_main_arg0 m c) _).trans (congrArg (aq m c) ?_)
  have h := (idx_rows t).1
  funext a; apply Fin.ext
  fin_cases a
  · show win0_0.index t (0 : Fin 2) * 256 + 1 * (y 0).val = 256 * t.val + (y 0).val; rw [h.1]; omega
  · show win0_0.index t (1 : Fin 2) * 1024 + 1 * (y 1).val = (y 1).val; rw [h.2]; omega

/-- A point's rows of the keys. -/
theorem iblk1 (t : Fin cfg0.N) (y : S256x1024.Idx) :
    iblk m c 1 t y = ak m c (ix2 (arow t (y 0)) (y 1)) := by
  refine (congrFun (V_main_arg1 m c) _).trans (congrArg (ak m c) ?_)
  have h := (idx_rows t).2.1
  funext a; apply Fin.ext
  fin_cases a
  · show win0_1.index t (0 : Fin 2) * 256 + 1 * (y 0).val = 256 * t.val + (y 0).val; rw [h.1]; omega
  · show win0_1.index t (1 : Fin 2) * 1024 + 1 * (y 1).val = (y 1).val; rw [h.2]; omega

/-- A point's rows of the values. -/
theorem iblk2 (t : Fin cfg0.N) (y : S256x1024.Idx) :
    iblk m c 2 t y = av m c (ix2 (arow t (y 0)) (y 1)) := by
  refine (congrFun (V_main_arg2 m c) _).trans (congrArg (av m c) ?_)
  have h := (idx_rows t).2.2.1
  funext a; apply Fin.ext
  fin_cases a
  · show win0_2.index t (0 : Fin 2) * 256 + 1 * (y 0).val = 256 * t.val + (y 0).val; rw [h.1]; omega
  · show win0_2.index t (1 : Fin 2) * 1024 + 1 * (y 1).val = (y 1).val; rw [h.2]; omega

/-- A point's rows of the gates. -/
theorem iblk3 (t : Fin cfg0.N) (y : S256x1024.Idx) :
    iblk m c 3 t y = ag m c (ix2 (arow t (y 0)) (y 1)) := by
  refine (congrFun (V_main_arg3 m c) _).trans (congrArg (ag m c) ?_)
  have h := (idx_rows t).2.2.2
  funext a; apply Fin.ext
  fin_cases a
  · show win0_3.index t (0 : Fin 2) * 256 + 1 * (y 0).val = 256 * t.val + (y 0).val; rw [h.1]; omega
  · show win0_3.index t (1 : Fin 2) * 1024 + 1 * (y 1).val = (y 1).val; rw [h.2]; omega

/-- A point finds the decay between tokens. -/
theorem iblk4 (t : Fin cfg0.N) (h : Fin 8) : tab (iblk m c 4 t) h = decT h := by
  funext i j
  refine Eq.trans (congrArg (V m c main_v24) ?_) (V_dec m c h i j)
  funext a; apply Fin.ext
  have e := (idx_tabs t a).1
  fin_cases a
  · show win0_4.index t (0 : Fin 3) * 8 + 1 * h.val = h.val; rw [show win0_4.index t (0 : Fin 3) = 0 from e]; omega
  · show win0_4.index t (1 : Fin 3) * 128 + 1 * i.val = i.val; rw [show win0_4.index t (1 : Fin 3) = 0 from e]; omega
  · show win0_4.index t (2 : Fin 3) * 128 + 1 * j.val = j.val; rw [show win0_4.index t (2 : Fin 3) = 0 from e]; omega

/-- A point finds the decay from before a chunk. -/
theorem iblk5 (t : Fin cfg0.N) (h : Fin 8) : tab (iblk m c 5 t) h = fun i _ => xiT h i := by
  funext i j
  refine Eq.trans (congrArg (V m c main_v45) ?_) (V_xi m c h i j)
  funext a; apply Fin.ext
  have e := (idx_tabs t a).2.1
  fin_cases a
  · show win0_5.index t (0 : Fin 3) * 8 + 1 * h.val = h.val; rw [show win0_5.index t (0 : Fin 3) = 0 from e]; omega
  · show win0_5.index t (1 : Fin 3) * 128 + 1 * i.val = i.val; rw [show win0_5.index t (1 : Fin 3) = 0 from e]; omega
  · show win0_5.index t (2 : Fin 3) * 128 + 1 * j.val = j.val; rw [show win0_5.index t (2 : Fin 3) = 0 from e]; omega

/-- A point finds the decay to a chunk's end. -/
theorem iblk6 (t : Fin cfg0.N) (h : Fin 8) : tab (iblk m c 6 t) h = fun i _ => zetaT h i := by
  funext i j
  refine Eq.trans (congrArg (V m c main_v47) ?_) (V_zeta m c h i j)
  funext a; apply Fin.ext
  have e := (idx_tabs t a).2.2.1
  fin_cases a
  · show win0_6.index t (0 : Fin 3) * 8 + 1 * h.val = h.val; rw [show win0_6.index t (0 : Fin 3) = 0 from e]; omega
  · show win0_6.index t (1 : Fin 3) * 128 + 1 * i.val = i.val; rw [show win0_6.index t (1 : Fin 3) = 0 from e]; omega
  · show win0_6.index t (2 : Fin 3) * 128 + 1 * j.val = j.val; rw [show win0_6.index t (2 : Fin 3) = 0 from e]; omega

/-- A point finds the decay over a chunk. -/
theorem iblk7 (t : Fin cfg0.N) (h : Fin 8) (j : Fin 128) : (iblk m c 7 t (ix3 h (0 : Fin 1) j) : EReal) = cdT h := by
  refine Eq.trans (congrArg (V m c main_v49) ?_) (V_cd m c h j)
  funext a; apply Fin.ext
  have e := (idx_tabs t a).2.2.2
  fin_cases a
  · show win0_7.index t (0 : Fin 3) * 8 + 1 * h.val = h.val; rw [show win0_7.index t (0 : Fin 3) = 0 from e]; omega
  · show win0_7.index t (1 : Fin 3) * 1 + 1 * 0 = 0; rw [show win0_7.index t (1 : Fin 3) = 0 from e]
  · show win0_7.index t (2 : Fin 3) * 128 + 1 * j.val = j.val; rw [show win0_7.index t (2 : Fin 3) = 0 from e]; omega

/-- A chunk of a point's rows is a chunk of the whole array. -/
theorem blk2_of (x : Arr) (y : S256x1024.Idx → EReal) (t : Fin cfg0.N)
    (e : ∀ i, y i = x (ix2 (arow t (i 0)) (i 1)))
    (c' : Fin 2) (g : Nat) (hg : g = 2 * t.val + c'.val) (h : Fin 8) : blk2 y c' h = blkN x g h := by
  subst hg
  funext j d
  refine (e _).trans (congrArg x ?_)
  have := lt64 t
  funext a; apply Fin.ext
  fin_cases a
  · show 256 * t.val + (128 * c'.val + j.val) = (128 * (2 * t.val + c'.val) + j.val) % 16384; omega
  · rfl

/-- Every head's state of sequence `b` after `n` chunks, as the kernel's scratch holds them. -/
def pack (b n : Nat) : Vec Ideal S8x128x128 .f32 := fun y => St (ak m c) (av m c) b (y 0) n (y 1) (y 2)

/-- One chunk of a point moves the states by one chunk. -/
theorem SG_pack (t : Fin cfg0.N) (c' : Fin 2) (b n : Nat) (hg : 32 * b + n = 2 * t.val + c'.val) :
    SG c' (iblk m c 1 t) (iblk m c 2 t) (iblk m c 6 t) (iblk m c 7 t) (pack m c b n) = pack m c b (n + 1) := by
  have key : ∀ (h : Fin 8) (d e : Fin 128),
      stepM (blk2 (iblk m c 1 t) c' h) (blk2 (iblk m c 2 t) c' h) (tab (iblk m c 6 t) h) (iblk m c 7 t (ix3 h (0 : Fin 1) e))
        (St (ak m c) (av m c) b h n) d e = St (ak m c) (av m c) b h (n + 1) d e := by
    intro h d e
    rw [blk2_of (ak m c) _ t (iblk1 m c t) c' _ hg, blk2_of (av m c) _ t (iblk2 m c t) c' _ hg, iblk6, iblk7]
    rfl
  funext y
  exact key (y 0) (y 1) (y 2)

/-- What a point's rows end as, from the states before its two chunks. -/
theorem OG_pack (t : Fin cfg0.N) (b n : Nat) (hg : 32 * b + n = 2 * t.val) (S : Fin 2 → Vec Ideal S8x128x128 .f32)
    (hS : ∀ c', S c' = pack m c b (n + c'.val)) (y : S256x1024.Idx) :
    OG (iblk m c 0 t) (iblk m c 1 t) (iblk m c 2 t) (iblk m c 3 t) (iblk m c 4 t) (iblk m c 5 t) S y
      = outM (aq m c) (ak m c) (av m c) (ag m c) b (n + (chk (y 0)).val) (hd (y 1)) (lo (y 0)) (lo (y 1)) := by
  have hg' : 32 * b + (n + (chk (y 0)).val) = 2 * t.val + (chk (y 0)).val := by omega
  have e : (iblk m c 3 t y : EReal) = blkN (ag m c) (32 * b + (n + (chk (y 0)).val)) (hd (y 1)) (lo (y 0)) (lo (y 1)) := by
    rw [← blk2_of (ag m c) _ t (iblk3 m c t) _ _ hg']
    refine congrArg (iblk m c 3 t) ?_
    funext a; apply Fin.ext
    fin_cases a
    · show (y 0).val = 128 * ((y 0).val / 128) + (y 0).val % 128; omega
    · show (y 1).val = 128 * ((y 1).val / 128) + (y 1).val % 128; omega
  have key : ∀ (c' : Fin 2) (h : Fin 8), 32 * b + (n + c'.val) = 2 * t.val + c'.val →
      rowM (blk2 (iblk m c 0 t) c' h) (blk2 (iblk m c 1 t) c' h) (blk2 (iblk m c 2 t) c' h) (tab (iblk m c 4 t) h)
        (tab (iblk m c 5 t) h) (tab (S c') h)
      = rowM (blkN (aq m c) (32 * b + (n + c'.val)) h) (blkN (ak m c) (32 * b + (n + c'.val)) h)
        (blkN (av m c) (32 * b + (n + c'.val)) h) (decT h) (fun i _ => xiT h i) (St (ak m c) (av m c) b h (n + c'.val)) := by
    intro c' h hc
    rw [blk2_of (aq m c) _ t (iblk0 m c t) _ _ hc, blk2_of (ak m c) _ t (iblk1 m c t) _ _ hc,
      blk2_of (av m c) _ t (iblk2 m c t) _ _ hc, iblk4, iblk5, hS]
    rfl
  exact congrArg₂ (fun (a : EReal) (r : Mat) => a * lnRow (r (lo (y 0))) (lo (y 1))) e (key (chk (y 0)) (hd (y 1)) hg')

/-- The zero state. -/
theorem zero_pack (b n : Nat) (hn : n = 0) : (k0_pay1 (F := Ideal)) = pack m c b n := by
  subst hn
  funext y
  unfold k0_pay1
  pointwise
  rfl

/-- A point's results and the states it leaves, given those it finds. -/
theorem point_eq (t : Fin cfg0.N) (hS : ¬ t.val % 16 = 0 →
      (outsAt0 m c (t.val - 1) (lt_of_le_of_lt (Nat.sub_le _ _) t.isLt)).2 = pack m c (t.val / 16) (2 * (t.val % 16))) :
    (∀ y, (outsAt0 m c t.val t.isLt).1 y = outM (aq m c) (ak m c) (av m c) (ag m c) (t.val / 16)
        (2 * (t.val % 16) + (chk (y 0)).val) (hd (y 1)) (lo (y 0)) (lo (y 1)))
    ∧ (outsAt0 m c t.val t.isLt).2 = pack m c (t.val / 16) (2 * (t.val % 16) + 2) := by
  have hg : 32 * (t.val / 16) + 2 * (t.val % 16) = 2 * t.val := by omega
  have two_pack : ∀ c' : Fin 2, two (pack m c (t.val / 16) (2 * (t.val % 16))) (pack m c (t.val / 16) (2 * (t.val % 16) + 1)) c'
      = pack m c (t.val / 16) (2 * (t.val % 16) + c'.val) := by
    intro c'; fin_cases c' <;> rfl
  by_cases h0 : t.val % 16 = 0
  · rw [outsAt0_A m c t h0]
    dsimp only
    rw [out_A, sout_A, zero_pack m c (t.val / 16) (2 * (t.val % 16)) (by omega),
      SG_pack m c t 0 _ _ (by simpa using hg), SG_pack m c t 1 _ _ (by show _ + (_ + 1) = _ + 1; omega)]
    exact ⟨OG_pack m c t _ _ hg _ two_pack, rfl⟩
  · rw [outsAt0_B m c t h0]
    dsimp only
    rw [out_B, sout_B, hS h0, SG_pack m c t 0 _ _ (by simpa using hg), SG_pack m c t 1 _ _ (by show _ + (_ + 1) = _ + 1; omega)]
    exact ⟨OG_pack m c t _ _ hg _ two_pack, rfl⟩

/-- The states after every point. -/
theorem state_eq : ∀ (n : Nat) (hn : n < cfg0.N), (outsAt0 m c n hn).2 = pack m c (n / 16) (2 * (n % 16) + 2)
  | 0, hn => (point_eq m c ⟨0, hn⟩ (fun h => absurd rfl h)).2
  | n + 1, hn => (point_eq m c ⟨n + 1, hn⟩ (fun h => (state_eq n (by omega)).trans (by
      have h' : ¬ (n + 1) % 16 = 0 := h
      show pack m c (n / 16) (2 * (n % 16) + 2) = pack m c ((n + 1) / 16) (2 * ((n + 1) % 16))
      congr 1 <;> omega))).2

/-- A point's results. -/
theorem out_eq (t : Fin cfg0.N) (y : S256x1024.Idx) : (outsAt0 m c t.val t.isLt).1 y
    = outM (aq m c) (ak m c) (av m c) (ag m c) (t.val / 16) (2 * (t.val % 16) + (chk (y 0)).val) (hd (y 1)) (lo (y 0)) (lo (y 1)) :=
  (point_eq m c t (fun h => (state_eq m c _ _).trans (by congr 1 <;> omega))).1 y

/-- The kernel's whole result: sequence, chunk, head, row and column off the place in the array. -/
theorem G8_eq (i : S16384x1024.Idx) : (Cert.KernelIdeal.Value.G8 m c i : EReal)
    = outM (aq m c) (ak m c) (av m c) (ag m c) ((i 0).val / 4096) ((i 0).val / 128 % 32) (hd (i 1)) (lo (i 0)) (lo (i 1)) := by
  have h0 : (i 0).val < 16384 := (i 0).isLt
  have h1 : (i 1).val < 1024 := (i 1).isLt
  have hp : Value.pt8Of i = (i 0).val / 256 := by show 1 * ((i 0).val / 256 - 0) + 1 * ((i 1).val / 1024 - 0) = _; omega
  have hN : Value.pt8Of i < cfg0.N := by rw [hp]; exact lt_of_lt_of_eq (by omega) N_0.symm
  unfold Value.G8
  rw [dif_pos hN, ← Value.outsAt0_sweep]
  refine (out_eq m c ⟨Value.pt8Of i, hN⟩ _).trans ?_
  have e0 : (⟨Value.pt8Of i, hN⟩ : Fin cfg0.N).val = (i 0).val / 256 := hp
  rw [e0]
  have a1 : (i 0).val / 256 / 16 = (i 0).val / 4096 := by omega
  have a2 : 2 * ((i 0).val / 256 % 16) + (chk (Value.loc8Of i 0)).val = (i 0).val / 128 % 32 := by
    show 2 * ((i 0).val / 256 % 16) + (i 0).val % 256 / 128 = _; omega
  have a3 : hd (Value.loc8Of i 1) = hd (i 1) := by
    apply Fin.ext; show (i 1).val % 1024 / 128 = (i 1).val / 128; omega
  have a4 : (lo (Value.loc8Of i 0)) = lo (i 0) := by apply Fin.ext; show (i 0).val % 256 % 128 = (i 0).val % 128; omega
  have a5 : (lo (Value.loc8Of i 1)) = lo (i 1) := by apply Fin.ext; show (i 1).val % 1024 % 128 = (i 1).val % 128; omega
  rw [a1, a2, a3, a4, a5]

end Cert.KernelIdeal.Ret
-- ==== Proof.Ref.lean ====
module
public import proofs.«01_k».proof.Proof.Gen.ReferenceIdeal.Run
public import proofs.«01_k».proof.Proof.Spec
public import Idealize.ShloMosaic.Lib.StableHlo.ReadAt
public import Idealize.ShloMosaic.Lib.Pointwise
public import Idealize.ShloMosaic.Lib.DynamicIndex

@[expose] public section
noncomputable section
namespace Cert.ReferenceIdeal.Ret
open Idealize.ShloMosaic Idealize.ShloMosaic.TcCoe Cert.Ret Cert.ReferenceIdeal Cert.ReferenceIdeal.Gen Cert.ReferenceIdeal.Value Idealize.ShloMosaic.StableHlo

/-- An array as sequences of chunks of heads. -/
theorem rs_at (x : Arr) (h1 : S16384x1024.ShapeCasts S4x4096x8x128) (h2 : S4x4096x8x128.ShapeCasts S4x32x128x8x128)
    (b : Fin 4) (n : Fin 32) (i : Fin 128) (h : Fin 8) (d : Fin 128) :
    shapeCast S4x32x128x8x128 (shapeCast S4x4096x8x128 x h1) h2 (ix5 b n i h d) = blkN x (32 * b.val + n.val) h i d := by
  refine (shapeCast_apply _ h2 _ (ix4 b (⟨128 * n.val + i.val, by omega⟩ : Fin 4096) h d) ?_).trans
    (shapeCast_apply x h1 _ _ ?_)
  · refine (Shape.rowMajor_val_four _).trans (Eq.trans ?_ (Shape.rowMajor_val_five _).symm)
    show ((b.val * 4096 + (128 * n.val + i.val)) * 8 + h.val) * 128 + d.val = (((b.val * 32 + n.val) * 128 + i.val) * 8 + h.val) * 128 + d.val
    omega
  · refine (Shape.rowMajor_val_two _).trans (Eq.trans ?_ (Shape.rowMajor_val_four _).symm)
    show (128 * (32 * b.val + n.val) + i.val) % 16384 * 1024 + (128 * h.val + d.val) = ((b.val * 4096 + (128 * n.val + i.val)) * 8 + h.val) * 128 + d.val
    omega

/-- Keys by values of every chunk. -/
theorem kv_at (x y : FVec Ideal S4x32x128x8x128 .f32) (b : Fin 4) (n : Fin 32) (h : Fin 8) (d e : Fin 128) :
    (Host.dotGeneral dot_S4x32x128x8x128_S4x32x128x8x128_S4x32x8x128x128_2_2_4_4_013_013 none x y (ix5 b n h d e) : EReal)
      = ∑ j : Fin 128, (x (ix5 b n j h d) * y (ix5 b n j h e) : EReal) := by
  pointwise [dot_S4x32x128x8x128_S4x32x128x8x128_S4x32x8x128x128_2_2_4_4_013_013]

/-- Queries by keys of every chunk. -/
theorem qk_at (x y : FVec Ideal S4x32x128x8x128 .f32) (b : Fin 4) (n : Fin 32) (h : Fin 8) (i j : Fin 128) :
    (Host.dotGeneral dot_S4x32x128x8x128_S4x32x128x8x128_S4x32x8x128x128_4_4_2_2_013_013 none x y (ix5 b n h i j) : EReal)
      = ∑ d : Fin 128, (x (ix5 b n i h d) * y (ix5 b n j h d) : EReal) := by
  pointwise [dot_S4x32x128x8x128_S4x32x128x8x128_S4x32x8x128x128_4_4_2_2_013_013]

/-- Scores by values. -/
theorem sv_at (x : FVec Ideal S4x32x128x8x128 .f32) (y : FVec Ideal S4x32x8x128x128 .f32) (b : Fin 4) (n : Fin 32) (h : Fin 8) (e i : Fin 128) :
    (Host.dotGeneral dot_S4x32x128x8x128_S4x32x8x128x128_S4x32x8x128x128_2_4_4_3_013_012 none x y (ix5 b n h e i) : EReal)
      = ∑ j : Fin 128, (y (ix5 b n h i j) * x (ix5 b n j h e) : EReal) := by
  pointwise [dot_S4x32x128x8x128_S4x32x8x128x128_S4x32x8x128x128_2_4_4_3_013_012]
  exact Finset.sum_congr rfl fun j _ => mul_comm _ _

/-- Queries by states. -/
theorem qs_at (x : FVec Ideal S4x32x8x128x128 .f32) (y : FVec Ideal S4x32x128x8x128 .f32) (b : Fin 4) (n : Fin 32) (h : Fin 8) (e i : Fin 128) :
    (Host.dotGeneral dot_S4x32x8x128x128_S4x32x128x8x128_S4x32x8x128x128_3_4_4_2_012_013 none x y (ix5 b n h e i) : EReal)
      = ∑ d : Fin 128, (y (ix5 b n i h d) * x (ix5 b n h d e) : EReal) := by
  pointwise [dot_S4x32x8x128x128_S4x32x128x8x128_S4x32x8x128x128_3_4_4_2_012_013]
  exact Finset.sum_congr rfl fun j _ => mul_comm _ _

variable (m : (ℓ : Loc nD τ sig) → Buf (Elt Ideal) ℓ) (c : Dev nD)

/-- The reference's queries, keys, values and gates. -/
def aq : Arr := m ((c : Thread nD τ).loc main_arg0)
def ak : Arr := m ((c : Thread nD τ).loc main_arg1)
def av : Arr := m ((c : Thread nD τ).loc main_arg2)
def ag : Arr := m ((c : Thread nD τ).loc main_arg3)

abbrev E (r : Ref sig .tc) := entryContents preI m c (Proc.devRef .tc r)

/-- The decays into a chunk. -/
theorem e_xi (h : Fin 8) (i : Fin 128) : (E m c main_v38 (ix2 h i) : EReal) = xiT h i := by
  simp only [E, entryContents, afterL_cons, afterL_nil]
  after_reads_at
  rfl
/-- The decays out of a chunk. -/
theorem e_zeta (h : Fin 8) (i : Fin 128) : (E m c main_v46 (ix2 h i) : EReal) = zetaT h i := by
  simp only [E, entryContents, afterL_cons, afterL_nil]
  after_reads_at
  rfl
/-- The decays over a chunk. -/
theorem e_cd (h : Fin 8) : (E m c main_v67_1 (ix1 h) : EReal) = cdT h := by
  simp only [E, entryContents, afterL_cons, afterL_nil]
  after_reads_at
  rfl
/-- The decays within a chunk. -/
theorem e_dec (h : Fin 8) (i j : Fin 128) : (E m c main_v30 (ix3 h i j) : EReal) = decT h i j := by
  simp only [E, entryContents, afterL_cons, afterL_nil]
  after_reads_at
  rfl
/-- The states the loop begins with are zero. -/
theorem e_zero (b : Fin 4) (h : Fin 8) (d e : Fin 128) : (E m c main_v67_3 (ix4 b h d e) : EReal) = (0 : EReal) := by
  simp only [E, entryContents, afterL_cons, afterL_nil]
  after_reads_simp
  show broadcastInDim S4x8x128x128 ![] bcast_S_S4x8x128x128 (constant (F := Ideal) S_ FTy.f32 0#32) (ix4 b h d e) = (0 : EReal)
  pointwise
/-- The queries, by sequences, chunks and heads. -/
theorem e_q (b : Fin 4) (n : Fin 32) (i : Fin 128) (h : Fin 8) (d : Fin 128) : (E m c main_v50 (ix5 b n i h d) : EReal) = blkN (aq m c) (32 * b.val + n.val) h i d := by
  simp only [E, entryContents, afterL_cons, afterL_nil]
  after_reads_simp
  exact rs_at (aq m c) _ _ b n i h d
/-- The keys, by sequences, chunks and heads. -/
theorem e_k (b : Fin 4) (n : Fin 32) (i : Fin 128) (h : Fin 8) (d : Fin 128) : (E m c main_v51 (ix5 b n i h d) : EReal) = blkN (ak m c) (32 * b.val + n.val) h i d := by
  simp only [E, entryContents, afterL_cons, afterL_nil]
  after_reads_simp
  exact rs_at (ak m c) _ _ b n i h d
/-- The values, by sequences, chunks and heads. -/
theorem e_v (b : Fin 4) (n : Fin 32) (i : Fin 128) (h : Fin 8) (d : Fin 128) : (E m c main_v52 (ix5 b n i h d) : EReal) = blkN (av m c) (32 * b.val + n.val) h i d := by
  simp only [E, entryContents, afterL_cons, afterL_nil]
  after_reads_simp
  exact rs_at (av m c) _ _ b n i h d

/-- What every chunk adds to the states, of keys, values and decays. -/
def KV (K V : FVec Ideal S4x32x128x8x128 .f32) (Z : FVec Ideal S8x128 .f32) : FVec Ideal S32x4x8x128x128 .f32 :=
  transpose S32x4x8x128x128 [1, 0, 2, 3, 4]
    (Host.dotGeneral dot_S4x32x128x8x128_S4x32x128x8x128_S4x32x8x128x128_2_2_4_4_013_013 none
      (mulf K (broadcastInDim S4x32x128x8x128 ![0, 1, 2, 3, 4] bcast_S1x1x128x8x1_S4x32x128x8x128_0_1_2_3_4
        (broadcastInDim S1x1x128x8x1 ![2, 3] bcast_S128x8_S1x1x128x8x1_2_3 (transpose S128x8 [1, 0] Z transposes_S8x128_S128x8_1_0))))
      V) transposes_S4x32x8x128x128_S32x4x8x128x128_1_0_2_3_4

/-- The loop's summands are `KV` of the keys, the values and the decays. -/
theorem E_kv : E m c main_v67_0 = KV (E m c main_v51) (E m c main_v52) (E m c main_v46) := by
  simp only [E, entryContents, afterL_cons, afterL_nil]
  after_reads_simp
  rfl

/-- What a chunk adds to its head's state. -/
theorem kv_row (K V : FVec Ideal S4x32x128x8x128 .f32) (Z : FVec Ideal S8x128 .f32) (b : Fin 4) (n : Fin 32) (h : Fin 8) (d e : Fin 128) :
    (KV K V Z (ix5 n b h d e) : EReal) = ∑ j : Fin 128, (K (ix5 b n j h d) * Z (ix2 h j) * V (ix5 b n j h e) : EReal) := by
  unfold KV
  pointwise [dot_S4x32x128x8x128_S4x32x128x8x128_S4x32x8x128x128_2_2_4_4_013_013]

/-- The entry's stack holds what each chunk adds. -/
theorem e_kv (b : Fin 4) (n : Fin 32) (h : Fin 8) (d e : Fin 128) : (E m c main_v67_0 (ix5 n b h d e) : EReal)
    = ∑ j : Fin 128, blkN (ak m c) (32 * b.val + n.val) h j d * zetaT h j * blkN (av m c) (32 * b.val + n.val) h j e := by
  rw [E_kv]
  refine (kv_row _ _ _ b n h d e).trans (Finset.sum_congr rfl fun j _ => ?_)
  exact congrArg₂ _ (congrArg₂ _ (e_k m c b n j h d) (e_zeta m c h j)) (e_v m c b n j h e)

/-- Every chunk's own tokens, of queries, keys, values and decays. -/
def INNER (Q K V : FVec Ideal S4x32x128x8x128 .f32) (D : FVec Ideal S8x128x128 .f32) : FVec Ideal S4x32x128x8x128 .f32 :=
  transpose S4x32x128x8x128 [0, 1, 4, 2, 3]
    (Host.dotGeneral dot_S4x32x128x8x128_S4x32x8x128x128_S4x32x8x128x128_2_4_4_3_013_012 none V
      (mulf (Host.dotGeneral dot_S4x32x128x8x128_S4x32x128x8x128_S4x32x8x128x128_4_4_2_2_013_013 none Q K)
        (broadcastInDim S4x32x8x128x128 ![0, 1, 2, 3, 4] bcast_S1x1x8x128x128_S4x32x8x128x128_0_1_2_3_4
          (broadcastInDim S1x1x8x128x128 ![2, 3, 4] bcast_S8x128x128_S1x1x8x128x128_2_3_4 D))))
    transposes_S4x32x8x128x128_S4x32x128x8x128_0_1_4_2_3

/-- The chunks' own part is `INNER` of its four arguments. -/
theorem E_inner : E m c main_v58 = INNER (E m c main_v50) (E m c main_v51) (E m c main_v52) (E m c main_v30) := by
  simp only [E, entryContents, afterL_cons, afterL_nil]
  after_reads_simp
  rfl

/-- A chunk's own tokens. -/
theorem inner_row (Q K V : FVec Ideal S4x32x128x8x128 .f32) (D : FVec Ideal S8x128x128 .f32) (b : Fin 4) (n : Fin 32) (h : Fin 8) (i e : Fin 128) :
    (INNER Q K V D (ix5 b n i h e) : EReal)
    = ∑ j : Fin 128, ((∑ d : Fin 128, (Q (ix5 b n i h d) * K (ix5 b n j h d) : EReal)) * D (ix3 h i j) * V (ix5 b n j h e) : EReal) := by
  unfold INNER
  pointwise [dot_S4x32x128x8x128_S4x32x8x128x128_S4x32x8x128x128_2_4_4_3_013_012, dot_S4x32x128x8x128_S4x32x128x8x128_S4x32x8x128x128_4_4_2_2_013_013]
  exact Finset.sum_congr rfl fun j _ => mul_comm _ _

/-- A chunk's own part, at an index. -/
theorem e_inner (b : Fin 4) (n : Fin 32) (h : Fin 8) (i e : Fin 128) : (E m c main_v58 (ix5 b n i h e) : EReal)
    = ∑ j : Fin 128, (∑ d : Fin 128, blkN (aq m c) (32 * b.val + n.val) h i d * blkN (ak m c) (32 * b.val + n.val) h j d) * decT h i j
        * blkN (av m c) (32 * b.val + n.val) h j e := by
  rw [E_inner]
  refine (inner_row _ _ _ _ b n h i e).trans (Finset.sum_congr rfl fun j _ => ?_)
  refine congrArg₂ _ (congrArg₂ _ (Finset.sum_congr rfl fun d _ => ?_) (e_dec m c h i j)) (e_v m c b n j h e)
  exact congrArg₂ _ (e_q m c b n i h d) (e_k m c b n j h d)

/-- Member `n` of a stack, sliced out. -/
theorem slice_at (x : FVec Ideal S32x4x8x128x128 .f32) (start : Fin 5 → Int) (h0 : S32x4x8x128x128.Slices (fun _ => 0) S1x4x8x128x128)
    (n : Fin 32) (hs : ∀ a, start a = ((![n.val, 0, 0, 0, 0] : Fin 5 → Nat) a : Int)) (b : Fin 4) (h : Fin 8) (d e : Fin 128) :
    Host.dynamicSlice S1x4x8x128x128 x start h0 (ix5 (0 : Fin 1) b h d e) = x (ix5 n b h d e) := by
  have hoff : S32x4x8x128x128.Slices ![n.val, 0, 0, 0, 0] S1x4x8x128x128 := by
    refine ⟨rfl, fun a => ?_⟩
    fin_cases a
    · show n.val + 1 ≤ 32; omega
    all_goals exact Nat.le_of_eq (Nat.zero_add _)
  rw [Host.dynamicSlice_eq_extractStridedSlice _ x start _ h0 hoff hs]
  refine congrArg x ?_
  funext a; apply Fin.ext
  fin_cases a
  · show n.val + 0 = n.val; omega
  all_goals exact Nat.zero_add _

/-- A stack after its member `n` was written. -/
theorem update_at (x : FVec Ideal S32x4x8x128x128 .f32) (u : FVec Ideal S1x4x8x128x128 .f32) (start : Fin 5 → Int)
    (h0 : S32x4x8x128x128.Slices (fun _ => 0) S1x4x8x128x128)
    (n : Fin 32) (hs : ∀ a, start a = ((![n.val, 0, 0, 0, 0] : Fin 5 → Nat) a : Int)) (n' : Fin 32) (b : Fin 4) (h : Fin 8) (d e : Fin 128) :
    Host.dynamicUpdateSlice x u start h0 (ix5 n' b h d e) = if n' = n then u (ix5 (0 : Fin 1) b h d e) else x (ix5 n' b h d e) := by
  have hoff : S32x4x8x128x128.Slices ![n.val, 0, 0, 0, 0] S1x4x8x128x128 := by
    refine ⟨rfl, fun a => ?_⟩
    fin_cases a
    · show n.val + 1 ≤ 32; omega
    all_goals exact Nat.le_of_eq (Nat.zero_add _)
  rw [Host.dynamicUpdateSlice_eq_updateSlice x u start h0 ![n.val, 0, 0, 0, 0] (fun a => by have := hoff.2 a; rw [hs a]; omega) hoff]
  pointwise
  by_cases e1 : n' = n
  · subst e1
    rw [dif_pos ⟨le_refl _, by omega⟩, if_pos rfl]
    exact congrArg u (congrArg (fun z => ix5 z b h d e) (Fin.ext (Nat.sub_self _)))
  · rw [dif_neg (fun hh => e1 (Fin.ext (by omega))), if_neg e1]

/-- The carried buffers before trip `k`. -/
abbrev A (k : Nat) (r : Ref sig .tc) := (STEP^[k] (entryContents preI m c)) (Proc.devRef .tc r)

/-- No trip changes the summands. -/
theorem A_kv : ∀ k, A m c k main_v67_0 = E m c main_v67_0
  | 0 => rfl
  | k + 1 => by
    show (STEP^[k + 1] (entryContents preI m c)) _ = _
    rw [Function.iterate_succ_apply', STEP_main_v67_0]; exact A_kv k
/-- No trip changes the decays. -/
theorem A_cd : ∀ k, A m c k main_v67_1 = E m c main_v67_1
  | 0 => rfl
  | k + 1 => by
    show (STEP^[k + 1] (entryContents preI m c)) _ = _
    rw [Function.iterate_succ_apply', STEP_main_v67_1]; exact A_cd k
/-- The counter before trip `k`. -/
theorem A_ctr (k : Nat) : A m c k main_v67_2 = fun _ => Scf.iv 0#32 1#32 k :=
  (atK_agree m c k main_v67_2 (by decide)).symm.trans (atK_ctr m c k)

/-- The counter, as a number. -/
theorem iv_toInt : ∀ k : Fin 32, (Scf.iv 0#32 1#32 k.val).toInt = (k.val : Int) := by decide

/-- Where a trip reads its member and writes the state. -/
theorem start_at (k : Fin 32) (x : (⟨S_, .i32⟩ : BufTy).Contents (Elt Ideal)) (hx : x = fun _ => Scf.iv 0#32 1#32 k.val) (a : Fin 5) :
    (((![x, constantI S_ 32 0#32, constantI S_ 32 0#32, constantI S_ 32 0#32, constantI S_ 32 0#32] : Fin 5 → (⟨S_, .i32⟩ : BufTy).Contents (Elt Ideal)) a
      (Shape.Idx.first h_S_)).toInt) = ((![k.val, 0, 0, 0, 0] : Fin 5 → Nat) a : Int) := by
  subst hx
  fin_cases a
  · exact iv_toInt k
  all_goals rfl

/-- One trip's state at a place. -/
theorem step_row (S : FVec Ideal S4x8x128x128 .f32) (cd : FVec Ideal S8 .f32) (u : FVec Ideal S1x4x8x128x128 .f32) (b : Fin 4) (h : Fin 8) (d e : Fin 128) :
    (addf (mulf S (broadcastInDim S4x8x128x128 ![0, 1, 2, 3] bcast_S1x8x1x1_S4x8x128x128_0_1_2_3 (broadcastInDim S1x8x1x1 ![1] bcast_S8_S1x8x1x1_1 cd)))
      (shapeCast S4x8x128x128 u shapeCasts_S1x4x8x128x128_S4x8x128x128) (ix4 b h d e) : EReal)
    = S (ix4 b h d e) * cd (ix1 h) + u (ix5 (0 : Fin 1) b h d e) := by
  pointwise

/-- The state before trip `k`. -/
theorem A_state : ∀ k, k ≤ 32 → ∀ (b : Fin 4) (h : Fin 8) (d e : Fin 128),
    (A m c k main_v67_3 (ix4 b h d e) : EReal) = St (ak m c) (av m c) b.val h k d e
  | 0, _, b, h, d, e => e_zero m c b h d e
  | k + 1, hk, b, h, d, e => by
    show ((STEP^[k + 1] (entryContents preI m c)) (Proc.devRef .tc main_v67_3) (ix4 b h d e) : EReal) = _
    rw [Function.iterate_succ_apply', STEP_main_v67_3]
    unfold step_main_v67_3
    refine (step_row _ _ _ b h d e).trans ?_
    refine congrArg₂ _ (congrArg₂ _ (A_state k (by omega) b h d e) ((congrFun (A_cd m c k) _).trans (e_cd m c h))) ?_
    refine (slice_at _ _ _ (⟨k, by omega⟩ : Fin 32) (start_at ⟨k, by omega⟩ _ (A_ctr m c k)) b h d e).trans ?_
    exact (congrFun (A_kv m c k) _).trans (e_kv m c b ⟨k, by omega⟩ h d e)

/-- A state as one member of a stack. -/
theorem member_row (S : FVec Ideal S4x8x128x128 .f32) (b : Fin 4) (h : Fin 8) (d e : Fin 128) :
    broadcastInDim S1x4x8x128x128 ![1, 2, 3, 4] bcast_S4x8x128x128_S1x4x8x128x128_1_2_3_4 S (ix5 (0 : Fin 1) b h d e) = S (ix4 b h d e) := by
  pointwise

/-- The stack before trip `k` holds the states of the trips before. -/
theorem A_prev : ∀ k, k ≤ 32 → ∀ (n : Fin 32), n.val < k → ∀ (b : Fin 4) (h : Fin 8) (d e : Fin 128),
    (A m c k main_v67_4 (ix5 n b h d e) : EReal) = St (ak m c) (av m c) b.val h n.val d e
  | 0, _, n, hn, _, _, _, _ => absurd hn (Nat.not_lt_zero _)
  | k + 1, hk, n, hn, b, h, d, e => by
    show ((STEP^[k + 1] (entryContents preI m c)) (Proc.devRef .tc main_v67_4) (ix5 n b h d e) : EReal) = _
    rw [Function.iterate_succ_apply', STEP_main_v67_4]
    unfold step_main_v67_4
    refine (update_at _ _ _ _ (⟨k, by omega⟩ : Fin 32) (start_at ⟨k, by omega⟩ _ (A_ctr m c k)) n b h d e).trans ?_
    by_cases hnk : n = ⟨k, by omega⟩
    · rw [if_pos hnk]
      refine (member_row _ b h d e).trans ((A_state m c k (by omega) b h d e).trans ?_)
      rw [hnk]
    · rw [if_neg hnk]
      exact A_prev k (by omega) n (by have : n.val ≠ k := fun e1 => hnk (Fin.ext e1); omega) b h d e

/-- What the loop does not write is as at its entry. -/
theorem keep (r : Ref sig .tc) (h1 : r ∉ condOps_W) (h2 : r ∉ while0Ops0_W) (h3 : r ∉ while0Ops0_1_W) (h4 : r ∉ while0Ops0_2_W)
    (h5 : r ∉ while0Ops0_3_W) : ∀ k, atK m k c (Proc.devRef .tc r) = E m c r
  | 0 => rfl
  | k + 1 => by
    rw [show atK m (k + 1) c = afterL bodyI (after condOps (atK m k c)) from rfl]
    simp only [afterL_cons, afterL_nil]
    rw [after_of_writes_sub _ _ while0Ops0_3_writes h5, after_of_writes_sub _ _ while0Ops0_2_writes h4, after_of_writes_sub _ _ while0Ops0_1_writes h3,
      after_of_writes_sub _ _ while0Ops0_writes h2, after_of_writes_sub _ _ condOps_writes h1]
    exact keep r h1 h2 h3 h4 h5 k

/-- Every token's sum of its chunk's part and the earlier chunks' part, of the chunks' parts, the stack of states, the queries and the decays. -/
def SUMS (I : FVec Ideal S4x32x128x8x128 .f32) (P : FVec Ideal S32x4x8x128x128 .f32) (Q : FVec Ideal S4x32x128x8x128 .f32) (X : FVec Ideal S8x128 .f32) :
    FVec Ideal S4x32x128x8x128 .f32 :=
  addf I (transpose S4x32x128x8x128 [0, 1, 4, 2, 3]
    (Host.dotGeneral dot_S4x32x8x128x128_S4x32x128x8x128_S4x32x8x128x128_3_4_4_2_012_013 none
      (transpose S4x32x8x128x128 [1, 0, 2, 3, 4] P transposes_S32x4x8x128x128_S4x32x8x128x128_1_0_2_3_4)
      (mulf Q (broadcastInDim S4x32x128x8x128 ![0, 1, 2, 3, 4] bcast_S1x1x128x8x1_S4x32x128x8x128_0_1_2_3_4
        (broadcastInDim S1x1x128x8x1 ![2, 3] bcast_S128x8_S1x1x128x8x1_2_3 (transpose S128x8 [1, 0] X transposes_S8x128_S128x8_1_0)))))
    transposes_S4x32x8x128x128_S4x32x128x8x128_0_1_4_2_3)

/-- A row of the sums: the chunk's own part and the state's. -/
theorem sums_row (I : FVec Ideal S4x32x128x8x128 .f32) (P : FVec Ideal S32x4x8x128x128 .f32) (Q : FVec Ideal S4x32x128x8x128 .f32) (X : FVec Ideal S8x128 .f32)
    (b : Fin 4) (n : Fin 32) (h : Fin 8) (i e : Fin 128) :
    (SUMS I P Q X (ix5 b n i h e) : EReal)
    = I (ix5 b n i h e) + ∑ d : Fin 128, (Q (ix5 b n i h d) * X (ix2 h i) * P (ix5 n b h d e) : EReal) := by
  unfold SUMS
  pointwise [dot_S4x32x8x128x128_S4x32x128x8x128_S4x32x8x128x128_3_4_4_2_012_013]
  exact congrArg₂ _ rfl (Finset.sum_congr rfl fun j _ => mul_comm _ _)

/-- The means over the heads' columns, and the normalised rows. -/
def MEAN (y : FVec Ideal S4x4096x8x128 .f32) : FVec Ideal S4x4096x8x1 .f32 :=
  Host.divf (broadcastInDim S4x4096x8x1 ![0, 1, 2] bcast_S4x4096x8_S4x4096x8x1_0_1_2
      (Host.reduceAdd y (constant S_ .f32 0x00000000#32) reducesTo_S4x4096x8x128_S4x4096x8_d3 h_S_))
    (broadcastInDim S4x4096x8x1 ![] bcast_S_S4x4096x8x1 (constant S_ .f32 0x43000000#32))
def NORM (y : FVec Ideal S4x4096x8x128 .f32) : FVec Ideal S4x4096x8x128 .f32 :=
  mulf (subf y (broadcastInDim S4x4096x8x128 ![0, 1, 2, 3] bcast_S4x4096x8x1_S4x4096x8x128_0_1_2_3 (MEAN y)))
    (broadcastInDim S4x4096x8x128 ![0, 1, 2, 3] bcast_S4x4096x8x1_S4x4096x8x128_0_1_2_3
      (Host.rsqrt (addf (MEAN (mulf (subf y (broadcastInDim S4x4096x8x128 ![0, 1, 2, 3] bcast_S4x4096x8x1_S4x4096x8x128_0_1_2_3 (MEAN y)))
          (subf y (broadcastInDim S4x4096x8x128 ![0, 1, 2, 3] bcast_S4x4096x8x1_S4x4096x8x128_0_1_2_3 (MEAN y)))))
        (broadcastInDim S4x4096x8x1 ![] bcast_S_S4x4096x8x1 (constant S_ .f32 0x3727C5AC#32)))))

/-- A head's mean, at an index. -/
theorem mean_at (y : FVec Ideal S4x4096x8x128 .f32) (b : Fin 4) (t : Fin 4096) (h : Fin 8) :
    (MEAN y (ix4 b t h (0 : Fin 1)) : EReal) = mean fun e => y (ix4 b t h e) := by
  unfold MEAN
  pointwise
  rfl
/-- A head's normalised row, at an index. -/
theorem norm_at (y : FVec Ideal S4x4096x8x128 .f32) (b : Fin 4) (t : Fin 4096) (h : Fin 8) (e : Fin 128) :
    (NORM y (ix4 b t h e) : EReal) = lnRow (fun e => y (ix4 b t h e)) e := by
  unfold NORM
  pointwise
  simp only [mean_at]
  pointwise
  simp only [mean_at]
  rfl

/-- The result, of the buffers as the loop leaves them. -/
theorem post_eq (X : Valuation τ sig (Elt Ideal)) : after hostOps0_5 X (Proc.devRef .tc main_v97)
    = (truncf .bf16 (mulf (F := Ideal) (φ := .f32) (X (Proc.devRef .tc main_arg3)) (shapeCast S16384x1024
        (NORM (shapeCast S4x4096x8x128 (SUMS (X (Proc.devRef .tc main_v58)) (X (Proc.devRef .tc main_v67_4)) (X (Proc.devRef .tc main_v50)) (X (Proc.devRef .tc main_v38)))
          shapeCasts_S4x32x128x8x128_S4x4096x8x128)) shapeCasts_S4x4096x8x128_S16384x1024)) bitsLt_bf16_f32 : FVec Ideal S16384x1024 .bf16) := by
  after_reads_simp
  rfl

/-- Every sum, of the buffers as the loop leaves them. -/
theorem sums_at (b : Fin 4) (n : Fin 32) (h : Fin 8) (i e : Fin 128) :
    (SUMS (atK m 32 c (Proc.devRef .tc main_v58)) (atK m 32 c (Proc.devRef .tc main_v67_4)) (atK m 32 c (Proc.devRef .tc main_v50)) (atK m 32 c (Proc.devRef .tc main_v38))
      (ix5 b n i h e) : EReal)
    = rowM (blkN (aq m c) (32 * b.val + n.val) h) (blkN (ak m c) (32 * b.val + n.val) h) (blkN (av m c) (32 * b.val + n.val) h)
        (decT h) (fun i _ => xiT h i) (St (ak m c) (av m c) b.val h n.val) i e := by
  refine (sums_row _ _ _ _ b n h i e).trans ?_
  unfold rowM
  refine congrArg₂ _ ((congrFun (keep m c main_v58 (by decide) (by decide) (by decide) (by decide) (by decide) 32) _).trans (e_inner m c b n h i e))
    (Finset.sum_congr rfl fun d _ => ?_)
  refine congrArg₂ _ (congrArg₂ _
    ((congrFun (keep m c main_v50 (by decide) (by decide) (by decide) (by decide) (by decide) 32) _).trans (e_q m c b n i h d))
    ((congrFun (keep m c main_v38 (by decide) (by decide) (by decide) (by decide) (by decide) 32) _).trans (e_xi m c h i))) ?_
  exact (congrFun (atK_agree m c 32 main_v67_4 (by decide)) _).trans (A_prev m c 32 (le_refl _) n n.isLt b h d e)

/-- The result of the layer norm read back at a row and column. -/
theorem out_at (g : FVec Ideal S16384x1024 .f32) (y : FVec Ideal S4x32x128x8x128 .f32) (r : Fin 16384) (d : Fin 1024) :
    (truncf .bf16 (mulf (F := Ideal) (φ := .f32) g (shapeCast S16384x1024
        (NORM (shapeCast S4x4096x8x128 y shapeCasts_S4x32x128x8x128_S4x4096x8x128)) shapeCasts_S4x4096x8x128_S16384x1024)) bitsLt_bf16_f32 (ix2 r d) : EReal)
    = g (ix2 r d) * lnRow (fun e => y (ix5 (⟨r.val / 4096, by omega⟩ : Fin 4) (⟨r.val / 128 % 32, by omega⟩ : Fin 32) (lo r) (hd d) e)) (lo d) := by
  refine congrArg (fun z => (g (ix2 r d) * z : EReal)) ?_
  refine (shapeCast_apply _ _ _ (ix4 (⟨r.val / 4096, by omega⟩ : Fin 4) (⟨r.val % 4096, by omega⟩ : Fin 4096) (hd d) (lo d)) ?_).trans ?_
  · refine (Shape.rowMajor_val_four _).trans (Eq.trans ?_ (Shape.rowMajor_val_two _).symm)
    show ((r.val / 4096 * 4096 + r.val % 4096) * 8 + d.val / 128) * 128 + d.val % 128 = r.val * 1024 + d.val
    omega
  refine (norm_at _ _ _ _ _).trans ?_
  refine congrArg (fun f => lnRow f (lo d)) (funext fun e => ?_)
  refine shapeCast_apply _ _ _ _ ?_
  refine (Shape.rowMajor_val_five _).trans (Eq.trans ?_ (Shape.rowMajor_val_four _).symm)
  show (((r.val / 4096 * 32 + r.val / 128 % 32) * 128 + r.val % 128) * 8 + d.val / 128) * 128 + e.val
    = ((r.val / 4096 * 4096 + r.val % 4096) * 8 + d.val / 128) * 128 + e.val
  omega

/-- The gates are the last argument. -/
theorem e_g : E m c main_arg3 = ag m c := by
  simp only [E, entryContents, afterL_cons, afterL_nil]
  after_reads_simp
  rfl

/-- The reference's result at a row and column. -/
theorem ref_at (r : Fin 16384) (d : Fin 1024) :
    (finalContents condOps preI bodyI postI 32 m c (Proc.devRef .tc main_v97) (ix2 r d) : EReal)
    = outM (aq m c) (ak m c) (av m c) (ag m c) (r.val / 4096) (r.val / 128 % 32) (hd d) (lo r) (lo d) := by
  have e0 : finalContents condOps preI bodyI postI 32 m c (Proc.devRef .tc main_v97)
      = after hostOps0_5 (after condOps (atK m 32 c)) (Proc.devRef .tc main_v97) := rfl
  rw [e0, post_eq]
  refine (out_at _ _ r d).trans ?_
  have k : ∀ r : Ref sig .tc, r ∉ condOps_W → after condOps (atK m 32 c) (Proc.devRef .tc r) = atK m 32 c (Proc.devRef .tc r) :=
    fun r hr => after_of_writes_sub _ _ condOps_writes hr
  rw [k main_arg3 (by decide), k main_v58 (by decide), k main_v67_4 (by decide), k main_v50 (by decide), k main_v38 (by decide)]
  rw [keep m c main_arg3 (by decide) (by decide) (by decide) (by decide) (by decide) 32, e_g]
  unfold outM
  refine congrArg₂ _ (congrArg (ag m c) ?_) (congrArg (fun f => lnRow f (lo d)) (funext fun e => sums_at m c _ _ _ _ _))
  funext a; apply Fin.ext
  fin_cases a
  · show r.val = (128 * (32 * (r.val / 4096) + r.val / 128 % 32) + r.val % 128) % 16384; omega
  · show d.val = 128 * (d.val / 128) + d.val % 128; omega

/-- What the lines after the loop write. -/
abbrev hostOps0_5_W : List (Ref sig .tc) := [main_v68, main_v69, main_v70, main_v71, main_v72, main_v73, main_v74, main_v75, main_v76, main_cst_9, main_v77, main_v78, main_cst_10, main_v79, main_v80, main_v81, main_v82, main_v83, main_cst_11, main_v84, main_v85, main_cst_12, main_v86, main_v87, main_v88, main_v89, main_cst_13, main_v90, main_v91, main_v92, main_v93, main_v94, main_v95, main_v96, main_v97]
/-- The lines after the loop write nothing else. -/
theorem hostOps0_5_writes : (hostOps0_5 : List (HloOp τ sig (Elt Ideal))).Forall fun op => op.writes ⊆ (hostOps0_5_W.map (Proc.devRef (τ := τ) .tc)).toFinset :=
  StableHlo.forall_writes_sub_of_map rfl

/-- An argument is written by nothing. -/
theorem arg_kept (r : Ref sig .tc) (h0 : ∀ l ∈ ([hostOps0_W, hostOps0_1_W, hostOps0_2_W, hostOps0_3_W, hostOps0_4_W, hostOps0_5_W, condOps_W,
      while0Ops0_W, while0Ops0_1_W, while0Ops0_2_W, while0Ops0_3_W] : List (List (Ref sig .tc))), r ∉ l) :
    finalContents condOps preI bodyI postI 32 m c (Proc.devRef .tc r) = m ((c : Thread nD τ).loc r) := by
  have e0 : finalContents condOps preI bodyI postI 32 m c (Proc.devRef .tc r)
      = after hostOps0_5 (after condOps (atK m 32 c)) (Proc.devRef .tc r) := rfl
  rw [e0, after_of_writes_sub _ _ hostOps0_5_writes (h0 _ (by simp)), after_of_writes_sub _ _ condOps_writes (h0 _ (by simp)),
    keep m c r (h0 _ (by simp)) (h0 _ (by simp)) (h0 _ (by simp)) (h0 _ (by simp)) (h0 _ (by simp)) 32]
  simp only [E, entryContents, afterL_cons, afterL_nil]
  rw [after_of_writes_sub _ _ hostOps0_4_writes (h0 _ (by simp)), after_of_writes_sub _ _ hostOps0_3_writes (h0 _ (by simp)),
    after_of_writes_sub _ _ hostOps0_2_writes (h0 _ (by simp)), after_of_writes_sub _ _ hostOps0_1_writes (h0 _ (by simp)),
    after_of_writes_sub _ _ hostOps0_writes (h0 _ (by simp))]

variable (ρ : Dev nD → PrngReg)

/-- The reference runs, ends with its result at the retention's value, and leaves its arguments. -/
theorem run : θ_run (defs (F := Ideal)) (onTc (τ := τ) (main (F := Ideal))) ⟨m, fun _ => 0, ρ⟩ fun r => ∀ c : Dev nD,
      r.2.mem ((c : Thread nD τ).loc main_v97) = finalContents condOps preI bodyI postI 32 m c (Proc.devRef .tc main_v97)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run (defs (F := Ideal)) _ _).mono (fun r h c => ⟨h c main_v97 rfl,
    (h c main_arg0 rfl).trans (arg_kept m c _ (by decide)), (h c main_arg1 rfl).trans (arg_kept m c _ (by decide)),
    (h c main_arg2 rfl).trans (arg_kept m c _ (by decide)), (h c main_arg3 rfl).trans (arg_kept m c _ (by decide))⟩) (run_fold m ρ)

end Cert.ReferenceIdeal.Ret
-- ==== Proof.InConds.lean ====
module
public import proofs.«01_k».proof.Proof.Gen.Kernel2Ideal.Frame

@[expose] public section
noncomputable section
namespace Cert.Kernel2Ideal.In
open Cert.Kernel2Ideal Cert.Kernel2Ideal.Gen Idealize.ShloMosaic

/-! ## The projection kernel's branches, point by point: point `t` is step `t % 6` of the tile `t / 6` -/

/-- The first branch runs at the first point only. -/
theorem cond1 : ∀ t : Fin grid0.N, k0_cond1 (grid0.coords t) = 1#1 ↔ t.val = 0 := by decide +kernel
/-- The second at step 0 of every later tile. -/
theorem cond2 : ∀ t : Fin grid0.N, k0_cond2 (grid0.coords t) = 1#1 ↔ t.val % 6 = 0 ∧ 6 ≤ t.val := by decide +kernel
/-- The third at step 1 of every later tile. -/
theorem cond3 : ∀ t : Fin grid0.N, k0_cond3 (grid0.coords t) = 1#1 ↔ t.val % 6 = 1 ∧ 6 ≤ t.val := by decide +kernel
/-- The fourth at step 2 of every later tile. -/
theorem cond4 : ∀ t : Fin grid0.N, k0_cond4 (grid0.coords t) = 1#1 ↔ t.val % 6 = 2 ∧ 6 ≤ t.val := by decide +kernel
/-- The fifth at step 3 of every later tile. -/
theorem cond5 : ∀ t : Fin grid0.N, k0_cond5 (grid0.coords t) = 1#1 ↔ t.val % 6 = 3 ∧ 6 ≤ t.val := by decide +kernel
/-- The sixth at step 4 of every later tile. -/
theorem cond6 : ∀ t : Fin grid0.N, k0_cond6 (grid0.coords t) = 1#1 ↔ t.val % 6 = 4 ∧ 6 ≤ t.val := by decide +kernel
/-- The seventh at step 5 of every later tile. -/
theorem cond7 : ∀ t : Fin grid0.N, k0_cond7 (grid0.coords t) = 1#1 ↔ t.val % 6 = 5 ∧ 6 ≤ t.val := by decide +kernel

/-- The slot a tile is normalised into: the tile's number modulo two. -/
theorem offs_cur : ∀ t : Fin grid0.N, k0_off1 (grid0.coords t) = ![t.val / 6 % 2, 0, 0] ∧ k0_off2 (grid0.coords t) = ![t.val / 6 % 2, 0, 0]
    ∧ k0_off4 (grid0.coords t) = ![t.val / 6 % 2, 0, 0] ∧ k0_off5 (grid0.coords t) = ![t.val / 6 % 2, 0, 0] := by decide +kernel
/-- The slot the products read: the other one. -/
theorem offs_prev : ∀ t : Fin grid0.N, k0_off3 (grid0.coords t) = ![1 - t.val / 6 % 2, 0, 0] ∧ k0_off6 (grid0.coords t) = ![1 - t.val / 6 % 2, 0, 0]
    ∧ k0_off7 (grid0.coords t) = ![1 - t.val / 6 % 2, 0, 0] ∧ k0_off8 (grid0.coords t) = ![1 - t.val / 6 % 2, 0, 0]
    ∧ k0_off9 (grid0.coords t) = ![1 - t.val / 6 % 2, 0, 0] ∧ k0_off10 (grid0.coords t) = ![1 - t.val / 6 % 2, 0, 0]
    ∧ k0_off11 (grid0.coords t) = ![1 - t.val / 6 % 2, 0, 0] ∧ k0_off12 (grid0.coords t) = ![1 - t.val / 6 % 2, 0, 0] := by decide +kernel

end Cert.Kernel2Ideal.In
end
-- ==== Proof.InRuns.lean ====
module
public import proofs.«01_k».proof.Proof.InConds
public import proofs.«01_k».proof.Proof.Gen.Kernel2Ideal.Skeleton
public import Idealize.ShloMosaic.Lib.Pipeline.ReadBack
public import Idealize.ShloMosaic.Lib.VecWindow
public import Idealize.ShloMosaic.Lib.WritesUnit
public import Idealize.ShloMosaic.Lib.Pointwise

@[expose] public section
set_option maxRecDepth 16384
noncomputable section
namespace Cert.Kernel2Ideal.In
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The buffers the kernel's body works on: the staging buffers of its twelve operands, then its six scratch buffers,
    each a whole buffer. -/
structure Mems where
  a2 : Memref sig .tc .vmem S512x2048 .f32
  h2 : a2.IsWhole
  a3 : Memref sig .tc .vmem S1x1x2048 .f32
  h3 : a3.IsWhole
  a4 : Memref sig .tc .vmem S1x1x2048 .f32
  h4 : a4.IsWhole
  a5 : Memref sig .tc .vmem S512x1 .i32
  h5 : a5.IsWhole
  a6 : Memref sig .tc .vmem S1x128 .f32
  h6 : a6.IsWhole
  a7 : Memref sig .tc .vmem S1x128 .f32
  h7 : a7.IsWhole
  a8 : Memref sig .tc .vmem S2048x1024 .bf16
  h8 : a8.IsWhole
  a9 : Memref sig .tc .vmem S512x1024 .f32
  h9 : a9.IsWhole
  a10 : Memref sig .tc .vmem S512x1024 .bf16
  h10 : a10.IsWhole
  a11 : Memref sig .tc .vmem S512x1024 .bf16
  h11 : a11.IsWhole
  a12 : Memref sig .tc .vmem S512x1024 .bf16
  h12 : a12.IsWhole
  a13 : Memref sig .tc .vmem S512x1024 .f32
  h13 : a13.IsWhole
  a14 : Memref sig .tc .vmem S2x512x2048 .bf16
  h14 : a14.IsWhole
  a15 : Memref sig .tc .vmem S2x512x128 .f32
  h15 : a15.IsWhole
  a16 : Memref sig .tc .vmem S2x512x128 .f32
  h16 : a16.IsWhole
  a17 : Memref sig .tc .vmem S512x1024 .f32
  h17 : a17.IsWhole
  a18 : Memref sig .tc .vmem S512x1024 .f32
  h18 : a18.IsWhole
  a19 : Memref sig .tc .vmem S512x1024 .f32
  h19 : a19.IsWhole

/-- The kernel's body on these buffers, at grid coordinates `i`. -/
def Mems.prog (M : Mems) (i : grid0.Coords) : Prog (TpuEff nD τ sig (Elt F) Λ₀ .tc) PUnit :=
  cc0_inproj i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19

/-- A load of a whole buffer's contents reads them. -/
theorem rd_full {sp : Space} {s : Shape} {e : EltTy} {m : Memref sig .tc sp s e} (h : m.IsWhole) {off : Fin s.rank → ℕ}
    (inb : ∀ a, off a + s.size a ≤ s.size a) (x : Vec F s e) :
    View.readAt (Elt F) m.view (Rect.unit off s.size inb).toLoadRect (h.unread x) = x := by
  rw [View.readAt_full, h.read_unread]

/-- A load through a rectangle of a whole buffer's contents reads them there. -/
theorem rd_win {sp : Space} {s : Shape} {e : EltTy} {m : Memref sig .tc sp s e} (h : m.IsWhole) (r : Rect s) (x : Vec F s e) :
    View.readAt (Elt F) m.view r.toLoadRect (h.unread x) = View.ld x r := by
  show View.ld (View.read (Elt F) m.view (h.unread x)) r = _
  rw [h.read_unread]

/-- The product of a slot's normalised tile with a block of the weights. -/
def MM (u : Vec F S1x512x2048 .bf16) (w : Vec F S2048x1024 .bf16) : Vec F S512x1024 .f32 := k0_pay37 u w

variable (M : Mems) (c : Dev nD) (i : grid0.Coords) (E : Set ℕ) (K : PUnit → sProp (MT nD τ sig Unit (Elt F) ℕ (UR sig nD τ) ℕ))

set_option maxHeartbeats 1600000 in
/-- At the first tile, after its first step, the body does nothing. -/
theorem run_H (h1 : ¬k0_cond1 i = 1#1) (h2 : ¬k0_cond2 i = 1#1) (h3 : ¬k0_cond3 i = 1#1) (h4 : ¬k0_cond4 i = 1#1)
    (h5 : ¬k0_cond5 i = 1#1) (h6 : ¬k0_cond6 i = 1#1) (h7 : ¬k0_cond7 i = 1#1) :
    K ⟨⟩ ⊢ wp frame (wpE (defs₀ (F := F)) Variants.none c none) E (M.prog i) K := by
  unfold Mems.prog
  simp only [cc0_inproj_eq_skeleton]; unfold cc0_inproj_skel
  simp only [k0_part7_eq_skeleton]
  iintro Hk
  sl_exec (disch := first | sl_exact h1 | sl_exact h2 | sl_exact h3 | sl_exact h4 | sl_exact h5 | sl_exact h6 | sl_exact h7)
  sl_step
  iexact Hk

set_option maxHeartbeats 1600000 in
/-- The first point normalises tile 0, and works out its rotations' cosines and sines, into slot 0. -/
theorem run_A (h1 : k0_cond1 i = 1#1) (h2 : ¬k0_cond2 i = 1#1) (h3 : ¬k0_cond3 i = 1#1) (h4 : ¬k0_cond4 i = 1#1)
    (h5 : ¬k0_cond5 i = 1#1) (h6 : ¬k0_cond6 i = 1#1) (h7 : ¬k0_cond7 i = 1#1)
    (x2 : Vec F S512x2048 .f32) (x3 x4 : Vec F S1x1x2048 .f32) (x5 : Vec F S512x1 .i32) (x6 x7 : Vec F S1x128 .f32)
    (x14 : Vec F S2x512x2048 .bf16) (x15 x16 : Vec F S2x512x128 .f32) :
    iprop(owns (c : Thread nD τ) M.a2 fullShare x2 ∗ owns (c : Thread nD τ) M.a3 fullShare x3 ∗ owns (c : Thread nD τ) M.a4 fullShare x4
      ∗ owns (c : Thread nD τ) M.a5 fullShare x5 ∗ owns (c : Thread nD τ) M.a6 fullShare x6 ∗ owns (c : Thread nD τ) M.a7 fullShare x7
      ∗ owns (c : Thread nD τ) M.a14 fullShare x14 ∗ owns (c : Thread nD τ) M.a15 fullShare x15 ∗ owns (c : Thread nD τ) M.a16 fullShare x16
      ∗ (iprop(owns (c : Thread nD τ) M.a2 fullShare x2 ∗ owns (c : Thread nD τ) M.a3 fullShare x3 ∗ owns (c : Thread nD τ) M.a4 fullShare x4
        ∗ owns (c : Thread nD τ) M.a5 fullShare x5 ∗ owns (c : Thread nD τ) M.a6 fullShare x6 ∗ owns (c : Thread nD τ) M.a7 fullShare x7
        ∗ owns (c : Thread nD τ) M.a14 fullShare (VecWindow.put x14 (k0_off1 i) S1x512x2048.size (k0_pay6 x2 x3 x4))
        ∗ owns (c : Thread nD τ) M.a15 fullShare (VecWindow.put x15 (k0_off2 i) S1x512x128.size (k0_pay31 (k0_pay7 x5 x6)))
        ∗ owns (c : Thread nD τ) M.a16 fullShare (VecWindow.put x16 (k0_off2 i) S1x512x128.size (k0_pay32 (k0_pay7 x5 x6) x7))) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f14, %hf14, H14⟩, ⟨%f15, %hf15, H15⟩, ⟨%f16, %hf16, H16⟩, Hk⟩
  obtain rfl := M.h2.eq_unread hf2; obtain rfl := M.h3.eq_unread hf3; obtain rfl := M.h4.eq_unread hf4
  obtain rfl := M.h5.eq_unread hf5; obtain rfl := M.h6.eq_unread hf6; obtain rfl := M.h7.eq_unread hf7
  obtain rfl := M.h14.eq_unread hf14; obtain rfl := M.h15.eq_unread hf15; obtain rfl := M.h16.eq_unread hf16
  sl_exec (disch := first | sl_exact h1 | sl_exact h2 | sl_exact h3 | sl_exact h4 | sl_exact h5 | sl_exact h6 | sl_exact h7)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H14]
  · iexists _; isplitr
    swap; · iexact H14
    ipureintro
    rw [View.read_writes_cons_put _ _ _ _ _ rfl, View.writes_nil, hf14, rd_full, rd_full, rd_full]
  isplitl [H15]
  · iexists _; isplitr
    swap; · iexact H15
    ipureintro
    rw [View.read_writes_cons_put _ _ _ _ _ rfl, View.writes_nil, hf15]
    unfold run_A.sl.r
    rw [rd_full, rd_full]
  iexists _; isplitr
  swap; · iexact H16
  ipureintro
  rw [View.read_writes_cons_put _ _ _ _ _ rfl, View.writes_nil, hf16, rd_full]
  unfold run_A.sl.r
  rw [rd_full, rd_full]

set_option maxHeartbeats 1600000 in
/-- Step 0 of a later tile: the first product of the tile before is stored, and this tile is normalised into its slot. -/
theorem run_B (h1 : ¬k0_cond1 i = 1#1) (h2 : k0_cond2 i = 1#1) (h3 : ¬k0_cond3 i = 1#1) (h4 : ¬k0_cond4 i = 1#1)
    (h5 : ¬k0_cond5 i = 1#1) (h6 : ¬k0_cond6 i = 1#1) (h7 : ¬k0_cond7 i = 1#1)
    (x2 : Vec F S512x2048 .f32) (x3 x4 : Vec F S1x1x2048 .f32) (x5 : Vec F S512x1 .i32) (x6 x7 : Vec F S1x128 .f32) (x8 : Vec F S2048x1024 .bf16)
    (x14 : Vec F S2x512x2048 .bf16) (x15 x16 : Vec F S2x512x128 .f32) :
    iprop(owns (c : Thread nD τ) M.a2 fullShare x2 ∗ owns (c : Thread nD τ) M.a3 fullShare x3 ∗ owns (c : Thread nD τ) M.a4 fullShare x4
      ∗ owns (c : Thread nD τ) M.a5 fullShare x5 ∗ owns (c : Thread nD τ) M.a6 fullShare x6 ∗ owns (c : Thread nD τ) M.a7 fullShare x7
      ∗ owns (c : Thread nD τ) M.a8 fullShare x8
      ∗ owns (c : Thread nD τ) M.a14 fullShare x14 ∗ owns (c : Thread nD τ) M.a15 fullShare x15 ∗ owns (c : Thread nD τ) M.a16 fullShare x16
      ∗ (∃ d, owns (c : Thread nD τ) M.a17 fullShare d)
      ∗ (iprop(owns (c : Thread nD τ) M.a2 fullShare x2 ∗ owns (c : Thread nD τ) M.a3 fullShare x3 ∗ owns (c : Thread nD τ) M.a4 fullShare x4
        ∗ owns (c : Thread nD τ) M.a5 fullShare x5 ∗ owns (c : Thread nD τ) M.a6 fullShare x6 ∗ owns (c : Thread nD τ) M.a7 fullShare x7
        ∗ owns (c : Thread nD τ) M.a8 fullShare x8
        ∗ owns (c : Thread nD τ) M.a14 fullShare (VecWindow.put x14 (k0_off4 i) S1x512x2048.size (k0_pay6 x2 x3 x4))
        ∗ owns (c : Thread nD τ) M.a15 fullShare (VecWindow.put x15 (k0_off5 i) S1x512x128.size (k0_pay31 (k0_pay7 x5 x6)))
        ∗ owns (c : Thread nD τ) M.a16 fullShare (VecWindow.put x16 (k0_off5 i) S1x512x128.size (k0_pay32 (k0_pay7 x5 x6) x7))
        ∗ owns (c : Thread nD τ) M.a17 fullShare (MM (View.ld x14 (Rect.unit (s := S2x512x2048) (k0_off3 i) S1x512x2048.size (k0_off3_inb i h2))) x8)) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f14, %hf14, H14⟩, ⟨%f15, %hf15, H15⟩, ⟨%f16, %hf16, H16⟩, ⟨%d17, %f17, -, H17⟩, Hk⟩
  obtain rfl := M.h2.eq_unread hf2; obtain rfl := M.h3.eq_unread hf3; obtain rfl := M.h4.eq_unread hf4
  obtain rfl := M.h5.eq_unread hf5; obtain rfl := M.h6.eq_unread hf6; obtain rfl := M.h7.eq_unread hf7; obtain rfl := M.h8.eq_unread hf8
  obtain rfl := M.h14.eq_unread hf14; obtain rfl := M.h15.eq_unread hf15; obtain rfl := M.h16.eq_unread hf16
  sl_exec (disch := first | sl_exact h1 | sl_exact h2 | sl_exact h3 | sl_exact h4 | sl_exact h5 | sl_exact h6 | sl_exact h7)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H14]
  · iexists _; isplitr
    swap; · iexact H14
    ipureintro
    rw [View.read_writes_cons_put _ _ _ _ _ rfl, View.writes_nil, hf14]
    unfold run_B.sl.r
    rw [rd_full, rd_full, rd_full]
    rfl
  isplitl [H15]
  · iexists _; isplitr
    swap; · iexact H15
    ipureintro
    rw [View.read_writes_cons_put _ _ _ _ _ rfl, View.writes_nil, hf15, rd_full, rd_full]
    rfl
  isplitl [H16]
  · iexists _; isplitr
    swap; · iexact H16
    ipureintro
    rw [View.read_writes_cons_put _ _ _ _ _ rfl, View.writes_nil, hf16, rd_full, rd_full, rd_full]
    rfl
  iexists _; isplitr
  swap; · iexact H17
  ipureintro
  rw [View.read_writes_full, rd_win, rd_full]
  rfl

set_option maxHeartbeats 1600000 in
/-- Step 1 of a later tile: the second product is stored into its scratch. -/
theorem run_C (h1 : ¬k0_cond1 i = 1#1) (h2 : ¬k0_cond2 i = 1#1) (h3 : k0_cond3 i = 1#1) (h4 : ¬k0_cond4 i = 1#1)
    (h5 : ¬k0_cond5 i = 1#1) (h6 : ¬k0_cond6 i = 1#1) (h7 : ¬k0_cond7 i = 1#1)
    (x14 : Vec F S2x512x2048 .bf16) (x8 : Vec F S2048x1024 .bf16) :
    iprop(owns (c : Thread nD τ) M.a14 fullShare x14 ∗ owns (c : Thread nD τ) M.a8 fullShare x8 ∗ (∃ d, owns (c : Thread nD τ) M.a18 fullShare d)
      ∗ (iprop(owns (c : Thread nD τ) M.a14 fullShare x14 ∗ owns (c : Thread nD τ) M.a8 fullShare x8
          ∗ owns (c : Thread nD τ) M.a18 fullShare (MM (View.ld x14 (Rect.unit (s := S2x512x2048) (k0_off6 i) S1x512x2048.size (k0_off6_inb i h3))) x8)) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton]
  unfold owns
  iintro ⟨⟨%f14, %hf14, H14⟩, ⟨%f8, %hf8, H8⟩, ⟨%d18, %f18, -, H18⟩, Hk⟩
  obtain rfl := M.h14.eq_unread hf14; obtain rfl := M.h8.eq_unread hf8
  sl_exec (disch := first | sl_exact h1 | sl_exact h2 | sl_exact h3 | sl_exact h4 | sl_exact h5 | sl_exact h6 | sl_exact h7)
  sl_step
  iapply Hk
  isplitl [H14]; · iexists _; isplitr; · ipureintro; exact hf14
                   iexact H14
  isplitl [H8]; · iexists _; isplitr; · ipureintro; exact hf8
                  iexact H8
  iexists _; isplitr
  swap; · iexact H18
  ipureintro
  rw [View.read_writes_full, rd_win, rd_full]
  rfl

set_option maxHeartbeats 1600000 in
/-- Step 2 of a later tile: the third product is stored into its scratch, and the first times the second's sigmoid is
    stored as the tile's first result. -/
theorem run_D (h1 : ¬k0_cond1 i = 1#1) (h2 : ¬k0_cond2 i = 1#1) (h3 : ¬k0_cond3 i = 1#1) (h4 : k0_cond4 i = 1#1)
    (h5 : ¬k0_cond5 i = 1#1) (h6 : ¬k0_cond6 i = 1#1) (h7 : ¬k0_cond7 i = 1#1)
    (x14 : Vec F S2x512x2048 .bf16) (x8 : Vec F S2048x1024 .bf16) (x17 x18 : Vec F S512x1024 .f32) :
    iprop(owns (c : Thread nD τ) M.a14 fullShare x14 ∗ owns (c : Thread nD τ) M.a8 fullShare x8 ∗ owns (c : Thread nD τ) M.a17 fullShare x17
      ∗ owns (c : Thread nD τ) M.a18 fullShare x18 ∗ (∃ d, owns (c : Thread nD τ) M.a19 fullShare d) ∗ (∃ d, owns (c : Thread nD τ) M.a9 fullShare d)
      ∗ (iprop(owns (c : Thread nD τ) M.a14 fullShare x14 ∗ owns (c : Thread nD τ) M.a8 fullShare x8 ∗ owns (c : Thread nD τ) M.a17 fullShare x17
          ∗ owns (c : Thread nD τ) M.a18 fullShare x18
          ∗ owns (c : Thread nD τ) M.a19 fullShare (MM (View.ld x14 (Rect.unit (s := S2x512x2048) (k0_off7 i) S1x512x2048.size (k0_off7_inb i h4))) x8)
          ∗ owns (c : Thread nD τ) M.a9 fullShare (k0_pay39 x17 x18)) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton]
  unfold owns
  iintro ⟨⟨%f14, %hf14, H14⟩, ⟨%f8, %hf8, H8⟩, ⟨%f17, %hf17, H17⟩, ⟨%f18, %hf18, H18⟩, ⟨%d19, %f19, -, H19⟩, ⟨%d9, %f9, -, H9⟩, Hk⟩
  obtain rfl := M.h14.eq_unread hf14; obtain rfl := M.h8.eq_unread hf8; obtain rfl := M.h17.eq_unread hf17; obtain rfl := M.h18.eq_unread hf18
  sl_exec (disch := first | sl_exact h1 | sl_exact h2 | sl_exact h3 | sl_exact h4 | sl_exact h5 | sl_exact h6 | sl_exact h7)
  sl_step
  iapply Hk
  isplitl [H14]; · iexists _; isplitr; · ipureintro; exact hf14
                   iexact H14
  isplitl [H8]; · iexists _; isplitr; · ipureintro; exact hf8
                  iexact H8
  isplitl [H17]; · iexists _; isplitr; · ipureintro; exact hf17
                   iexact H17
  isplitl [H18]; · iexists _; isplitr; · ipureintro; exact hf18
                   iexact H18
  isplitl [H19]
  · iexists _; isplitr
    swap; · iexact H19
    ipureintro
    rw [View.read_writes_full, rd_win, rd_full]
    rfl
  iexists _; isplitr
  swap; · iexact H9
  ipureintro
  rw [View.read_writes_full, rd_full, rd_full]

set_option maxHeartbeats 1600000 in
/-- Step 5 of a later tile: the fifth product is stored as the tile's fourth result, and the sixth, through its
    activation, as the tile's fifth. -/
theorem run_G (h1 : ¬k0_cond1 i = 1#1) (h2 : ¬k0_cond2 i = 1#1) (h3 : ¬k0_cond3 i = 1#1) (h4 : ¬k0_cond4 i = 1#1)
    (h5 : ¬k0_cond5 i = 1#1) (h6 : ¬k0_cond6 i = 1#1) (h7 : k0_cond7 i = 1#1)
    (x14 : Vec F S2x512x2048 .bf16) (x8 : Vec F S2048x1024 .bf16) (x18 : Vec F S512x1024 .f32) :
    iprop(owns (c : Thread nD τ) M.a14 fullShare x14 ∗ owns (c : Thread nD τ) M.a8 fullShare x8 ∗ owns (c : Thread nD τ) M.a18 fullShare x18
      ∗ (∃ d, owns (c : Thread nD τ) M.a12 fullShare d) ∗ (∃ d, owns (c : Thread nD τ) M.a13 fullShare d)
      ∗ (iprop(owns (c : Thread nD τ) M.a14 fullShare x14 ∗ owns (c : Thread nD τ) M.a8 fullShare x8 ∗ owns (c : Thread nD τ) M.a18 fullShare x18
          ∗ owns (c : Thread nD τ) M.a12 fullShare (k0_pay4 x18)
          ∗ owns (c : Thread nD τ) M.a13 fullShare (k0_pay5 (View.ld x14 (Rect.unit (s := S2x512x2048) (k0_off12 i) S1x512x2048.size (k0_off12_inb i h7))) x8)) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton]
  unfold owns
  iintro ⟨⟨%f14, %hf14, H14⟩, ⟨%f8, %hf8, H8⟩, ⟨%f18, %hf18, H18⟩, ⟨%d12, %f12, -, H12⟩, ⟨%d13, %f13, -, H13⟩, Hk⟩
  obtain rfl := M.h14.eq_unread hf14; obtain rfl := M.h8.eq_unread hf8; obtain rfl := M.h18.eq_unread hf18
  sl_exec (disch := first | sl_exact h1 | sl_exact h2 | sl_exact h3 | sl_exact h4 | sl_exact h5 | sl_exact h6 | sl_exact h7)
  sl_step
  iapply Hk
  isplitl [H14]; · iexists _; isplitr; · ipureintro; exact hf14
                   iexact H14
  isplitl [H8]; · iexists _; isplitr; · ipureintro; exact hf8
                  iexact H8
  isplitl [H18]; · iexists _; isplitr; · ipureintro; exact hf18
                   iexact H18
  isplitl [H12]
  · iexists _; isplitr
    swap; · iexact H12
    ipureintro
    rw [View.read_writes_full, rd_full]
  iexists _; isplitr
  swap; · iexact H13
  ipureintro
  rw [View.read_writes_full, rd_full]
  unfold run_G.sl.v47
  rw [rd_win]

/-! ## Eight heads' columns -/

/-- The first of head `h`'s columns. -/
def offH : Fin 8 → ℕ := ![0, 128, 256, 384, 512, 640, 768, 896]
/-- Head `h`'s columns begin at 128 `h`. -/
theorem offH_eq (h : Fin 8) : offH h = 128 * h.val := by fin_cases h <;> rfl

/-- Head `h`'s columns lie in the 1024. -/
theorem headIn (h : Fin 8) : ∀ a : Fin S512x1024.rank, (![0, offH h] : Fin 2 → Nat) a + S512x128.size a ≤ S512x1024.size a := by
  intro a; fin_cases a
  · show 0 + 512 ≤ 512; omega
  · show offH h + 128 ≤ 1024; rw [offH_eq]; omega

/-- Head `h`'s columns of a tile's 512 rows. -/
def rH (h : Fin 8) : Rect S512x1024 := Rect.unit ![0, offH h] S512x128.size (headIn h)

/-- The head column `d` of 1024 belongs to, and its place there. -/
def hdOf (d : Fin 1024) : Fin 8 := ⟨d.val / 128, by omega⟩
def inHd (d : Fin 1024) : Fin 128 := ⟨d.val % 128, by omega⟩

/-- Eight heads' columns side by side. -/
def bands {e : EltTy} (w : Fin 8 → Vec F S512x128 e) : Vec F S512x1024 e := fun y => w (hdOf (y 1)) (ix2 (y 0) (inHd (y 1)))

/-- Read in head `h`'s columns, they are head `h`'s. -/
theorem bands_emb {e : EltTy} (w : Fin 8 → Vec F S512x128 e) (h : Fin 8) (x : S512x128.Idx) : w h x = bands w ((rH h).emb x) := by
  obtain ⟨r, d, rfl⟩ : ∃ r d, x = ix2 r d := ⟨x 0, x 1, by funext a; fin_cases a <;> rfl⟩
  have h1 : hdOf (((rH h).emb (ix2 r d)) 1) = h := Fin.ext (by
    show (offH h + 1 * d.val) / 128 = h.val; rw [offH_eq]; omega)
  have h2 : inHd (((rH h).emb (ix2 r d)) 1) = d := Fin.ext (by
    show (offH h + 1 * d.val) % 128 = d.val; rw [offH_eq]; omega)
  have h0 : ((rH h).emb (ix2 r d)) 0 = r := Fin.ext (by show 0 + 1 * r.val = r.val; omega)
  show w h (ix2 r d) = w (hdOf _) (ix2 _ (inHd _))
  rw [h1, h2, h0]

/-- Every column lies in a head's. -/
theorem mem_rH (y : S512x1024.Idx) : y ∈ (rH (hdOf (y 1))).set := by
  unfold rH
  rw [Rect.mem_set_unit]
  intro a
  fin_cases a
  · have : (y 0).val < 512 := (y 0).isLt
    exact ⟨Nat.zero_le _, by show (y 0).val < 0 + 512; omega⟩
  · have : (y 1).val < 1024 := (y 1).isLt
    refine ⟨?_, ?_⟩
    · show offH (hdOf (y 1)) ≤ (y 1).val; rw [offH_eq]; show 128 * ((y 1).val / 128) ≤ (y 1).val; omega
    · show (y 1).val < offH (hdOf (y 1)) + 128; rw [offH_eq]; show (y 1).val < 128 * ((y 1).val / 128) + 128; omega

/-- Eight stores, one to each head's columns, leave the eight side by side. -/
theorem read_bands {e : EltTy} (v : View sig .tc .vmem S512x1024 e) (f : v.ty.Contents (Elt F)) (w : Fin 8 → Vec F S512x128 e) :
    v.read (Elt F) (v.writes (Elt F) f [⟨rH 7, w 7⟩, ⟨rH 6, w 6⟩, ⟨rH 5, w 5⟩, ⟨rH 4, w 4⟩, ⟨rH 3, w 3⟩, ⟨rH 2, w 2⟩, ⟨rH 1, w 1⟩, ⟨rH 0, w 0⟩]) = bands w := by
  have hc : ∀ y : S512x1024.Idx, ∃ p ∈ ([⟨rH 7, w 7⟩, ⟨rH 6, w 6⟩, ⟨rH 5, w 5⟩, ⟨rH 4, w 4⟩, ⟨rH 3, w 3⟩, ⟨rH 2, w 2⟩, ⟨rH 1, w 1⟩, ⟨rH 0, w 0⟩] :
      List (View.Piece (Elt F) S512x1024 e)), y ∈ p.1.set := by
    intro y
    refine ⟨⟨rH (hdOf (y 1)), w (hdOf (y 1))⟩, ?_, mem_rH y⟩
    generalize hdOf (y 1) = h
    fin_cases h <;> simp
  rw [View.read_writes_eq_canon _ _ _ hc]
  funext y
  exact View.canon_apply_of_pieces (bands w) _ (View.PiecesOf.mem (by
    exact ⟨bands_emb w 7, bands_emb w 6, bands_emb w 5, bands_emb w 4, bands_emb w 3, bands_emb w 2, bands_emb w 1, bands_emb w 0, trivial⟩)) y (hc y)

/-- One head's queries, and one head's keys, from its columns of a product and the tile's cosines and signed sines. -/
def qHead (co si : Vec F S1x512x128 .f32) (a : Vec F S512x128 .f32) : Vec F S512x128 .bf16 := k0_pay13 co si a
def kHead (co si : Vec F S1x512x128 .f32) (a : Vec F S512x128 .f32) : Vec F S512x128 .bf16 := k0_pay25 co si a

/-- A tile's queries and its keys. -/
def qTile (co si : Vec F S1x512x128 .f32) (x : Vec F S512x1024 .f32) : Vec F S512x1024 .bf16 := bands fun h => qHead co si (View.ld x (rH h))
def kTile (co si : Vec F S1x512x128 .f32) (x : Vec F S512x1024 .f32) : Vec F S512x1024 .bf16 := bands fun h => kHead co si (View.ld x (rH h))

end Cert.Kernel2Ideal.In
end
-- ==== Proof.InInv.lean ====
module
public import proofs.«01_k».proof.Proof.InRuns

@[expose] public section
set_option maxRecDepth 16384
noncomputable section
namespace Cert.Kernel2Ideal.In
open Cert.Kernel2Ideal Cert.Kernel2Ideal.Gen
open Idealize.ShloMosaic Idealize.ShloMosaic.TcCoe
open Idealize.SL Idealize.SL.Sem

/-! ## When the outputs are stored and written back -/

/-- Every output's block is written back at step 5 of a later tile. -/
theorem flush7 : ∀ t : Fin grid0.N, win0_7.flush t = decide (t.val % 6 = 5 ∧ 6 ≤ t.val) := by decide +kernel
/-- Operand 8's block is written back at step 5 of a later tile. -/
theorem flush8 : ∀ t : Fin grid0.N, win0_8.flush t = decide (t.val % 6 = 5 ∧ 6 ≤ t.val) := by decide +kernel
/-- Operand 9's block is written back at step 5 of a later tile. -/
theorem flush9 : ∀ t : Fin grid0.N, win0_9.flush t = decide (t.val % 6 = 5 ∧ 6 ≤ t.val) := by decide +kernel
/-- Operand 10's block is written back at step 5 of a later tile. -/
theorem flush10 : ∀ t : Fin grid0.N, win0_10.flush t = decide (t.val % 6 = 5 ∧ 6 ≤ t.val) := by decide +kernel
/-- Operand 11's block is written back at step 5 of a later tile. -/
theorem flush11 : ∀ t : Fin grid0.N, win0_11.flush t = decide (t.val % 6 = 5 ∧ 6 ≤ t.val) := by decide +kernel

variable {F : FTy → Type} [FloatOps F]
variable (m : (ℓ : Loc nD τ sig) → Buf (Elt F) ℓ) (c : Dev nD)

/-- Step `j` of tile `i`. -/
def pt (i j : ℕ) : Fin cfg0.N := ⟨(6 * i + j) % 198, lt_of_lt_of_eq (Nat.mod_lt _ (by decide)) (N_0 : cfg0.N = 198).symm⟩

/-- A point is the step its remainder says of the tile its quotient says. -/
theorem pt_eq (t : Fin cfg0.N) {j : ℕ} (h : t.val % 6 = j) : pt (t.val / 6) j = t := by
  have hN : t.val < 198 := lt_of_lt_of_eq t.isLt N_0
  exact Fin.ext (by show (6 * (t.val / 6) + j) % 198 = t.val; omega)

/-- The tile the body normalises at tile `i`'s step 0, -/
def U (i : ℕ) : Vec F S1x512x2048 .bf16 := k0_pay6 (iblk m c 0 (pt i 0)) (iblk m c 1 (pt i 0)) (iblk m c 2 (pt i 0))
/-- its rotations' cosines -/
def Co (i : ℕ) : Vec F S1x512x128 .f32 := k0_pay31 (k0_pay7 (iblk m c 3 (pt i 0)) (iblk m c 4 (pt i 0)))
/-- and their signed sines. -/
def Si (i : ℕ) : Vec F S1x512x128 .f32 := k0_pay32 (k0_pay7 (iblk m c 3 (pt i 0)) (iblk m c 4 (pt i 0))) (iblk m c 5 (pt i 0))
/-- Step `j`'s product of tile `i`: the tile before, times that step's columns of the weights. -/
def P (i j : ℕ) : Vec F S512x1024 .f32 := MM (U m c (i - 1)) (iblk m c 6 (pt i j))

/-- What tile `i` leaves in the five outputs: the tile before's gated half, queries, keys, values and gate. -/
def oH (i : ℕ) : Vec F S512x1024 .f32 := k0_pay39 (P m c i 0) (P m c i 1)
def oQ (i : ℕ) : Vec F S512x1024 .bf16 := qTile (Co m c (i - 1)) (Si m c (i - 1)) (P m c i 2)
def oK (i : ℕ) : Vec F S512x1024 .bf16 := kTile (Co m c (i - 1)) (Si m c (i - 1)) (P m c i 3)
def oV (i : ℕ) : Vec F S512x1024 .bf16 := k0_pay4 (P m c i 4)
def oG (i : ℕ) : Vec F S512x1024 .f32 := k0_pay5 (U m c (i - 1)) (iblk m c 6 (pt i 5))

/-- Slot `s` of a two-slot scratch buffer holds `u`. -/
def Slot {e : EltTy} {s : Shape} {z : Fin s.rank → ℕ} (x : Vec F s e) (off : Fin s.rank → ℕ) (u : ((a : Fin s.rank) → Fin (z a)) → Elt F e) : Prop :=
  ∀ inb, VecWindow.window x off z inb = u

/-- A slot just stored holds what was stored, -/
theorem Slot.put {e : EltTy} {s : Shape} {z : Fin s.rank → ℕ} (x : Vec F s e) (off : Fin s.rank → ℕ) (u : ((a : Fin s.rank) → Fin (z a)) → Elt F e) :
    Slot (F := F) (e := e) (s := s) (z := z) (VecWindow.put x off z u) off u := fun inb => VecWindow.window_put_same x off z inb u

/-- and another slot what it held. -/
theorem Slot.keep {e : EltTy} {s : Shape} {z : Fin s.rank → ℕ} {x : Vec F s e} {off off' : Fin s.rank → ℕ} {u u' : ((a : Fin s.rank) → Fin (z a)) → Elt F e}
    (h : Slot (F := F) (e := e) (s := s) (z := z) x off' u') (a : Fin s.rank) (ha : off' a + z a ≤ off a ∨ off a + z a ≤ off' a) :
    Slot (F := F) (e := e) (s := s) (z := z) (VecWindow.put x off z u) off' u' := fun inb => by
  rw [VecWindow.window_put_of_disjoint x off z off' z inb u a ha]; exact h inb

/-- What the scratch buffers hold before point `n`, step `n % 6` of tile `n / 6`: the tile's own slot, filled at its step 0,
    the slot of the tile before, and the products still to be used. -/
structure Inv (n : ℕ) (x14 : Vec F S2x512x2048 .bf16) (x15 x16 : Vec F S2x512x128 .f32) (x17 x18 x19 : Vec F S512x1024 .f32) : Prop where
  cur : 1 ≤ n % 6 → Slot (s := S2x512x2048) (e := .bf16) (z := S1x512x2048.size) x14 ![n / 6 % 2, 0, 0] (U m c (n / 6))
    ∧ Slot (s := S2x512x128) (e := .f32) (z := S1x512x128.size) x15 ![n / 6 % 2, 0, 0] (Co m c (n / 6)) ∧ Slot (s := S2x512x128) (e := .f32) (z := S1x512x128.size) x16 ![n / 6 % 2, 0, 0] (Si m c (n / 6))
  prev : 6 ≤ n → Slot (s := S2x512x2048) (e := .bf16) (z := S1x512x2048.size) x14 ![1 - n / 6 % 2, 0, 0] (U m c (n / 6 - 1))
    ∧ Slot (s := S2x512x128) (e := .f32) (z := S1x512x128.size) x15 ![1 - n / 6 % 2, 0, 0] (Co m c (n / 6 - 1)) ∧ Slot (s := S2x512x128) (e := .f32) (z := S1x512x128.size) x16 ![1 - n / 6 % 2, 0, 0] (Si m c (n / 6 - 1))
  a17 : 6 ≤ n → n % 6 = 1 ∨ n % 6 = 2 → x17 = P m c (n / 6) 0
  b17 : 6 ≤ n → n % 6 = 4 → x17 = P m c (n / 6) 3
  a18 : 6 ≤ n → n % 6 = 2 → x18 = P m c (n / 6) 1
  b18 : 6 ≤ n → n % 6 = 5 → x18 = P m c (n / 6) 4
  a19 : 6 ≤ n → n % 6 = 3 → x19 = P m c (n / 6) 2

variable {m c}
variable {n : ℕ} {x14 : Vec F S2x512x2048 .bf16} {x15 x16 : Vec F S2x512x128 .f32} {x17 x18 x19 : Vec F S512x1024 .f32}

/-- Before the first point nothing is held. -/
theorem Inv.zero : Inv m c 0 x14 x15 x16 x17 x18 x19 :=
  ⟨fun h => absurd h (by decide), fun h => absurd h (by decide), fun h => absurd h (by decide), fun h => absurd h (by decide),
    fun h => absurd h (by decide), fun h => absurd h (by decide), fun h => absurd h (by decide)⟩

/-- A point that is not a step 0 keeps both slots; what it leaves of the products is asked for by the step. -/
theorem Inv.next {y17 y18 y19 : Vec F S512x1024 .f32} (h : Inv m c n x14 x15 x16 x17 x18 x19) (h0 : 1 ≤ n % 6)
    (a17 : 6 ≤ n → n % 6 = 1 → y17 = P m c (n / 6) 0) (b17 : 6 ≤ n → n % 6 = 3 → y17 = P m c (n / 6) 3)
    (a18 : 6 ≤ n → n % 6 = 1 → y18 = P m c (n / 6) 1) (b18 : 6 ≤ n → n % 6 = 4 → y18 = P m c (n / 6) 4)
    (a19 : 6 ≤ n → n % 6 = 2 → y19 = P m c (n / 6) 2) : Inv m c (n + 1) x14 x15 x16 y17 y18 y19 := by
  by_cases h5 : n % 6 = 5
  · have e : (n + 1) / 6 = n / 6 + 1 := by omega
    have e1 : 1 - (n / 6 + 1) % 2 = n / 6 % 2 := by omega
    refine ⟨fun h => by omega, fun _ => ?_, fun _ h => by omega, fun _ h => by omega, fun _ h => by omega, fun _ h => by omega, fun _ h => by omega⟩
    rw [e, e1, Nat.add_sub_cancel]
    exact h.cur h0
  · have e : (n + 1) / 6 = n / 6 := by omega
    refine ⟨?_, ?_, ?_, ?_, ?_, ?_, ?_⟩ <;> rw [e]
    · exact fun _ => h.cur h0
    · exact fun h6 => h.prev (by omega)
    · exact fun h6 hj => a17 (by omega) (by omega)
    · exact fun h6 hj => b17 (by omega) (by omega)
    · exact fun h6 hj => a18 (by omega) (by omega)
    · exact fun h6 hj => b18 (by omega) (by omega)
    · exact fun h6 hj => a19 (by omega) (by omega)

/-- A step 0 fills its tile's slot and, from the second tile on, leaves the first product of the tile before. -/
theorem Inv.fill {y17 : Vec F S512x1024 .f32} (h : Inv m c n x14 x15 x16 x17 x18 x19) (h0 : n % 6 = 0) {o : Fin 3 → ℕ} {o' : Fin 3 → ℕ}
    (ho : o = ![n / 6 % 2, 0, 0]) (ho' : o' = ![n / 6 % 2, 0, 0]) (h17 : 6 ≤ n → y17 = P m c (n / 6) 0) :
    Inv m c (n + 1) (VecWindow.put x14 o S1x512x2048.size (U m c (n / 6))) (VecWindow.put x15 o' S1x512x128.size (Co m c (n / 6)))
      (VecWindow.put x16 o' S1x512x128.size (Si m c (n / 6))) y17 x18 x19 := by
  subst ho; subst ho'
  have e : (n + 1) / 6 = n / 6 := by omega
  have hd : ∀ z : Fin 3 → ℕ, z 0 = 1 → (![1 - n / 6 % 2, 0, 0] : Fin 3 → ℕ) 0 + z 0 ≤ (![n / 6 % 2, 0, 0] : Fin 3 → ℕ) 0
      ∨ (![n / 6 % 2, 0, 0] : Fin 3 → ℕ) 0 + z 0 ≤ (![1 - n / 6 % 2, 0, 0] : Fin 3 → ℕ) 0 := by
    intro z hz
    rw [hz]
    show 1 - n / 6 % 2 + 1 ≤ n / 6 % 2 ∨ n / 6 % 2 + 1 ≤ 1 - n / 6 % 2
    omega
  refine ⟨?_, ?_, ?_, ?_, ?_, ?_, ?_⟩ <;> rw [e]
  · exact fun _ => ⟨Slot.put _ _ _, Slot.put _ _ _, Slot.put _ _ _⟩
  · intro h6
    obtain ⟨p, q, r⟩ := h.prev (by omega)
    exact ⟨p.keep 0 (hd _ rfl), q.keep 0 (hd _ rfl), r.keep 0 (hd _ rfl)⟩
  · exact fun h6 _ => h17 (by omega)
  · exact fun _ h => by omega
  · exact fun _ h => by omega
  · exact fun _ h => by omega
  · exact fun _ h => by omega

/-- A load of the slot of the tile before reads it. -/
theorem Slot.ld {e : EltTy} {s : Shape} {z : Fin s.rank → ℕ} {x : Vec F s e} {off off' : Fin s.rank → ℕ} {u : ((a : Fin s.rank) → Fin (z a)) → Elt F e}
    (h : Slot (F := F) (e := e) (s := s) (z := z) x off u) (ho : off' = off) (inb : ∀ a, off' a + z a ≤ s.size a) :
    View.ld (Val := Elt F) (e' := e) x (Rect.unit off' z inb) = u := by
  subst ho; exact h inb

end Cert.Kernel2Ideal.In
end
-- ==== Proof.InSpec.lean ====
module
public import Idealize.ShloMosaic.Lib.Pointwise
public import Idealize.ShloMosaic.Lib.IdealHost

@[expose] public section
noncomputable section
namespace Cert.Inp
open Idealize.ShloMosaic

/-- A token's row of the model's width. -/
abbrev Row := Fin 2048 → EReal

/-- The number 2048 that the means divide by. -/
def c2048 : EReal := Ideal.ofBits .f32 0x45000000#32
/-- The small number a variance is raised by. -/
def eps : EReal := Ideal.ofBits .f32 0x3727C5AC#32
/-- The keys' scale, `128 ^ (-1/2)`. -/
def scl : EReal := Ideal.ofBits .f32 0x3DB504F3#32

/-- A row's mean. -/
def mean (f : Row) : EReal := Ideal.div (∑ e, f e) c2048

/-- A row normalised to mean 0 and variance 1, at one place. -/
def lnRow (f : Row) (e : Fin 2048) : EReal :=
  (f e - mean f) * Ideal.rsqrt (mean (fun y => (f y - mean f) * (f y - mean f)) + eps)

/-- A row normalised, then scaled and shifted. -/
def modRow (f sc sh : Row) (e : Fin 2048) : EReal := lnRow f e * (1 + sc e) + sh e

/-- A whole number as a float. -/
def num (p : BitVec 32) : EReal := FloatOps.sitofp (F := Ideal) .f32 p

/-- The rotary encoding's frequency of pair `n`. -/
def freq (n : Fin 64) : EReal :=
  Ideal.exp (Ideal.div (Ideal.ofBits .f32 0xC1135D8E#32 * num (BitVec.ofNat 32 n.val)) (Ideal.ofBits .f32 0x42800000#32))

/-- The angle that pair `n` of a head is turned by at position `p`. -/
def ang (p : BitVec 32) (n : Fin 64) : EReal := num p * freq n

/-- A column's pair, its place in the first half and its place in the second. -/
def pair (d : Fin 128) : Fin 64 := ⟨d.val % 64, by omega⟩
def fstH (n : Fin 64) : Fin 128 := ⟨n.val, by omega⟩
def sndH (n : Fin 64) : Fin 128 := ⟨64 + n.val, by omega⟩

/-- A head's row turned by its position's angles. -/
def rot (a : Fin 128 → EReal) (p : BitVec 32) (d : Fin 128) : EReal :=
  if d.val < 64 then a (fstH (pair d)) * Ideal.cos (ang p (pair d)) - a (sndH (pair d)) * Ideal.sin (ang p (pair d))
  else a (fstH (pair d)) * Ideal.sin (ang p (pair d)) + a (sndH (pair d)) * Ideal.cos (ang p (pair d))

/-- A number gated by another. -/
def gated (a b : EReal) : EReal := a * Ideal.logistic b

/-- What the layer's input projection reads. -/
structure In where
  /-- The tokens. -/
  x : (⟨2, ![16384, 2048]⟩ : Shape).Idx → EReal
  /-- Each sequence's scale and shift. -/
  sc : (⟨3, ![4, 1, 2048]⟩ : Shape).Idx → EReal
  sh : (⟨3, ![4, 1, 2048]⟩ : Shape).Idx → EReal
  /-- The tokens' positions. -/
  pos : (⟨2, ![16384, 1]⟩ : Shape).Idx → BitVec 32
  /-- The projection. -/
  w : (⟨2, ![2048, 6144]⟩ : Shape).Idx → EReal

/-- The sequence of a token. -/
def seqOf (r : Fin 16384) : Fin 4 := ⟨r.val / 4096, by omega⟩

/-- Column `n` of the projection's part `j`. -/
def col (j : Fin 6) (n : Fin 1024) : Fin 6144 := ⟨1024 * j.val + n.val, by omega⟩

/-- A column of a part's head, from the head and the place in it. -/
def hcol (h : Fin 8) (d : Fin 128) : Fin 1024 := ⟨128 * h.val + d.val, by omega⟩

/-- A column's head and its place in it. -/
def hOf (n : Fin 1024) : Fin 8 := ⟨n.val / 128, by omega⟩
def dOf (n : Fin 1024) : Fin 128 := ⟨n.val % 128, by omega⟩

variable (a : In)

/-- Token `r`'s row as the projection reads it. -/
def In.u (r : Fin 16384) : Row :=
  modRow (fun e => a.x (ix2 r e)) (fun e => a.sc (ix3 (seqOf r) (0 : Fin 1) e)) (fun e => a.sh (ix3 (seqOf r) (0 : Fin 1) e))

/-- Token `r`'s projection onto column `n` of part `j`. -/
def In.pr (j : Fin 6) (r : Fin 16384) (n : Fin 1024) : EReal := ∑ k : Fin 2048, a.u r k * a.w (ix2 k (col j n))

/-- Token `r`'s head of part `j` turned by the token's position. -/
def In.turned (j : Fin 6) (r : Fin 16384) (n : Fin 1024) : EReal :=
  rot (fun d => a.pr j r (hcol (hOf n) d)) (a.pos (ix2 r (0 : Fin 1))) (dOf n)

/-- The five results: the gated branch, the queries, the keys, the values and the gates. -/
def In.h0 (r : Fin 16384) (n : Fin 1024) : EReal := gated (a.pr 0 r n) (a.pr 1 r n)
def In.q (r : Fin 16384) (n : Fin 1024) : EReal := a.turned 2 r n
def In.k (r : Fin 16384) (n : Fin 1024) : EReal := a.turned 3 r n * scl
def In.v (r : Fin 16384) (n : Fin 1024) : EReal := a.pr 4 r n
def In.g (r : Fin 16384) (n : Fin 1024) : EReal := gated (a.pr 5 r n) (a.pr 5 r n)

end Cert.Inp
end
-- ==== Proof.InUnits.lean ====
module
public import proofs.«01_k».proof.Proof.InInv
public import proofs.«01_k».proof.Proof.InSpec
public import Idealize.ShloMosaic.Lib.KernelVsHost

@[expose] public section
noncomputable section
namespace Cert.Kernel2Ideal.In
open Idealize.ShloMosaic Idealize.ShloMosaic.TcCoe Cert.Inp Cert.Kernel2Ideal Cert.Kernel2Ideal.Gen

/-! ## What the body computes, at an index -/

/-- The tile's rows normalised, scaled and shifted. -/
theorem pay6_at (x : Vec Ideal S512x2048 .f32) (sc sh : Vec Ideal S1x1x2048 .f32) (r : Fin 512) (e : Fin 2048) :
    (k0_pay6 x sc sh (ix3 (0 : Fin 1) r e) : EReal)
      = modRow (fun e => x (ix2 r e)) (fun e => sc (ix3 (0 : Fin 1) (0 : Fin 1) e)) (fun e => sh (ix3 (0 : Fin 1) (0 : Fin 1) e)) e := by
  unfold k0_pay6 modRow lnRow mean eps c2048
  pointwise [Ideal.ofBits_one_f32]

/-- A tile's product with a part of the weights. -/
theorem MM_at (u : Vec Ideal S1x512x2048 .bf16) (w : Vec Ideal S2048x1024 .bf16) (r : Fin 512) (n : Fin 1024) :
    (MM u w (ix2 r n) : EReal) = ∑ k : Fin 2048, (u (ix3 (0 : Fin 1) r k) * w (ix2 k n) : EReal) := by
  unfold MM k0_pay37
  pointwise [dot_S512x2048_S2048x1024_S512x1024_1_0_0_1_n_n]

/-- The gate is of the product itself. -/
theorem pay5_at (u : Vec Ideal S1x512x2048 .bf16) (w : Vec Ideal S2048x1024 .bf16) (r : Fin 512) (n : Fin 1024) :
    (k0_pay5 u w (ix2 r n) : EReal) = gated (MM u w (ix2 r n)) (MM u w (ix2 r n)) := by
  rw [MM_at]
  unfold k0_pay5 gated
  pointwise [dot_S512x2048_S2048x1024_S512x1024_1_0_0_1_n_n]

/-- A token's cosines -/
theorem cos_at (p : Vec Ideal S512x1 .i32) (f : Vec Ideal S1x128 .f32) (r : Fin 512) (d : Fin 128) :
    (k0_pay31 (k0_pay7 p f) (ix3 (0 : Fin 1) r d) : EReal) = Ideal.cos (num (p (ix2 r (0 : Fin 1))) * f (ix2 (0 : Fin 1) d)) := by
  unfold k0_pay31 k0_pay7 num
  pointwise

/-- and its signed sines. -/
theorem sin_at (p : Vec Ideal S512x1 .i32) (f g : Vec Ideal S1x128 .f32) (r : Fin 512) (d : Fin 128) :
    (k0_pay32 (k0_pay7 p f) g (ix3 (0 : Fin 1) r d) : EReal)
      = Ideal.sin (num (p (ix2 r (0 : Fin 1))) * f (ix2 (0 : Fin 1) d)) * g (ix2 (0 : Fin 1) d) := by
  unfold k0_pay32 k0_pay7 num
  pointwise

/-- A column's partner, half a head away. -/
def opp (d : Fin 128) : Fin 128 := ⟨(d.val + 64) % 128, by omega⟩

/-- A head's columns turned by half a head. -/
theorem roll_at (x : Vec Ideal S512x128 .f32) (r : Fin 512) (d : Fin 128) :
    dynamicRotate 1 64#32 none x rotates_S512x128_d1 (ix2 r d) = x (ix2 r (opp d)) := by
  refine dynamicRotate_apply (1 : Fin 2) 64#32 x rotates_S512x128_d1 (ix2 r d) (ix2 r (opp d)) fun b => ?_
  fin_cases b
  · rfl
  · show (d.val + 64) % 128 = (d.val + 128 - 64 % 128) % 128; omega

/-- A head of the queries -/
theorem qHead_at (co si : Vec Ideal S1x512x128 .f32) (a : Vec Ideal S512x128 .f32) (r : Fin 512) (d : Fin 128) :
    (qHead co si a (ix2 r d) : EReal) = a (ix2 r d) * co (ix3 (0 : Fin 1) r d) + a (ix2 r (opp d)) * si (ix3 (0 : Fin 1) r d) := by
  unfold qHead k0_pay13 k0_pay11 k0_pay12
  rw [← roll_at a]
  pointwise

/-- and one of the keys. -/
theorem kHead_at (co si : Vec Ideal S1x512x128 .f32) (a : Vec Ideal S512x128 .f32) (r : Fin 512) (d : Fin 128) :
    (kHead co si a (ix2 r d) : EReal) = (a (ix2 r d) * co (ix3 (0 : Fin 1) r d) + a (ix2 r (opp d)) * si (ix3 (0 : Fin 1) r d)) * scl := by
  unfold kHead k0_pay25 k0_pay23 k0_pay24 scl
  rw [← roll_at a]
  pointwise

/-- Turning a head by the signed sines is the rotation. -/
theorem turn_eq (a : Fin 128 → EReal) (p : BitVec 32) (d : Fin 128) (f g : EReal) (hf : f = freq (pair d)) (hg : g = if d.val < 64 then -1 else 1) :
    a d * Ideal.cos (num p * f) + a (opp d) * (Ideal.sin (num p * f) * g) = rot a p d := by
  subst hf hg
  unfold rot ang
  by_cases h : d.val < 64
  · rw [if_pos h, if_pos h, mul_neg, mul_one, mul_neg, ← sub_eq_add_neg]
    have e1 : fstH (pair d) = d := Fin.ext (by show d.val % 64 = d.val; omega)
    have e2 : sndH (pair d) = opp d := Fin.ext (by show 64 + d.val % 64 = (d.val + 64) % 128; omega)
    rw [e1, e2]
  · rw [if_neg h, if_neg h, mul_one, add_comm]
    have e1 : fstH (pair d) = opp d := Fin.ext (by show d.val % 64 = (d.val + 64) % 128; omega)
    have e2 : sndH (pair d) = d := Fin.ext (by show 64 + d.val % 64 = d.val; omega)
    rw [e1, e2]

end Cert.Kernel2Ideal.In
end
-- ==== Proof.InTabs.lean ====
module
public import proofs.«01_k».proof.Proof.InUnits
public import Idealize.ShloMosaic.Lib.StableHlo.ReadAt

@[expose] public section
noncomputable section
namespace Cert.Kernel2Ideal.In
open Idealize.ShloMosaic Idealize.ShloMosaic.TcCoe Cert.Inp Cert.Kernel2Ideal Cert.Kernel2Ideal.Gen

variable (m : (ℓ : Loc nD τ sig) → Buf (Elt Ideal) ℓ) (c : Dev nD)

/-- The kernel's first table holds every column's frequency, -/
theorem V_freq (d : Fin 128) : (V m c main_v7 (ix2 (0 : Fin 1) d) : EReal) = freq (pair d) := by
  unfold V
  simp only [List.flatten_cons, List.flatten_nil, List.append_nil, List.cons_append, List.nil_append, hostOps0]
  after_reads_at
  by_cases h : d.val < 64
  · rw [dif_pos h]
    after_reads_at
    rw [show pair d = ⟨d.val, h⟩ from Fin.ext (by show d.val % 64 = d.val; omega)]
    rfl
  · rw [dif_neg h]
    after_reads_at
    rw [show pair d = ⟨d.val - 64, by omega⟩ from Fin.ext (by show d.val % 64 = d.val - 64; omega)]
    rfl

/-- the second the sign its sine is taken with, -/
theorem V_sign (d : Fin 128) : (V m c main_v12 (ix2 (0 : Fin 1) d) : EReal) = (if d.val < 64 then (-1 : EReal) else (1 : EReal)) := by
  unfold V
  simp only [List.flatten_cons, List.flatten_nil, List.append_nil, List.cons_append, List.nil_append, hostOps0]
  after_reads_at
  by_cases h : d.val < 64
  · rw [dif_pos h, if_pos h]
    after_reads_at
  · rw [dif_neg h, if_neg h]
    after_reads_at

/-- and the third the projection itself. -/
theorem V_proj (i : S2048x6144.Idx) : (V m c main_v13 i : EReal) = m ((c : Thread nD τ).loc main_arg4) i := by
  unfold V
  simp only [List.flatten_cons, List.flatten_nil, List.append_nil, List.cons_append, List.nil_append, hostOps0]
  after_reads_at

end Cert.Kernel2Ideal.In
end
-- ==== Proof.InData.lean ====
module
public import proofs.«01_k».proof.Proof.InInv

@[expose] public section
set_option maxRecDepth 16384
noncomputable section
namespace Cert.Kernel2Ideal.In
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The pipeline's data -/

/-- The buffers the body works on at point `t`. -/
def mems (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _
  a18 := Memref.whole cc0_scratch4
  h18 := Memref.isWhole_whole _
  a19 := Memref.whole cc0_scratch5
  h19 := Memref.isWhole_whole _

/-- The body the pipeline calls at point `t` is the body on them. -/
theorem bodyAt_eq (t : Fin cfg0.N) : bodyAt0 (F := F) t = (mems t).prog (grid0.coords t) := rfl

/-- The six scratch buffers at these contents, and the generator's register. -/
def scr (M : Mems) (c : Dev nD) (x14 : Vec F S2x512x2048 .bf16) (x15 x16 : Vec F S2x512x128 .f32) (x17 x18 x19 : Vec F S512x1024 .f32) : sProp 𝕄 :=
  iprop(owns (c : Thread nD τ) M.a14 fullShare x14 ∗ owns (c : Thread nD τ) M.a15 fullShare x15
    ∗ owns (c : Thread nD τ) M.a16 fullShare x16 ∗ owns (c : Thread nD τ) M.a17 fullShare x17
    ∗ owns (c : Thread nD τ) M.a18 fullShare x18 ∗ owns (c : Thread nD τ) M.a19 fullShare x19
    ∗ (∃ r, prngReg c r))

/-- The invariant before point `n`: the scratch buffers at contents `Inv` describes. -/
def Phi (M : Mems) (c : Dev nD) (n : ℕ) : sProp 𝕄 :=
  iprop(∃ x14, ∃ x15, ∃ x16, ∃ x17, ∃ x18, ∃ x19, ⌜Inv m c n x14 x15 x16 x17 x18 x19⌝ ∗ scr M c x14 x15 x16 x17 x18 x19)

/-- Contents the invariant describes, as the invariant. -/
theorem Phi_intro {M : Mems} {c : Dev nD} {n : ℕ} {x14 : Vec F S2x512x2048 .bf16} {x15 x16 : Vec F S2x512x128 .f32} {x17 x18 x19 : Vec F S512x1024 .f32}
    (h : Inv m c n x14 x15 x16 x17 x18 x19) : scr M c x14 x15 x16 x17 x18 x19 ⊢ Phi m M c n := by
  unfold Phi
  iintro H
  iexists x14; iexists x15; iexists x16; iexists x17; iexists x18; iexists x19
  isplitr
  · ipureintro; exact h
  iexact H

/-- The proof data on core `c`: inputs at their blocks, the outputs at what the tile leaves, the scratch as `Phi` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oH m c (t.val / 6)
    | ⟨8, _⟩ => oQ m c (t.val / 6)
    | ⟨9, _⟩ => oK m c (t.val / 6)
    | ⟨10, _⟩ => oV m c (t.val / 6)
    | ⟨11, _⟩ => oG m c (t.val / 6)
  Φ t := Phi m (mems (pt 0 0)) c t.val
  q _ := fullShare
  owed _ := 0

/-- The arrays are what the region finds. -/
theorem A_eq (c : Dev nD) (w : Fin cfg0.W) : (dats m 0 c).A w = V m c (Pipeline.arrRef spec0 w) := by dsimp only [dats]

/-- What the body leaves, operand by operand. -/
theorem after0 (c : Dev nD) (t : Fin cfg0.N) : (dats m 0 c).after 0 t = iblk m c 0 t := by dsimp only [dats]
/-- The body leaves operand 1's buffer at its block. -/
theorem after1 (c : Dev nD) (t : Fin cfg0.N) : (dats m 0 c).after 1 t = iblk m c 1 t := by dsimp only [dats]
/-- The body leaves operand 2's buffer at its block. -/
theorem after2 (c : Dev nD) (t : Fin cfg0.N) : (dats m 0 c).after 2 t = iblk m c 2 t := by dsimp only [dats]
/-- The body leaves operand 3's buffer at its block. -/
theorem after3 (c : Dev nD) (t : Fin cfg0.N) : (dats m 0 c).after 3 t = iblk m c 3 t := by dsimp only [dats]
/-- The body leaves operand 4's buffer at its block. -/
theorem after4 (c : Dev nD) (t : Fin cfg0.N) : (dats m 0 c).after 4 t = iblk m c 4 t := by dsimp only [dats]
/-- The body leaves operand 5's buffer at its block. -/
theorem after5 (c : Dev nD) (t : Fin cfg0.N) : (dats m 0 c).after 5 t = iblk m c 5 t := by dsimp only [dats]
/-- The body leaves operand 6's buffer at its block. -/
theorem after6 (c : Dev nD) (t : Fin cfg0.N) : (dats m 0 c).after 6 t = iblk m c 6 t := by dsimp only [dats]
/-- The body leaves the h rows of the tile before in operand 7's buffer. -/
theorem after7 (c : Dev nD) (t : Fin cfg0.N) : (dats m 0 c).after 7 t = oH m c (t.val / 6) := by dsimp only [dats]
/-- The body leaves the queries of the tile before in operand 8's buffer. -/
theorem after8 (c : Dev nD) (t : Fin cfg0.N) : (dats m 0 c).after 8 t = oQ m c (t.val / 6) := by dsimp only [dats]
/-- The body leaves the keys of the tile before in operand 9's buffer. -/
theorem after9 (c : Dev nD) (t : Fin cfg0.N) : (dats m 0 c).after 9 t = oK m c (t.val / 6) := by dsimp only [dats]
/-- The body leaves the values of the tile before in operand 10's buffer. -/
theorem after10 (c : Dev nD) (t : Fin cfg0.N) : (dats m 0 c).after 10 t = oV m c (t.val / 6) := by dsimp only [dats]
/-- The body leaves the gates of the tile before in operand 11's buffer. -/
theorem after11 (c : Dev nD) (t : Fin cfg0.N) : (dats m 0 c).after 11 t = oG m c (t.val / 6) := by dsimp only [dats]

/-- What the body finds in each input's buffer: its block. -/
theorem before0 (c : Dev nD) (t : Fin cfg0.N) (d) : (dats m 0 c).before 0 t d = iblk m c 0 t :=
  before0_0_of m (dats m 0 c) (A_eq m c 0) (after0 m c) t d
/-- The body finds operand 1's block in its buffer. -/
theorem before1 (c : Dev nD) (t : Fin cfg0.N) (d) : (dats m 0 c).before 1 t d = iblk m c 1 t :=
  before0_1_of m (dats m 0 c) (A_eq m c 1) (after1 m c) t d
/-- The body finds operand 2's block in its buffer. -/
theorem before2 (c : Dev nD) (t : Fin cfg0.N) (d) : (dats m 0 c).before 2 t d = iblk m c 2 t :=
  before0_2_of m (dats m 0 c) (A_eq m c 2) (after2 m c) t d
/-- The body finds operand 3's block in its buffer. -/
theorem before3 (c : Dev nD) (t : Fin cfg0.N) (d) : (dats m 0 c).before 3 t d = iblk m c 3 t :=
  before0_3_of m (dats m 0 c) (A_eq m c 3) (after3 m c) t d
/-- The body finds operand 4's block in its buffer. -/
theorem before4 (c : Dev nD) (t : Fin cfg0.N) (d) : (dats m 0 c).before 4 t d = iblk m c 4 t :=
  before0_4_of m (dats m 0 c) (A_eq m c 4) (after4 m c) t d
/-- The body finds operand 5's block in its buffer. -/
theorem before5 (c : Dev nD) (t : Fin cfg0.N) (d) : (dats m 0 c).before 5 t d = iblk m c 5 t :=
  before0_5_of m (dats m 0 c) (A_eq m c 5) (after5 m c) t d
/-- The body finds operand 6's block in its buffer. -/
theorem before6 (c : Dev nD) (t : Fin cfg0.N) (d) : (dats m 0 c).before 6 t d = iblk m c 6 t :=
  before0_6_of m (dats m 0 c) (A_eq m c 6) (after6 m c) t d

/-- A branch's condition and what it says, as truth values. -/
theorem not_beq {b : BitVec 1} {p : Prop} [Decidable p] (h : b = 1#1 ↔ p) : (!(b == 1#1)) = !decide p := by
  by_cases hp : p
  · rw [h.mpr hp, decide_eq_true hp]; rfl
  · rw [decide_eq_false hp, beq_eq_false_iff_ne.mpr (fun e => hp (h.mp e))]

/-- An output is idle except at the step that stores it. -/
theorem idle7 (t : Fin cfg0.N) : cfg0.idle 7 (cfg0.grid.coords t) = !decide (t.val % 6 = 2 ∧ 6 ≤ t.val) := not_beq (cond4 t)
/-- Operand 8 is idle except at step 3 of a later tile. -/
theorem idle8 (t : Fin cfg0.N) : cfg0.idle 8 (cfg0.grid.coords t) = !decide (t.val % 6 = 3 ∧ 6 ≤ t.val) := not_beq (cond5 t)
/-- Operand 9 is idle except at step 4 of a later tile. -/
theorem idle9 (t : Fin cfg0.N) : cfg0.idle 9 (cfg0.grid.coords t) = !decide (t.val % 6 = 4 ∧ 6 ≤ t.val) := not_beq (cond6 t)
/-- Operand 10 is idle except at step 5 of a later tile. -/
theorem idle10 (t : Fin cfg0.N) : cfg0.idle 10 (cfg0.grid.coords t) = !decide (t.val % 6 = 5 ∧ 6 ≤ t.val) := not_beq (cond7 t)
/-- Operand 11 is idle except at step 5 of a later tile. -/
theorem idle11 (t : Fin cfg0.N) : cfg0.idle 11 (cfg0.grid.coords t) = !decide (t.val % 6 = 5 ∧ 6 ≤ t.val) := not_beq (cond7 t)

/-- An output's buffer at a point after an idle one that did not write it back holds what it held there; -/
theorem before_idle (c : Dev nD) (w : Fin cfg0.W) (t s : Fin cfg0.N) (hs : s.val + 1 = t.val) (hf : (cfg0.win w).fetch t = false)
    (hfl : (cfg0.win w).flush s = false) (hi : cfg0.idle w (cfg0.grid.coords s) = true) (d) :
    (dats m 0 c).before w t d = (dats m 0 c).before w s d := by
  have e : (⟨t.val - 1, Nat.lt_of_le_of_lt (Nat.sub_le _ _) t.isLt⟩ : Fin cfg0.N) = s := Fin.ext (by show t.val - 1 = s.val; omega)
  rw [Dat.before_of_pos _ w t (by omega) hf, e, hfl, if_neg Bool.false_ne_true]
  unfold Dat.left
  rw [hi]

/-- after one that stored it, what was stored. -/
theorem before_live (c : Dev nD) (w : Fin cfg0.W) (t s : Fin cfg0.N) (hs : s.val + 1 = t.val) (hf : (cfg0.win w).fetch t = false)
    (hfl : (cfg0.win w).flush s = false) (hi : cfg0.idle w (cfg0.grid.coords s) = false) (d) :
    (dats m 0 c).before w t d = (dats m 0 c).kept w s d := by
  have e : (⟨t.val - 1, Nat.lt_of_le_of_lt (Nat.sub_le _ _) t.isLt⟩ : Fin cfg0.N) = s := Fin.ext (by show t.val - 1 = s.val; omega)
  rw [Dat.before_of_pos _ w t (by omega) hf, e, hfl, if_neg Bool.false_ne_true]
  unfold Dat.left
  rw [hi]

/-- The point `k` before `t`. -/
def back (t : Fin cfg0.N) (k : ℕ) : Fin cfg0.N := ⟨t.val - k, lt_of_le_of_lt (Nat.sub_le _ _) t.isLt⟩

/-- At a later tile's last step operand 7's buffer still holds what step 2 stored. -/
theorem before7 (c : Dev nD) (t : Fin cfg0.N) (h : t.val % 6 = 5) (h6 : 6 ≤ t.val) (d) : (dats m 0 c).before 7 t d = oH m c (t.val / 6) := by
  rw [before_idle m c 7 t (back t 1) (by show t.val - 1 + 1 = t.val; omega) rfl
    (by rw [show (cfg0.win 7).flush _ = win0_7.flush _ from rfl, flush7]; exact decide_eq_false (by show ¬((t.val - 1) % 6 = 5 ∧ _); omega))
    (by rw [idle7]; simp only [Bool.not_eq_true', decide_eq_false_iff_not]; show ¬((t.val - 1) % 6 = 2 ∧ 6 ≤ t.val - 1); omega)]
  rw [before_idle m c 7 (back t 1) (back t 2) (by show t.val - 2 + 1 = t.val - 1; omega) rfl
    (by rw [show (cfg0.win 7).flush _ = win0_7.flush _ from rfl, flush7]; exact decide_eq_false (by show ¬((t.val - 2) % 6 = 5 ∧ _); omega))
    (by rw [idle7]; simp only [Bool.not_eq_true', decide_eq_false_iff_not]; show ¬((t.val - 2) % 6 = 2 ∧ 6 ≤ t.val - 2); omega)]
  rw [before_live m c 7 (back t 2) (back t 3) (by show t.val - 3 + 1 = t.val - 2; omega) rfl
    (by rw [show (cfg0.win 7).flush _ = win0_7.flush _ from rfl, flush7]; exact decide_eq_false (by show ¬((t.val - 3) % 6 = 5 ∧ _); omega))
    (by rw [idle7]; simp only [Bool.not_eq_false', decide_eq_true_iff]; show ((t.val - 3) % 6 = 2 ∧ 6 ≤ t.val - 3); omega)]
  show (dats m 0 c).after 7 (back t 3) = _
  rw [after7, show (back t 3).val / 6 = t.val / 6 from by show (t.val - 3) / 6 = _; omega]

/-- At a later tile's last step operand 8's buffer still holds what step 3 stored. -/
theorem before8 (c : Dev nD) (t : Fin cfg0.N) (h : t.val % 6 = 5) (h6 : 6 ≤ t.val) (d) : (dats m 0 c).before 8 t d = oQ m c (t.val / 6) := by
  rw [before_idle m c 8 t (back t 1) (by show t.val - 1 + 1 = t.val; omega) rfl
    (by rw [show (cfg0.win 8).flush _ = win0_8.flush _ from rfl, flush8]; exact decide_eq_false (by show ¬((t.val - 1) % 6 = 5 ∧ _); omega))
    (by rw [idle8]; simp only [Bool.not_eq_true', decide_eq_false_iff_not]; show ¬((t.val - 1) % 6 = 3 ∧ 6 ≤ t.val - 1); omega)]
  rw [before_live m c 8 (back t 1) (back t 2) (by show t.val - 2 + 1 = t.val - 1; omega) rfl
    (by rw [show (cfg0.win 8).flush _ = win0_8.flush _ from rfl, flush8]; exact decide_eq_false (by show ¬((t.val - 2) % 6 = 5 ∧ _); omega))
    (by rw [idle8]; simp only [Bool.not_eq_false', decide_eq_true_iff]; show ((t.val - 2) % 6 = 3 ∧ 6 ≤ t.val - 2); omega)]
  show (dats m 0 c).after 8 (back t 2) = _
  rw [after8, show (back t 2).val / 6 = t.val / 6 from by show (t.val - 2) / 6 = _; omega]

/-- At a later tile's last step operand 9's buffer still holds what step 4 stored. -/
theorem before9 (c : Dev nD) (t : Fin cfg0.N) (h : t.val % 6 = 5) (h6 : 6 ≤ t.val) (d) : (dats m 0 c).before 9 t d = oK m c (t.val / 6) := by
  rw [before_live m c 9 t (back t 1) (by show t.val - 1 + 1 = t.val; omega) rfl
    (by rw [show (cfg0.win 9).flush _ = win0_9.flush _ from rfl, flush9]; exact decide_eq_false (by show ¬((t.val - 1) % 6 = 5 ∧ _); omega))
    (by rw [idle9]; simp only [Bool.not_eq_false', decide_eq_true_iff]; show ((t.val - 1) % 6 = 4 ∧ 6 ≤ t.val - 1); omega)]
  show (dats m 0 c).after 9 (back t 1) = _
  rw [after9, show (back t 1).val / 6 = t.val / 6 from by show (t.val - 1) / 6 = _; omega]

end Cert.Kernel2Ideal.In
end
-- ==== Proof.InKern.lean ====
module
public import proofs.«01_k».proof.Proof.InTabs
public import proofs.«01_k».proof.Proof.InData

@[expose] public section
noncomputable section
namespace Cert.Kernel2Ideal.In
open Idealize.ShloMosaic Idealize.ShloMosaic.TcCoe Cert.Inp Cert.Kernel2Ideal Cert.Kernel2Ideal.Gen

variable (m : (ℓ : Loc nD τ sig) → Buf (Elt Ideal) ℓ) (c : Dev nD)

/-- What the kernel is given. -/
def args : Cert.Inp.In where
  x := m ((c : Thread nD τ).loc main_arg0)
  sc := m ((c : Thread nD τ).loc main_arg1)
  sh := m ((c : Thread nD τ).loc main_arg2)
  pos := m ((c : Thread nD τ).loc main_arg3)
  w := m ((c : Thread nD τ).loc main_arg4)

/-! ## Where the blocks lie -/

/-- At the first step of a tile its rows, its sequence's scale and shift and its positions are staged. -/
theorem idx_tile : ∀ i : Fin 32,
    (win0_0.index (pt i.val 0) (0 : Fin 2) = i.val ∧ win0_0.index (pt i.val 0) (1 : Fin 2) = 0)
    ∧ (win0_3.index (pt i.val 0) (0 : Fin 2) = i.val ∧ win0_3.index (pt i.val 0) (1 : Fin 2) = 0)
    ∧ (win0_1.index (pt i.val 0) (0 : Fin 3) = i.val / 8 ∧ win0_1.index (pt i.val 0) (1 : Fin 3) = 0 ∧ win0_1.index (pt i.val 0) (2 : Fin 3) = 0)
    ∧ (win0_2.index (pt i.val 0) (0 : Fin 3) = i.val / 8 ∧ win0_2.index (pt i.val 0) (1 : Fin 3) = 0 ∧ win0_2.index (pt i.val 0) (2 : Fin 3) = 0) := by
  decide +kernel
/-- The two tables are staged whole. -/
theorem idx_tabs : ∀ (t : Fin cfg0.N) (a : Fin 2), win0_4.index t a = 0 ∧ win0_5.index t a = 0 :=
  (by decide +kernel : ∀ (t : Fin grid0.N) (a : Fin 2), _)
/-- Step `j` of a later tile stages part `j` of the projection. -/
theorem idx_part : ∀ (i : Fin 32) (j : Fin 6),
    win0_6.index (pt (i.val + 1) j.val) (0 : Fin 2) = 0 ∧ win0_6.index (pt (i.val + 1) j.val) (1 : Fin 2) = j.val := by
  decide +kernel

/-- The array's row that row `r` of tile `i` is. -/
def arow (i : Fin 32) (r : Fin 512) : Fin 16384 := ⟨512 * i.val + r.val, by omega⟩

/-- A tile's rows. -/
theorem x_at (i : Fin 32) (r : Fin 512) (e : Fin 2048) : iblk m c 0 (pt i.val 0) (ix2 r e) = (args m c).x (ix2 (arow i r) e) := by
  refine (congrFun (V_main_arg0 m c) _).trans (congrArg (args m c).x ?_)
  have h := (idx_tile i).1
  funext a; apply Fin.ext
  fin_cases a
  · show win0_0.index (pt i.val 0) (0 : Fin 2) * 512 + 1 * r.val = 512 * i.val + r.val; rw [h.1]; omega
  · show win0_0.index (pt i.val 0) (1 : Fin 2) * 2048 + 1 * e.val = e.val; rw [h.2]; omega

/-- A tile's positions. -/
theorem pos_at (i : Fin 32) (r : Fin 512) : iblk m c 3 (pt i.val 0) (ix2 r (0 : Fin 1)) = (args m c).pos (ix2 (arow i r) (0 : Fin 1)) := by
  refine (congrFun (V_main_arg3 m c) _).trans (congrArg (args m c).pos ?_)
  have h := (idx_tile i).2.1
  funext a; apply Fin.ext
  fin_cases a
  · show win0_3.index (pt i.val 0) (0 : Fin 2) * 512 + 1 * r.val = 512 * i.val + r.val; rw [h.1]; omega
  · show win0_3.index (pt i.val 0) (1 : Fin 2) * 1 + 1 * 0 = 0; rw [h.2]

/-- A tile's scale -/
theorem sc_at (i : Fin 32) (r : Fin 512) (e : Fin 2048) :
    iblk m c 1 (pt i.val 0) (ix3 (0 : Fin 1) (0 : Fin 1) e) = (args m c).sc (ix3 (seqOf (arow i r)) (0 : Fin 1) e) := by
  refine (congrFun (V_main_arg1 m c) _).trans (congrArg (args m c).sc ?_)
  have h := (idx_tile i).2.2.1
  funext a; apply Fin.ext
  fin_cases a
  · show win0_1.index (pt i.val 0) (0 : Fin 3) * 1 + 1 * 0 = (512 * i.val + r.val) / 4096; rw [h.1]; omega
  · show win0_1.index (pt i.val 0) (1 : Fin 3) * 1 + 1 * 0 = 0; rw [h.2.1]
  · show win0_1.index (pt i.val 0) (2 : Fin 3) * 2048 + 1 * e.val = e.val; rw [h.2.2]; omega

/-- and shift. -/
theorem sh_at (i : Fin 32) (r : Fin 512) (e : Fin 2048) :
    iblk m c 2 (pt i.val 0) (ix3 (0 : Fin 1) (0 : Fin 1) e) = (args m c).sh (ix3 (seqOf (arow i r)) (0 : Fin 1) e) := by
  refine (congrFun (V_main_arg2 m c) _).trans (congrArg (args m c).sh ?_)
  have h := (idx_tile i).2.2.2
  funext a; apply Fin.ext
  fin_cases a
  · show win0_2.index (pt i.val 0) (0 : Fin 3) * 1 + 1 * 0 = (512 * i.val + r.val) / 4096; rw [h.1]; omega
  · show win0_2.index (pt i.val 0) (1 : Fin 3) * 1 + 1 * 0 = 0; rw [h.2.1]
  · show win0_2.index (pt i.val 0) (2 : Fin 3) * 2048 + 1 * e.val = e.val; rw [h.2.2]; omega

/-- The frequencies -/
theorem freq_at (t : Fin cfg0.N) (d : Fin 128) : (iblk m c 4 t (ix2 (0 : Fin 1) d) : EReal) = freq (pair d) := by
  refine Eq.trans (congrArg (V m c main_v7) ?_) (V_freq m c d)
  funext a; apply Fin.ext
  have e := (idx_tabs t a).1
  fin_cases a
  · show win0_4.index t (0 : Fin 2) * 1 + 1 * 0 = 0; rw [show win0_4.index t (0 : Fin 2) = 0 from e]
  · show win0_4.index t (1 : Fin 2) * 128 + 1 * d.val = d.val; rw [show win0_4.index t (1 : Fin 2) = 0 from e]; omega

/-- and the signs. -/
theorem sign_at (t : Fin cfg0.N) (d : Fin 128) : (iblk m c 5 t (ix2 (0 : Fin 1) d) : EReal) = (if d.val < 64 then (-1 : EReal) else (1 : EReal)) := by
  refine Eq.trans (congrArg (V m c main_v12) ?_) (V_sign m c d)
  funext a; apply Fin.ext
  have e := (idx_tabs t a).2
  fin_cases a
  · show win0_5.index t (0 : Fin 2) * 1 + 1 * 0 = 0; rw [show win0_5.index t (0 : Fin 2) = 0 from e]
  · show win0_5.index t (1 : Fin 2) * 128 + 1 * d.val = d.val; rw [show win0_5.index t (1 : Fin 2) = 0 from e]; omega

/-- A step's part of the projection. -/
theorem w_at (i : Fin 32) (j : Fin 6) (k : Fin 2048) (n : Fin 1024) :
    (iblk m c 6 (pt (i.val + 1) j.val) (ix2 k n) : EReal) = (args m c).w (ix2 k (col j n)) := by
  refine (V_proj m c _).trans (congrArg (args m c).w ?_)
  have h := idx_part i j
  funext a; apply Fin.ext
  fin_cases a
  · show win0_6.index (pt (i.val + 1) j.val) (0 : Fin 2) * 2048 + 1 * k.val = k.val; rw [h.1]; omega
  · show win0_6.index (pt (i.val + 1) j.val) (1 : Fin 2) * 1024 + 1 * n.val = 1024 * j.val + n.val; rw [h.2]; omega

/-! ## What the tiles leave -/

/-- A tile's normalised rows are the layer's. -/
theorem U_at (i : Fin 32) (r : Fin 512) (e : Fin 2048) : (U m c i.val (ix3 (0 : Fin 1) r e) : EReal) = (args m c).u (arow i r) e := by
  unfold U In.u
  refine (pay6_at _ _ _ r e).trans ?_
  simp only [x_at, sc_at m c i r, sh_at m c i r]

/-- A product is the projection onto a part's columns. -/
theorem P_at (i : Fin 32) (j : Fin 6) (r : Fin 512) (n : Fin 1024) : (P m c (i.val + 1) j.val (ix2 r n) : EReal) = (args m c).pr j (arow i r) n := by
  unfold P In.pr
  refine (MM_at _ _ r n).trans (Finset.sum_congr rfl fun k _ => ?_)
  exact congrArg₂ (· * ·) (U_at m c i r k) (w_at m c i j k n)

/-- The gated half. -/
theorem oH_at (i : Fin 32) (r : Fin 512) (n : Fin 1024) : (oH m c (i.val + 1) (ix2 r n) : EReal) = (args m c).h0 (arow i r) n := by
  have e : (oH m c (i.val + 1) (ix2 r n) : EReal) = gated (P m c (i.val + 1) 0 (ix2 r n)) (P m c (i.val + 1) 1 (ix2 r n)) := by
    unfold oH k0_pay39 gated
    pointwise
  rw [e]
  exact congrArg₂ gated (P_at m c i 0 r n) (P_at m c i 1 r n)

/-- The values. -/
theorem oV_at (i : Fin 32) (r : Fin 512) (n : Fin 1024) : (oV m c (i.val + 1) (ix2 r n) : EReal) = (args m c).v (arow i r) n :=
  (show (oV m c (i.val + 1) (ix2 r n) : EReal) = P m c (i.val + 1) 4 (ix2 r n) from rfl).trans (P_at m c i 4 r n)

/-- The gates. -/
theorem oG_at (i : Fin 32) (r : Fin 512) (n : Fin 1024) : (oG m c (i.val + 1) (ix2 r n) : EReal) = (args m c).g (arow i r) n :=
  (pay5_at _ _ r n).trans (congrArg₂ gated (P_at m c i 5 r n) (P_at m c i 5 r n))

/-- A head of a product is the projection onto that head's columns. -/
theorem head_at (i : Fin 32) (j : Fin 6) (h : Fin 8) (r : Fin 512) (d : Fin 128) :
    (View.ld (P m c (i.val + 1) j.val) (rH h) (ix2 r d) : EReal) = (args m c).pr j (arow i r) (hcol h d) := by
  refine Eq.trans (congrArg (P m c (i.val + 1) j.val) ?_) (P_at m c i j r (hcol h d))
  funext a; apply Fin.ext
  fin_cases a
  · show 0 + 1 * r.val = r.val; omega
  · show offH h + 1 * d.val = 128 * h.val + d.val; rw [offH_eq]; omega

/-- A tile's rotation of a head is the layer's. -/
theorem turn_at (i : Fin 32) (r : Fin 512) (d : Fin 128) (a : Fin 128 → EReal) :
    a d * (Co m c i.val (ix3 (0 : Fin 1) r d) : EReal) + a (opp d) * (Si m c i.val (ix3 (0 : Fin 1) r d) : EReal)
      = rot a ((args m c).pos (ix2 (arow i r) (0 : Fin 1))) d := by
  unfold Co Si
  rw [cos_at, sin_at, pos_at]
  exact turn_eq a _ d _ _ (freq_at m c _ d) (sign_at m c _ d)

/-- The queries. -/
theorem oQ_at (i : Fin 32) (r : Fin 512) (n : Fin 1024) : (oQ m c (i.val + 1) (ix2 r n) : EReal) = (args m c).q (arow i r) n := by
  refine (qHead_at (Co m c i.val) (Si m c i.val) (View.ld (P m c (i.val + 1) 2) (rH (hOf n))) r (dOf n)).trans ?_
  refine (turn_at m c i r (dOf n) (fun d => View.ld (P m c (i.val + 1) 2) (rH (hOf n)) (ix2 r d))).trans ?_
  exact congrArg (fun f => rot f _ _) (funext fun d => head_at m c i 2 (hOf n) r d)

/-- The keys. -/
theorem oK_at (i : Fin 32) (r : Fin 512) (n : Fin 1024) : (oK m c (i.val + 1) (ix2 r n) : EReal) = (args m c).k (arow i r) n := by
  refine (kHead_at (Co m c i.val) (Si m c i.val) (View.ld (P m c (i.val + 1) 3) (rH (hOf n))) r (dOf n)).trans (congrArg (· * scl) ?_)
  refine (turn_at m c i r (dOf n) (fun d => View.ld (P m c (i.val + 1) 3) (rH (hOf n)) (ix2 r d))).trans ?_
  exact congrArg (fun f => rot f _ _) (funext fun d => head_at m c i 3 (hOf n) r d)

end Cert.Kernel2Ideal.In
end
-- ==== Proof.InRot.lean ====
module
public import proofs.«01_k».proof.Proof.InRuns
public import proofs.«01_k».proof.Proof.Gen.Kernel2Ideal.Skeleton
public import Idealize.ShloMosaic.Lib.Pipeline.ReadBack
public import Idealize.ShloMosaic.Lib.VecWindow
public import Idealize.ShloMosaic.Lib.WritesUnit
public import Idealize.ShloMosaic.Lib.Pointwise

@[expose] public section
set_option maxRecDepth 16384
noncomputable section
namespace Cert.Kernel2Ideal.In
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (M : Mems) (c : Dev nD) (i : grid0.Coords) (E : Set ℕ) (K : PUnit → sProp (MT nD τ sig Unit (Elt F) ℕ (UR sig nD τ) ℕ))

/-! ## One head's queries and keys, as the body spells them head by head -/

variable (co si : Vec F S1x512x128 .f32) (a : Vec F S512x128 .f32)

/-- Every head's queries are `qHead` of its columns. -/
theorem q0 : k0_pay13 co si a = qHead co si a := rfl
/-- Head 1's queries are `qHead` of its columns. -/
theorem q1 : k0_pay14 co si a = qHead co si a := rfl
/-- Head 2's queries are `qHead` of its columns. -/
theorem q2 : k0_pay17 (k0_pay15 co a) (k0_pay16 si a) = qHead co si a := rfl
/-- Head 3's queries are `qHead` of its columns. -/
theorem q3 : k0_pay18 (k0_pay11 co) (k0_pay12 si) a = qHead co si a := rfl
/-- Head 4's queries are `qHead` of its columns. -/
theorem q4 : k0_pay19 (k0_pay11 co) (k0_pay12 si) a = qHead co si a := rfl
/-- Head 5's queries are `qHead` of its columns. -/
theorem q5 : k0_pay20 (k0_pay11 co) (k0_pay12 si) a = qHead co si a := rfl
/-- Head 6's queries are `qHead` of its columns. -/
theorem q6 : k0_pay21 (k0_pay11 co) (k0_pay12 si) a = qHead co si a := rfl
/-- Head 7's queries are `qHead` of its columns. -/
theorem q7 : k0_pay1 (k0_pay11 co) (k0_pay12 si) a = qHead co si a := rfl
/-- Every head's keys are `kHead` of its columns. -/
theorem k0 : k0_pay25 co si a = kHead co si a := rfl
/-- Head 1's keys are `kHead` of its columns. -/
theorem k1 : k0_pay26 co si a = kHead co si a := rfl
/-- Head 2's keys are `kHead` of its columns. -/
theorem k2 : k0_pay27 (k0_pay23 co) (k0_pay24 si) a = kHead co si a := rfl
/-- Head 3's keys are `kHead` of its columns. -/
theorem k3 : k0_pay28 (k0_pay23 co) (k0_pay24 si) a = kHead co si a := rfl
/-- Head 4's keys are `kHead` of its columns. -/
theorem k4 : k0_pay29 (k0_pay23 co) (k0_pay24 si) a = kHead co si a := rfl
/-- Head 5's keys are `kHead` of its columns. -/
theorem k5 : k0_pay30 (k0_pay23 co) (k0_pay24 si) a = kHead co si a := rfl
/-- Head 6's keys are `kHead` of its columns. -/
theorem k6 : k0_pay2 (k0_pay23 co) (k0_pay24 si) a = kHead co si a := rfl
/-- Head 7's keys are `kHead` of its columns. -/
theorem k7 : k0_pay3 (k0_pay23 co) (k0_pay24 si) a = kHead co si a := rfl

set_option maxHeartbeats 3200000 in
/-- Step 3 of a later tile: the fourth product is stored into its scratch, and the third, rotated, as the tile's queries. -/
theorem run_E (h1 : ¬k0_cond1 i = 1#1) (h2 : ¬k0_cond2 i = 1#1) (h3 : ¬k0_cond3 i = 1#1) (h4 : ¬k0_cond4 i = 1#1) (h5 : k0_cond5 i = 1#1) (h6 : ¬k0_cond6 i = 1#1) (h7 : ¬k0_cond7 i = 1#1)
    (x14 : Vec F S2x512x2048 .bf16) (x15 x16 : Vec F S2x512x128 .f32) (x8 : Vec F S2048x1024 .bf16) (x19 : Vec F S512x1024 .f32) :
    iprop(owns (c : Thread nD τ) M.a14 fullShare x14 ∗ owns (c : Thread nD τ) M.a15 fullShare x15 ∗ owns (c : Thread nD τ) M.a16 fullShare x16
      ∗ owns (c : Thread nD τ) M.a8 fullShare x8 ∗ owns (c : Thread nD τ) M.a19 fullShare x19
      ∗ (∃ d, owns (c : Thread nD τ) M.a17 fullShare d) ∗ (∃ d, owns (c : Thread nD τ) M.a10 fullShare d)
      ∗ (iprop(owns (c : Thread nD τ) M.a14 fullShare x14 ∗ owns (c : Thread nD τ) M.a15 fullShare x15 ∗ owns (c : Thread nD τ) M.a16 fullShare x16
          ∗ owns (c : Thread nD τ) M.a8 fullShare x8 ∗ owns (c : Thread nD τ) M.a19 fullShare x19
          ∗ owns (c : Thread nD τ) M.a17 fullShare (MM (View.ld x14 (Rect.unit (s := S2x512x2048) (k0_off8 i) S1x512x2048.size (k0_off8_inb i h5))) x8)
          ∗ owns (c : Thread nD τ) M.a10 fullShare (qTile (View.ld x15 (Rect.unit (s := S2x512x128) (k0_off9 i) S1x512x128.size (k0_off9_inb i h5)))
              (View.ld x16 (Rect.unit (s := S2x512x128) (k0_off9 i) S1x512x128.size (k0_off9_inb i h5))) x19)) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton, k0_part3_eq_skeleton, k0_part4_eq_skeleton]
  unfold owns
  iintro ⟨⟨%f14, %hf14, H14⟩, ⟨%f15, %hf15, H15⟩, ⟨%f16, %hf16, H16⟩, ⟨%f8, %hf8, H8⟩, ⟨%fs, %hfs, HS⟩, ⟨%dm, %fm, -, HM⟩, ⟨%d9, %f9, -, HO⟩, Hk⟩
  obtain rfl := M.h14.eq_unread hf14; obtain rfl := M.h15.eq_unread hf15; obtain rfl := M.h16.eq_unread hf16
  obtain rfl := M.h8.eq_unread hf8; obtain rfl := M.h19.eq_unread hfs
  sl_exec (disch := first | sl_exact h1 | sl_exact h2 | sl_exact h3 | sl_exact h4 | sl_exact h5 | sl_exact h6 | sl_exact h7)
  sl_step
  iapply Hk
  isplitl [H14]; · iexists _; isplitr; · ipureintro; exact hf14
                   iexact H14
  isplitl [H15]; · iexists _; isplitr; · ipureintro; exact hf15
                   iexact H15
  isplitl [H16]; · iexists _; isplitr; · ipureintro; exact hf16
                   iexact H16
  isplitl [H8]; · iexists _; isplitr; · ipureintro; exact hf8
                  iexact H8
  isplitl [HS]; · iexists _; isplitr; · ipureintro; exact hfs
                  iexact HS
  isplitl [HM]
  · iexists _; isplitr
    swap; · iexact HM
    ipureintro
    rw [View.read_writes_full, rd_win, rd_full]
    rfl
  iexists _; isplitr
  swap; · iexact HO
  ipureintro
  unfold run_E.sl.r_2 run_E.sl.r_3 run_E.sl.r run_E.sl.r_1
  simp only [rd_win, q0, q1, q2, q3, q4, q5, q6, q7]
  exact read_bands _ _ (fun h => qHead _ _ (View.ld x19 (rH h)))

set_option maxHeartbeats 3200000 in
/-- Step 4 of a later tile: the fifth product is stored into its scratch, and the fourth, rotated and scaled, as the tile's keys. -/
theorem run_F (h1 : ¬k0_cond1 i = 1#1) (h2 : ¬k0_cond2 i = 1#1) (h3 : ¬k0_cond3 i = 1#1) (h4 : ¬k0_cond4 i = 1#1) (h5 : ¬k0_cond5 i = 1#1) (h6 : k0_cond6 i = 1#1) (h7 : ¬k0_cond7 i = 1#1)
    (x14 : Vec F S2x512x2048 .bf16) (x15 x16 : Vec F S2x512x128 .f32) (x8 : Vec F S2048x1024 .bf16) (x17 : Vec F S512x1024 .f32) :
    iprop(owns (c : Thread nD τ) M.a14 fullShare x14 ∗ owns (c : Thread nD τ) M.a15 fullShare x15 ∗ owns (c : Thread nD τ) M.a16 fullShare x16
      ∗ owns (c : Thread nD τ) M.a8 fullShare x8 ∗ owns (c : Thread nD τ) M.a17 fullShare x17
      ∗ (∃ d, owns (c : Thread nD τ) M.a18 fullShare d) ∗ (∃ d, owns (c : Thread nD τ) M.a11 fullShare d)
      ∗ (iprop(owns (c : Thread nD τ) M.a14 fullShare x14 ∗ owns (c : Thread nD τ) M.a15 fullShare x15 ∗ owns (c : Thread nD τ) M.a16 fullShare x16
          ∗ owns (c : Thread nD τ) M.a8 fullShare x8 ∗ owns (c : Thread nD τ) M.a17 fullShare x17
          ∗ owns (c : Thread nD τ) M.a18 fullShare (MM (View.ld x14 (Rect.unit (s := S2x512x2048) (k0_off10 i) S1x512x2048.size (k0_off10_inb i h6))) x8)
          ∗ owns (c : Thread nD τ) M.a11 fullShare (kTile (View.ld x15 (Rect.unit (s := S2x512x128) (k0_off11 i) S1x512x128.size (k0_off11_inb i h6)))
              (View.ld x16 (Rect.unit (s := S2x512x128) (k0_off11 i) S1x512x128.size (k0_off11_inb i h6))) x17)) -∗ K ⟨⟩))
    ⊢ wp frame (wpE (defs₀ (F := F)) Variants.none c none) E (M.prog i) K := by
  unfold Mems.prog
  simp only [cc0_inproj_eq_skeleton]; unfold cc0_inproj_skel
  simp only [k0_part7_eq_skeleton, k0_part5_eq_skeleton, k0_part6_eq_skeleton]
  unfold owns
  iintro ⟨⟨%f14, %hf14, H14⟩, ⟨%f15, %hf15, H15⟩, ⟨%f16, %hf16, H16⟩, ⟨%f8, %hf8, H8⟩, ⟨%fs, %hfs, HS⟩, ⟨%dm, %fm, -, HM⟩, ⟨%d9, %f9, -, HO⟩, Hk⟩
  obtain rfl := M.h14.eq_unread hf14; obtain rfl := M.h15.eq_unread hf15; obtain rfl := M.h16.eq_unread hf16
  obtain rfl := M.h8.eq_unread hf8; obtain rfl := M.h17.eq_unread hfs
  sl_exec (disch := first | sl_exact h1 | sl_exact h2 | sl_exact h3 | sl_exact h4 | sl_exact h5 | sl_exact h6 | sl_exact h7)
  sl_step
  iapply Hk
  isplitl [H14]; · iexists _; isplitr; · ipureintro; exact hf14
                   iexact H14
  isplitl [H15]; · iexists _; isplitr; · ipureintro; exact hf15
                   iexact H15
  isplitl [H16]; · iexists _; isplitr; · ipureintro; exact hf16
                   iexact H16
  isplitl [H8]; · iexists _; isplitr; · ipureintro; exact hf8
                  iexact H8
  isplitl [HS]; · iexists _; isplitr; · ipureintro; exact hfs
                  iexact HS
  isplitl [HM]
  · iexists _; isplitr
    swap; · iexact HM
    ipureintro
    rw [View.read_writes_full, rd_win, rd_full]
    rfl
  iexists _; isplitr
  swap; · iexact HO
  ipureintro
  unfold run_F.sl.r_2 run_F.sl.r run_F.sl.r_1
  simp only [rd_win, k0, k1, k2, k3, k4, k5, k6, k7]
  exact read_bands _ _ (fun h => kHead _ _ (View.ld x17 (rH h)))

end Cert.Kernel2Ideal.In
end
-- ==== Proof.InBody.lean ====
module
public import proofs.«01_k».proof.Proof.InData
public import proofs.«01_k».proof.Proof.InRot
public import Idealize.ShloMosaic.Lib.Claim

@[expose] public section
set_option maxRecDepth 16384
noncomputable section
namespace Cert.Kernel2Ideal.In
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The body, point by point -/

/-- The inputs' buffers, each at its block. -/
def ins (c : Dev nD) (t : Fin cfg0.N) : sProp 𝕄 :=
  iprop(owns (c : Thread nD τ) (mems t).a2 fullShare (iblk m c 0 t)
    ∗ owns (c : Thread nD τ) (mems t).a3 fullShare (iblk m c 1 t)
    ∗ owns (c : Thread nD τ) (mems t).a4 fullShare (iblk m c 2 t)
    ∗ owns (c : Thread nD τ) (mems t).a5 fullShare (iblk m c 3 t)
    ∗ owns (c : Thread nD τ) (mems t).a6 fullShare (iblk m c 4 t)
    ∗ owns (c : Thread nD τ) (mems t).a7 fullShare (iblk m c 5 t)
    ∗ owns (c : Thread nD τ) (mems t).a8 fullShare (iblk m c 6 t))

/-- An output's buffer as the body finds it. -/
def found (c : Dev nD) (t : Fin cfg0.N) (w : Fin cfg0.W) : sProp 𝕄 :=
  iprop(∃ d, owns (c : Thread nD τ) ((cfg0.win w).stage (cfg0.slots t w)) fullShare ((dats m 0 c).before w t d))

/-- What the body is called with at point `t`, -/
def pre (c : Dev nD) (t : Fin cfg0.N) : sProp 𝕄 :=
  iprop(Phi m (mems t) c t.val ∗ (dats m 0 c).owesAt () t.castSucc ∗ ins m c t
    ∗ found m c t 7 ∗ found m c t 8 ∗ found m c t 9 ∗ found m c t 10 ∗ found m c t 11)

/-- and what it returns. -/
def post (c : Dev nD) (t : Fin cfg0.N) : sProp 𝕄 :=
  iprop(Phi m (mems t) c (t.val + 1) ∗ (dats m 0 c).owesAt () t.castSucc ∗ ins m c t
    ∗ (dats m 0 c).leavesExact 7 t ∗ (dats m 0 c).leavesExact 8 t ∗ (dats m 0 c).leavesExact 9 t
    ∗ (dats m 0 c).leavesExact 10 t ∗ (dats m 0 c).leavesExact 11 t)

/-- A buffer handed back as found, where that is allowed. -/
theorem hand (c : Dev nD) (t : Fin cfg0.N) (w : Fin cfg0.W) (hi : cfg0.idle w (cfg0.grid.coords t) = true)
    (h : (cfg0.win w).flush t = true → ∀ d, (dats m 0 c).before w t d = (dats m 0 c).after w t) :
    found m c t w ⊢ (dats m 0 c).leavesExact w t := by
  unfold found Dat.leavesExact
  rw [hi]
  cases hf : (cfg0.win w).flush t
  · exact .rfl
  · iintro ⟨%d, H⟩
    rw [h hf d]
    iexact H

/-- A buffer the point stored. -/
theorem give (c : Dev nD) (t : Fin cfg0.N) (w : Fin cfg0.W) (hi : cfg0.idle w (cfg0.grid.coords t) = false) :
    owns (c : Thread nD τ) ((cfg0.win w).stage (cfg0.slots t w)) fullShare ((dats m 0 c).after w t) ⊢ ((dats m 0 c).leavesExact w t : sProp 𝕄) := by
  unfold Dat.leavesExact
  rw [hi]

/-- Operand 7's buffer at a point that does not store it. -/
theorem hand7 (c : Dev nD) (t : Fin cfg0.N) (h : ¬(t.val % 6 = 2 ∧ 6 ≤ t.val)) : found m c t 7 ⊢ (dats m 0 c).leavesExact 7 t :=
  hand m c t 7 (by rw [idle7, decide_eq_false h]; rfl) fun hf d => by
    rw [show (cfg0.win 7).flush t = win0_7.flush t from rfl, flush7, decide_eq_true_iff] at hf
    rw [before7 m c t hf.1 hf.2 d, after7]
/-- Operand 7's buffer at a point that stores it (step 2 of a later tile). -/
theorem give7 (c : Dev nD) (t : Fin cfg0.N) (h : t.val % 6 = 2 ∧ 6 ≤ t.val) :
    owns (c : Thread nD τ) (mems t).a9 fullShare (oH m c (t.val / 6)) ⊢ ((dats m 0 c).leavesExact 7 t : sProp 𝕄) := by
  rw [← after7 m c t]
  exact give m c t 7 (by rw [idle7, decide_eq_true h]; rfl)

/-- Operand 8's buffer at a point that does not store it. -/
theorem hand8 (c : Dev nD) (t : Fin cfg0.N) (h : ¬(t.val % 6 = 3 ∧ 6 ≤ t.val)) : found m c t 8 ⊢ (dats m 0 c).leavesExact 8 t :=
  hand m c t 8 (by rw [idle8, decide_eq_false h]; rfl) fun hf d => by
    rw [show (cfg0.win 8).flush t = win0_8.flush t from rfl, flush8, decide_eq_true_iff] at hf
    rw [before8 m c t hf.1 hf.2 d, after8]
/-- Operand 8's buffer at a point that stores it (step 3 of a later tile). -/
theorem give8 (c : Dev nD) (t : Fin cfg0.N) (h : t.val % 6 = 3 ∧ 6 ≤ t.val) :
    owns (c : Thread nD τ) (mems t).a10 fullShare (oQ m c (t.val / 6)) ⊢ ((dats m 0 c).leavesExact 8 t : sProp 𝕄) := by
  rw [← after8 m c t]
  exact give m c t 8 (by rw [idle8, decide_eq_true h]; rfl)

/-- Operand 9's buffer at a point that does not store it. -/
theorem hand9 (c : Dev nD) (t : Fin cfg0.N) (h : ¬(t.val % 6 = 4 ∧ 6 ≤ t.val)) : found m c t 9 ⊢ (dats m 0 c).leavesExact 9 t :=
  hand m c t 9 (by rw [idle9, decide_eq_false h]; rfl) fun hf d => by
    rw [show (cfg0.win 9).flush t = win0_9.flush t from rfl, flush9, decide_eq_true_iff] at hf
    rw [before9 m c t hf.1 hf.2 d, after9]
/-- Operand 9's buffer at a point that stores it (step 4 of a later tile). -/
theorem give9 (c : Dev nD) (t : Fin cfg0.N) (h : t.val % 6 = 4 ∧ 6 ≤ t.val) :
    owns (c : Thread nD τ) (mems t).a11 fullShare (oK m c (t.val / 6)) ⊢ ((dats m 0 c).leavesExact 9 t : sProp 𝕄) := by
  rw [← after9 m c t]
  exact give m c t 9 (by rw [idle9, decide_eq_true h]; rfl)

/-- Operand 10's buffer at a point that does not store it. -/
theorem hand10 (c : Dev nD) (t : Fin cfg0.N) (h : ¬(t.val % 6 = 5 ∧ 6 ≤ t.val)) : found m c t 10 ⊢ (dats m 0 c).leavesExact 10 t :=
  hand m c t 10 (by rw [idle10, decide_eq_false h]; rfl) fun hf d => by
    rw [show (cfg0.win 10).flush t = win0_10.flush t from rfl, flush10, decide_eq_true_iff] at hf
    exact absurd hf h
/-- Operand 10's buffer at a point that stores it (step 5 of a later tile). -/
theorem give10 (c : Dev nD) (t : Fin cfg0.N) (h : t.val % 6 = 5 ∧ 6 ≤ t.val) :
    owns (c : Thread nD τ) (mems t).a12 fullShare (oV m c (t.val / 6)) ⊢ ((dats m 0 c).leavesExact 10 t : sProp 𝕄) := by
  rw [← after10 m c t]
  exact give m c t 10 (by rw [idle10, decide_eq_true h]; rfl)

/-- Operand 11's buffer at a point that does not store it. -/
theorem hand11 (c : Dev nD) (t : Fin cfg0.N) (h : ¬(t.val % 6 = 5 ∧ 6 ≤ t.val)) : found m c t 11 ⊢ (dats m 0 c).leavesExact 11 t :=
  hand m c t 11 (by rw [idle11, decide_eq_false h]; rfl) fun hf d => by
    rw [show (cfg0.win 11).flush t = win0_11.flush t from rfl, flush11, decide_eq_true_iff] at hf
    exact absurd hf h
/-- Operand 11's buffer at a point that stores it (step 5 of a later tile). -/
theorem give11 (c : Dev nD) (t : Fin cfg0.N) (h : t.val % 6 = 5 ∧ 6 ≤ t.val) :
    owns (c : Thread nD τ) (mems t).a13 fullShare (oG m c (t.val / 6)) ⊢ ((dats m 0 c).leavesExact 11 t : sProp 𝕄) := by
  rw [← after11 m c t]
  exact give m c t 11 (by rw [idle11, decide_eq_true h]; rfl)

/-- An output's buffer as found holds something. -/
theorem anyOut (c : Dev nD) (t : Fin cfg0.N) (w : Fin cfg0.W) :
    found m c t w ⊢ iprop(∃ d, owns (c : Thread nD τ) ((cfg0.win w).stage (cfg0.slots t w)) fullShare d) := by
  unfold found
  iintro ⟨%d, H⟩
  iexists _; iexact H

set_option maxHeartbeats 1600000 in
/-- Steps 1 to 5 of the first tile do nothing. -/
theorem case_H (c : Dev nD) (t : Fin cfg0.N) (h : 1 ≤ t.val) (h6 : t.val < 6) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  iapply (run_H (mems t) c (grid0.coords t) Set.univ _ (fun e => by have := (cond1 t).mp e; omega) (fun e => by have := (cond2 t).mp e; omega) (fun e => by have := (cond3 t).mp e; omega) (fun e => by have := (cond4 t).mp e; omega) (fun e => by have := (cond5 t).mp e; omega) (fun e => by have := (cond6 t).mp e; omega) (fun e => by have := (cond7 t).mp e; omega))
  isplitl [S14 S15 S16 S17 S18 S19 Hg]
  · iapply (Phi_intro m (hI.next (by omega) (by omega) (by omega) (by omega) (by omega) (by omega)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (hand8 m c t (by omega)); iexact O8
  isplitl [O9]; · iapply (hand9 m c t (by omega)); iexact O9
  isplitl [O10]; · iapply (hand10 m c t (by omega)); iexact O10
  iapply (hand11 m c t (by omega))
  iexact O11

set_option maxHeartbeats 1600000 in
/-- Step 1 of a later tile. -/
theorem case_C (c : Dev nD) (t : Fin cfg0.N) (h : t.val % 6 = 1) (h6 : 6 ≤ t.val) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  obtain ⟨p14, p15, p16⟩ := hI.prev h6
  have hN : t.val < 198 := lt_of_lt_of_eq t.isLt N_0
  have e0 := pt_eq t h
  have eo := (offs_prev t).2.1
  iapply (run_C (mems t) c (grid0.coords t) Set.univ _ (fun e => by have := (cond1 t).mp e; omega) (fun e => by have := (cond2 t).mp e; omega) ((cond3 t).mpr ⟨h, h6⟩) (fun e => by have := (cond4 t).mp e; omega) (fun e => by have := (cond5 t).mp e; omega) (fun e => by have := (cond6 t).mp e; omega) (fun e => by have := (cond7 t).mp e; omega) x14 (iblk m c 6 t))
  isplitl [S14]; · iexact S14
  isplitl [I8]; · iexact I8
  isplitl [S18]; · iexists _; iexact S18
  iintro ⟨S14, I8, S18⟩
  rw [p14.ld eo, show MM (U m c (t.val / 6 - 1)) (iblk m c 6 t) = P m c (t.val / 6) 1 from by unfold P; rw [e0]]
  isplitl [S14 S15 S16 S17 S18 S19 Hg]
  · iapply (Phi_intro m (hI.next (by omega) (fun q _ => hI.a17 q (.inl h)) (by omega) (fun _ _ => rfl) (by omega) (by omega)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (hand8 m c t (by omega)); iexact O8
  isplitl [O9]; · iapply (hand9 m c t (by omega)); iexact O9
  isplitl [O10]; · iapply (hand10 m c t (by omega)); iexact O10
  iapply (hand11 m c t (by omega))
  iexact O11

set_option maxHeartbeats 1600000 in
/-- The first point fills slot 0 with the first tile. -/
theorem case_A (c : Dev nD) (t : Fin cfg0.N) (h : t.val = 0) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  have e0 := pt_eq t (show t.val % 6 = 0 by omega)
  have eU : k0_pay6 (iblk m c 0 t) (iblk m c 1 t) (iblk m c 2 t) = U m c (t.val / 6) := by unfold U; rw [e0]
  have eC : k0_pay31 (k0_pay7 (iblk m c 3 t) (iblk m c 4 t)) = Co m c (t.val / 6) := by unfold Co; rw [e0]
  have eS : k0_pay32 (k0_pay7 (iblk m c 3 t) (iblk m c 4 t)) (iblk m c 5 t) = Si m c (t.val / 6) := by unfold Si; rw [e0]
  iapply (run_A (mems t) c (grid0.coords t) Set.univ _ ((cond1 t).mpr h) (fun e => by have := (cond2 t).mp e; omega) (fun e => by have := (cond3 t).mp e; omega) (fun e => by have := (cond4 t).mp e; omega) (fun e => by have := (cond5 t).mp e; omega) (fun e => by have := (cond6 t).mp e; omega) (fun e => by have := (cond7 t).mp e; omega) (iblk m c 0 t) (iblk m c 1 t) (iblk m c 2 t) (iblk m c 3 t) (iblk m c 4 t) (iblk m c 5 t) x14 x15 x16)
  isplitl [I2]; · iexact I2
  isplitl [I3]; · iexact I3
  isplitl [I4]; · iexact I4
  isplitl [I5]; · iexact I5
  isplitl [I6]; · iexact I6
  isplitl [I7]; · iexact I7
  isplitl [S14]; · iexact S14
  isplitl [S15]; · iexact S15
  isplitl [S16]; · iexact S16
  iintro ⟨I2, I3, I4, I5, I6, I7, S14, S15, S16⟩
  rw [eU, eC, eS]
  isplitl [S14 S15 S16 S17 S18 S19 Hg]
  · iapply (Phi_intro m (hI.fill (by omega) (offs_cur t).1 (offs_cur t).2.1 (by omega)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (hand8 m c t (by omega)); iexact O8
  isplitl [O9]; · iapply (hand9 m c t (by omega)); iexact O9
  isplitl [O10]; · iapply (hand10 m c t (by omega)); iexact O10
  iapply (hand11 m c t (by omega))
  iexact O11

set_option maxHeartbeats 1600000 in
/-- Step 0 of a later tile. -/
theorem case_B (c : Dev nD) (t : Fin cfg0.N) (h : t.val % 6 = 0) (h6 : 6 ≤ t.val) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  obtain ⟨p14, p15, p16⟩ := hI.prev h6
  have e0 := pt_eq t h
  have eU : k0_pay6 (iblk m c 0 t) (iblk m c 1 t) (iblk m c 2 t) = U m c (t.val / 6) := by unfold U; rw [e0]
  have eC : k0_pay31 (k0_pay7 (iblk m c 3 t) (iblk m c 4 t)) = Co m c (t.val / 6) := by unfold Co; rw [e0]
  have eS : k0_pay32 (k0_pay7 (iblk m c 3 t) (iblk m c 4 t)) (iblk m c 5 t) = Si m c (t.val / 6) := by unfold Si; rw [e0]
  have eM : MM (U m c (t.val / 6 - 1)) (iblk m c 6 t) = P m c (t.val / 6) 0 := by unfold P; rw [e0]
  have eo := (offs_prev t).1
  iapply (run_B (mems t) c (grid0.coords t) Set.univ _ (fun e => by have := (cond1 t).mp e; omega) ((cond2 t).mpr ⟨h, h6⟩) (fun e => by have := (cond3 t).mp e; omega) (fun e => by have := (cond4 t).mp e; omega) (fun e => by have := (cond5 t).mp e; omega) (fun e => by have := (cond6 t).mp e; omega) (fun e => by have := (cond7 t).mp e; omega) (iblk m c 0 t) (iblk m c 1 t) (iblk m c 2 t) (iblk m c 3 t) (iblk m c 4 t) (iblk m c 5 t) (iblk m c 6 t) x14 x15 x16)
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [S14]; · iexact S14
  isplitl [S15]; · iexact S15
  isplitl [S16]; · iexact S16
  isplitl [S17]; · iexists _; iexact S17
  iintro ⟨I2, I3, I4, I5, I6, I7, I8, S14, S15, S16, S17⟩
  rw [eU, eC, eS, p14.ld eo, eM]
  isplitl [S14 S15 S16 S17 S18 S19 Hg]
  · iapply (Phi_intro m (hI.fill h (offs_cur t).2.2.1 (offs_cur t).2.2.2 (fun _ => rfl)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (hand8 m c t (by omega)); iexact O8
  isplitl [O9]; · iapply (hand9 m c t (by omega)); iexact O9
  isplitl [O10]; · iapply (hand10 m c t (by omega)); iexact O10
  iapply (hand11 m c t (by omega))
  iexact O11

set_option maxHeartbeats 1600000 in
/-- Step 2 of a later tile. -/
theorem case_D (c : Dev nD) (t : Fin cfg0.N) (h : t.val % 6 = 2) (h6 : 6 ≤ t.val) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  obtain ⟨p14, p15, p16⟩ := hI.prev h6
  have e0 := pt_eq t h
  have eM : MM (U m c (t.val / 6 - 1)) (iblk m c 6 t) = P m c (t.val / 6) 2 := by unfold P; rw [e0]
  have eo := (offs_prev t).2.2.1
  iapply (run_D (mems t) c (grid0.coords t) Set.univ _ (fun e => by have := (cond1 t).mp e; omega) (fun e => by have := (cond2 t).mp e; omega) (fun e => by have := (cond3 t).mp e; omega) ((cond4 t).mpr ⟨h, h6⟩) (fun e => by have := (cond5 t).mp e; omega) (fun e => by have := (cond6 t).mp e; omega) (fun e => by have := (cond7 t).mp e; omega) x14 (iblk m c 6 t) x17 x18)
  isplitl [S14]; · iexact S14
  isplitl [I8]; · iexact I8
  isplitl [S17]; · iexact S17
  isplitl [S18]; · iexact S18
  isplitl [S19]; · iexists _; iexact S19
  isplitl [O7]; · iapply (anyOut m c t 7); iexact O7
  iintro ⟨S14, I8, S17, S18, S19, O7⟩
  rw [p14.ld eo, eM, show k0_pay39 x17 x18 = oH m c (t.val / 6) from by rw [hI.a17 h6 (.inr h), hI.a18 h6 h]; rfl]
  isplitl [S14 S15 S16 S17 S18 S19 Hg]
  · iapply (Phi_intro m (hI.next (by omega) (by omega) (by omega) (by omega) (by omega) (fun _ _ => rfl)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (give7 m c t ⟨h, h6⟩); iexact O7
  isplitl [O8]; · iapply (hand8 m c t (by omega)); iexact O8
  isplitl [O9]; · iapply (hand9 m c t (by omega)); iexact O9
  isplitl [O10]; · iapply (hand10 m c t (by omega)); iexact O10
  iapply (hand11 m c t (by omega))
  iexact O11

set_option maxHeartbeats 1600000 in
/-- Step 3 of a later tile. -/
theorem case_E (c : Dev nD) (t : Fin cfg0.N) (h : t.val % 6 = 3) (h6 : 6 ≤ t.val) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  obtain ⟨p14, p15, p16⟩ := hI.prev h6
  have e0 := pt_eq t h
  have eM : MM (U m c (t.val / 6 - 1)) (iblk m c 6 t) = P m c (t.val / 6) 3 := by unfold P; rw [e0]
  have eo := (offs_prev t).2.2.2.1
  have eo' := (offs_prev t).2.2.2.2.1
  iapply (run_E (mems t) c (grid0.coords t) Set.univ _ (fun e => by have := (cond1 t).mp e; omega) (fun e => by have := (cond2 t).mp e; omega) (fun e => by have := (cond3 t).mp e; omega) (fun e => by have := (cond4 t).mp e; omega) ((cond5 t).mpr ⟨h, h6⟩) (fun e => by have := (cond6 t).mp e; omega) (fun e => by have := (cond7 t).mp e; omega) x14 x15 x16 (iblk m c 6 t) x19)
  isplitl [S14]; · iexact S14
  isplitl [S15]; · iexact S15
  isplitl [S16]; · iexact S16
  isplitl [I8]; · iexact I8
  isplitl [S19]; · iexact S19
  isplitl [S17]; · iexists _; iexact S17
  isplitl [O8]; · iapply (anyOut m c t 8); iexact O8
  iintro ⟨S14, S15, S16, I8, S19, S17, O8⟩
  rw [p14.ld eo, eM, p15.ld eo', p16.ld eo', show qTile (Co m c (t.val / 6 - 1)) (Si m c (t.val / 6 - 1)) x19 = oQ m c (t.val / 6) from by rw [hI.a19 h6 h]; rfl]
  isplitl [S14 S15 S16 S17 S18 S19 Hg]
  · iapply (Phi_intro m (hI.next (by omega) (by omega) (fun _ _ => rfl) (by omega) (by omega) (by omega)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (give8 m c t ⟨h, h6⟩); iexact O8
  isplitl [O9]; · iapply (hand9 m c t (by omega)); iexact O9
  isplitl [O10]; · iapply (hand10 m c t (by omega)); iexact O10
  iapply (hand11 m c t (by omega))
  iexact O11

set_option maxHeartbeats 1600000 in
/-- Step 4 of a later tile. -/
theorem case_F (c : Dev nD) (t : Fin cfg0.N) (h : t.val % 6 = 4) (h6 : 6 ≤ t.val) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  obtain ⟨p14, p15, p16⟩ := hI.prev h6
  have e0 := pt_eq t h
  have eM : MM (U m c (t.val / 6 - 1)) (iblk m c 6 t) = P m c (t.val / 6) 4 := by unfold P; rw [e0]
  have eo := (offs_prev t).2.2.2.2.2.1
  have eo' := (offs_prev t).2.2.2.2.2.2.1
  iapply (run_F (mems t) c (grid0.coords t) Set.univ _ (fun e => by have := (cond1 t).mp e; omega) (fun e => by have := (cond2 t).mp e; omega) (fun e => by have := (cond3 t).mp e; omega) (fun e => by have := (cond4 t).mp e; omega) (fun e => by have := (cond5 t).mp e; omega) ((cond6 t).mpr ⟨h, h6⟩) (fun e => by have := (cond7 t).mp e; omega) x14 x15 x16 (iblk m c 6 t) x17)
  isplitl [S14]; · iexact S14
  isplitl [S15]; · iexact S15
  isplitl [S16]; · iexact S16
  isplitl [I8]; · iexact I8
  isplitl [S17]; · iexact S17
  isplitl [S18]; · iexists _; iexact S18
  isplitl [O9]; · iapply (anyOut m c t 9); iexact O9
  iintro ⟨S14, S15, S16, I8, S17, S18, O9⟩
  rw [p14.ld eo, eM, p15.ld eo', p16.ld eo', show kTile (Co m c (t.val / 6 - 1)) (Si m c (t.val / 6 - 1)) x17 = oK m c (t.val / 6) from by rw [hI.b17 h6 h]; rfl]
  isplitl [S14 S15 S16 S17 S18 S19 Hg]
  · iapply (Phi_intro m (hI.next (by omega) (by omega) (by omega) (by omega) (fun _ _ => rfl) (by omega)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (hand8 m c t (by omega)); iexact O8
  isplitl [O9]; · iapply (give9 m c t ⟨h, h6⟩); iexact O9
  isplitl [O10]; · iapply (hand10 m c t (by omega)); iexact O10
  iapply (hand11 m c t (by omega))
  iexact O11

set_option maxHeartbeats 1600000 in
/-- Step 5 of a later tile. -/
theorem case_G (c : Dev nD) (t : Fin cfg0.N) (h : t.val % 6 = 5) (h6 : 6 ≤ t.val) :
    pre m c t ⊢ wp frame (wpE (defs₀ (F := F)) Variants.none c none) Set.univ ((mems t).prog (grid0.coords t)) (fun _ => post m c t) := by
  unfold pre post ins
  conv_lhs => unfold Phi scr
  iintro ⟨⟨%x14, %x15, %x16, %x17, %x18, %x19, %hI, S14, S15, S16, S17, S18, S19, Hg⟩, Ho, ⟨I2, I3, I4, I5, I6, I7, I8⟩, O7, O8, O9, O10, O11⟩
  obtain ⟨p14, p15, p16⟩ := hI.prev h6
  have e0 := pt_eq t h
  have eo := (offs_prev t).2.2.2.2.2.2.2
  iapply (run_G (mems t) c (grid0.coords t) Set.univ _ (fun e => by have := (cond1 t).mp e; omega) (fun e => by have := (cond2 t).mp e; omega) (fun e => by have := (cond3 t).mp e; omega) (fun e => by have := (cond4 t).mp e; omega) (fun e => by have := (cond5 t).mp e; omega) (fun e => by have := (cond6 t).mp e; omega) ((cond7 t).mpr ⟨h, h6⟩) x14 (iblk m c 6 t) x18)
  isplitl [S14]; · iexact S14
  isplitl [I8]; · iexact I8
  isplitl [S18]; · iexact S18
  isplitl [O10]; · iapply (anyOut m c t 10); iexact O10
  isplitl [O11]; · iapply (anyOut m c t 11); iexact O11
  iintro ⟨S14, I8, S18, O10, O11⟩
  rw [p14.ld eo, show k0_pay4 x18 = oV m c (t.val / 6) from by rw [hI.b18 h6 h]; rfl,
    show k0_pay5 (U m c (t.val / 6 - 1)) (iblk m c 6 t) = oG m c (t.val / 6) from by unfold oG; rw [e0]]
  isplitl [S14 S15 S16 S17 S18 S19 Hg]
  · iapply (Phi_intro m (hI.next (by omega) (by omega) (by omega) (by omega) (by omega) (by omega)))
    unfold scr
    isplitl [S14]; · iexact S14
    isplitl [S15]; · iexact S15
    isplitl [S16]; · iexact S16
    isplitl [S17]; · iexact S17
    isplitl [S18]; · iexact S18
    isplitl [S19]; · iexact S19
    iexact Hg
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iapply (hand7 m c t (by omega)); iexact O7
  isplitl [O8]; · iapply (hand8 m c t (by omega)); iexact O8
  isplitl [O9]; · iapply (hand9 m c t (by omega)); iexact O9
  isplitl [O10]; · iapply (give10 m c t ⟨h, h6⟩); iexact O10
  iapply (give11 m c t ⟨h, h6⟩)
  iexact O11

/-- The body at any point. -/
theorem body (c : Dev nD) (t : Fin cfg0.N) :
    pre m c t ⊢ wp frame (wpE (defs₀ (F := F)) Variants.none c none) Set.univ ((mems t).prog (grid0.coords t)) (fun _ => post m c t) := by
  by_cases h6 : 6 ≤ t.val
  · obtain h | h | h | h | h | h : t.val % 6 = 0 ∨ t.val % 6 = 1 ∨ t.val % 6 = 2 ∨ t.val % 6 = 3 ∨ t.val % 6 = 4 ∨ t.val % 6 = 5 := by omega
    · exact case_B m c t h h6
    · exact case_C m c t h h6
    · exact case_D m c t h h6
    · exact case_E m c t h h6
    · exact case_F m c t h h6
    · exact case_G m c t h h6
  · by_cases h : t.val = 0
    · exact case_A m c t h
    · exact case_H m c t (by omega) (by omega)

/-! ## The launch -/

/-- The body table's row at point `t` is the body there. -/
theorem row (t : Fin cfg0.N) : defs₀ (F := F) .tc cfg0.body (cfg0.bodyArgs t (cfg0.slots t)) = (mems t).prog (grid0.coords t) := by
  rw [← bodyAt_eq]; unfold defs₀; rw [Defs.onTc_tc]

/-- What the pipeline hands the body, as `pre` states it. -/
theorem to_pre (c : Dev nD) (t : Fin cfg0.N) :
    iprop((dats m 0 c).Φ t.castSucc ∗ (dats m 0 c).owesAt () t.castSucc
      ∗ bigSep Finset.univ fun w : Fin 12 => iprop(∃ d, owns (c : Thread nD τ) ((cfg0.win w).stage (cfg0.slots t w)) fullShare ((dats m 0 c).before w t d)))
      ⊢ pre m c t := by
  rw [bigSep_W0, show (dats m 0 c).Φ t.castSucc = Phi m (mems t) c t.val from rfl]
  simp only [before0, before1, before2, before3, before4, before5, before6]
  unfold pre ins found
  iintro ⟨HP, Ho, ⟨%d0, I2⟩, ⟨%d1, I3⟩, ⟨%d2, I4⟩, ⟨%d3, I5⟩, ⟨%d4, I6⟩, ⟨%d5, I7⟩, ⟨%d6, I8⟩, O7, O8, O9, O10, O11⟩
  isplitl [HP]; · iexact HP
  isplitl [Ho]; · iexact Ho
  isplitl [I2 I3 I4 I5 I6 I7 I8]
  · isplitl [I2]; · iexact I2
    isplitl [I3]; · iexact I3
    isplitl [I4]; · iexact I4
    isplitl [I5]; · iexact I5
    isplitl [I6]; · iexact I6
    isplitl [I7]; · iexact I7
    iexact I8
  isplitl [O7]; · iexact O7
  isplitl [O8]; · iexact O8
  isplitl [O9]; · iexact O9
  isplitl [O10]; · iexact O10
  iexact O11

/-- What `post` states, as the pipeline takes it back. -/
theorem of_post (c : Dev nD) (t : Fin cfg0.N) :
    post m c t ⊢ iprop((dats m 0 c).Φ t.succ ∗ (dats m 0 c).owesAt () t.succ
      ∗ bigSep Finset.univ fun w : Fin 12 => (dats m 0 c).leavesExact w t) := by
  rw [bigSep_W0, show (dats m 0 c).Φ t.succ = Phi m (mems t) c (t.val + 1) from rfl]
  rw [show (dats m 0 c).leavesExact 0 t = owns (c : Thread nD τ) (mems t).a2 fullShare (iblk m c 0 t) from rfl,
    show (dats m 0 c).leavesExact 1 t = owns (c : Thread nD τ) (mems t).a3 fullShare (iblk m c 1 t) from rfl,
    show (dats m 0 c).leavesExact 2 t = owns (c : Thread nD τ) (mems t).a4 fullShare (iblk m c 2 t) from rfl,
    show (dats m 0 c).leavesExact 3 t = owns (c : Thread nD τ) (mems t).a5 fullShare (iblk m c 3 t) from rfl,
    show (dats m 0 c).leavesExact 4 t = owns (c : Thread nD τ) (mems t).a6 fullShare (iblk m c 4 t) from rfl,
    show (dats m 0 c).leavesExact 5 t = owns (c : Thread nD τ) (mems t).a7 fullShare (iblk m c 5 t) from rfl,
    show (dats m 0 c).leavesExact 6 t = owns (c : Thread nD τ) (mems t).a8 fullShare (iblk m c 6 t) from rfl]
  unfold post ins
  iintro ⟨HP, Ho, ⟨I2, I3, I4, I5, I6, I7, I8⟩, O7, O8, O9, O10, O11⟩
  isplitl [HP]; · iexact HP
  isplitl [Ho]; · iexact Ho
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [O7]; · iexact O7
  isplitl [O8]; · iexact O8
  isplitl [O9]; · iexact O9
  isplitl [O10]; · iexact O10
  iexact O11

/-- The body obligation, at every point. -/
theorem obligation (c : Dev nD) : BodyObligation (dats (F := F) m 0 c) (defs₀ (F := F)) Variants.none () Set.univ := fun t => by
  rw [row]
  exact (to_pre m c t).trans ((body m c t).trans (wp_mono _ _ _ fun _ => of_post m c t))

/-- What the launch hands the region, its scratch buffers named. -/
theorem phiA_eq (c : Dev nD) (M : Mems) (h14 : M.a14 = Memref.whole cc0_scratch0) (h15 : M.a15 = Memref.whole cc0_scratch1) (h16 : M.a16 = Memref.whole cc0_scratch2)
    (h17 : M.a17 = Memref.whole cc0_scratch3) (h18 : M.a18 = Memref.whole cc0_scratch4) (h19 : M.a19 = Memref.whole cc0_scratch5) :
    (Pipeline.ΦA spec0 c : sProp 𝕄) = iprop(((∃ d, owns (c : Thread nD τ) M.a14 fullShare d) ∗ (∃ d, owns (c : Thread nD τ) M.a15 fullShare d)
      ∗ (∃ d, owns (c : Thread nD τ) M.a16 fullShare d) ∗ (∃ d, owns (c : Thread nD τ) M.a17 fullShare d)
      ∗ (∃ d, owns (c : Thread nD τ) M.a18 fullShare d) ∗ (∃ d, owns (c : Thread nD τ) M.a19 fullShare d)) ∗ (∃ r, prngReg c r)) := by
  unfold Pipeline.ΦA; rw [scopedRest0_eq, h14, h15, h16, h17, h18, h19]; simp only [owns_whole]; try rfl

/-- What the launch hands the region is the invariant before the first point, -/
theorem hin (c : Dev nD) : Pipeline.ΦA spec0 c ⊢ (dats m 0 c).Φ 0 := by
  show _ ⊢ Phi m (mems (pt 0 0)) c 0
  rw [phiA_eq c (mems (pt 0 0)) rfl rfl rfl rfl rfl rfl]
  iintro ⟨⟨⟨%x14, S14⟩, ⟨%x15, S15⟩, ⟨%x16, S16⟩, ⟨%x17, S17⟩, ⟨%x18, S18⟩, ⟨%x19, S19⟩⟩, Hg⟩
  iapply (Phi_intro m (Inv.zero (x14 := x14) (x15 := x15) (x16 := x16) (x17 := x17) (x18 := x18) (x19 := x19)))
  unfold scr
  isplitl [S14]; · iexact S14
  isplitl [S15]; · iexact S15
  isplitl [S16]; · iexact S16
  isplitl [S17]; · iexact S17
  isplitl [S18]; · iexact S18
  isplitl [S19]; · iexact S19
  iexact Hg

/-- and the invariant after the last gives it back. -/
theorem hout (c : Dev nD) : (dats m 0 c).Φ (Fin.last cfg0.N) ⊢ Pipeline.ΦA spec0 c := by
  show Phi m (mems (pt 0 0)) c _ ⊢ _
  rw [phiA_eq c (mems (pt 0 0)) rfl rfl rfl rfl rfl rfl]
  unfold Phi scr
  iintro ⟨%x14, %x15, %x16, %x17, %x18, %x19, %hI, S14, S15, S16, S17, S18, S19, Hg⟩
  isplitl [S14 S15 S16 S17 S18 S19]
  · isplitl [S14]; · iexists _; iexact S14
    isplitl [S15]; · iexists _; iexact S15
    isplitl [S16]; · iexists _; iexact S16
    isplitl [S17]; · iexists _; iexact S17
    isplitl [S18]; · iexists _; iexact S18
    iexists _; iexact S19
  iexact Hg

-- the rule's implicit arguments are found by unifying its conclusion with this one
set_option backward.isDefEq.respectTransparency.types false in
/-- The run: every final state has the pipeline's arrays at what the data says and everything else untouched, the counters at zero. -/
theorem ran : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The frame: every execution ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (ran m ρ)))
    ((θ_run defs _ _).mono (fun _ h => h.2) (ran m ρ))

end Cert.Kernel2Ideal.In
end
-- ==== Proof.InValue.lean ====
module
public import proofs.«01_k».proof.Proof.InKern
public import proofs.«01_k».proof.Proof.InBody

@[expose] public section
noncomputable section
namespace Cert.Kernel2Ideal.In
open Idealize.ShloMosaic Idealize.ShloMosaic.TcCoe Idealize.SL.Sem Cert.Inp Cert.Kernel2Ideal Cert.Kernel2Ideal.Gen

variable (m : (ℓ : Loc nD τ sig) → Buf (Elt Ideal) ℓ) (ρ : Dev nD → PrngReg) (c : Dev nD)

/-! ## The output arrays after the run -/

/-- An array of a number for every token and column. -/
def arr (f : Fin 16384 → Fin 1024 → EReal) : S16384x1024.Idx → EReal := fun i => f (i 0) (i 1)

/-- Where an output's block lies: the tile before's rows. -/
theorem idx_out : ∀ t : Fin cfg0.N,
    (win0_7.index t (0 : Fin 2) = t.val / 6 - 1 ∧ win0_7.index t (1 : Fin 2) = 0) ∧ (win0_8.index t (0 : Fin 2) = t.val / 6 - 1 ∧ win0_8.index t (1 : Fin 2) = 0)
    ∧ (win0_9.index t (0 : Fin 2) = t.val / 6 - 1 ∧ win0_9.index t (1 : Fin 2) = 0) ∧ (win0_10.index t (0 : Fin 2) = t.val / 6 - 1 ∧ win0_10.index t (1 : Fin 2) = 0)
    ∧ (win0_11.index t (0 : Fin 2) = t.val / 6 - 1 ∧ win0_11.index t (1 : Fin 2) = 0) :=
  (by decide +kernel : ∀ t : Fin grid0.N, _)

/-- The tile a point that writes back finishes. -/
def tileOf (t : Fin cfg0.N) : Fin 32 := ⟨t.val / 6 - 1, by have : t.val < 198 := lt_of_lt_of_eq t.isLt N_0; omega⟩

/-- A block read off an array, from where the block lies: row by row the tile's results. -/
theorem tile_read (t : Fin cfg0.N) (h : 6 ≤ t.val) (o : ℕ → S512x1024.Idx → EReal) (f : Fin 16384 → Fin 1024 → EReal)
    (ho : ∀ (i : Fin 32) r n, o (i.val + 1) (ix2 r n) = f (arow i r) n) (y : S512x1024.Idx) (z : S16384x1024.Idx)
    (h0 : (z 0).val = (t.val / 6 - 1) * 512 + 1 * (y 0).val) (h1 : (z 1).val = 0 * 1024 + 1 * (y 1).val) : o (t.val / 6) y = arr f z := by
  have e : t.val / 6 = (tileOf t).val + 1 := by show _ = t.val / 6 - 1 + 1; omega
  rw [e, ValueIdx.eq_ix2 y]
  refine (ho (tileOf t) (y 0) (y 1)).trans ?_
  have e0 : arow (tileOf t) (y 0) = z 0 := Fin.ext (by show 512 * (t.val / 6 - 1) + (y 0).val = _; rw [h0]; omega)
  have e1 : (y 1 : Fin 1024) = z 1 := Fin.ext (by rw [h1]; omega)
  exact congrArg₂ f e0 e1

/-- The point that writes back row `r`. -/
def ptOf (r : Fin 16384) : Fin cfg0.N := ⟨6 * (r.val / 512 + 1) + 5, lt_of_lt_of_eq (by omega : _ < 198) N_0.symm⟩

/-- Every output is written back there. -/
theorem flushes (r : Fin 16384) : decide ((ptOf r).val % 6 = 5 ∧ 6 ≤ (ptOf r).val) = true :=
  decide_eq_true (by show (6 * (r.val / 512 + 1) + 5) % 6 = 5 ∧ 6 ≤ 6 * (r.val / 512 + 1) + 5; omega)

/-- and the block written lies over the row. -/
theorem over (i : S16384x1024.Idx) (w : Fin 2 → ℕ) (h : w 0 = (ptOf (i 0)).val / 6 - 1 ∧ w 1 = 0) (a : Fin 2) :
    w a * S512x1024.size a ≤ (i a).val ∧ (i a).val < w a * S512x1024.size a + S512x1024.size a := by
  have h0 : (i 0).val < 16384 := (i 0).isLt
  have h1 : (i 1).val < 1024 := (i 1).isLt
  have hp : (ptOf (i 0)).val / 6 - 1 = (i 0).val / 512 := by show (6 * ((i 0).val / 512 + 1) + 5) / 6 - 1 = _; omega
  match a with
  | ⟨0, _⟩ => show w 0 * 512 ≤ (i 0).val ∧ (i 0).val < w 0 * 512 + 512; rw [h.1, hp]; omega
  | ⟨1, _⟩ => show w 1 * 1024 ≤ (i 1).val ∧ (i 1).val < w 1 * 1024 + 1024; rw [h.2]; omega

/-- The gated branch's array, after the run. -/
theorem final7 : (dats m 0 c).arrAt 7 cfg0.N = arr (args m c).h0 :=
  (dats m 0 c).arrAt_eq_of_cover 7 _
    (fun t hf => by
      have h6 := of_decide_eq_true ((flush7 t).symm.trans hf)
      show (cfg0.win 7).cut (grid0.coords t) ((dats m 0 c).after 7 t) = _
      rw [after7]
      funext y
      refine tile_read t h6.2 (oH m c) _ (oH_at m c) y (((cfg0.win 7).blk t).view.emb y) ?_ ?_
      · show win0_7.index t (0 : Fin 2) * 512 + 1 * (y 0).val = _; rw [(idx_out t).1.1]
      · show win0_7.index t (1 : Fin 2) * 1024 + 1 * (y 1).val = _; rw [(idx_out t).1.2])
    (fun i => ⟨ptOf (i 0), (flush7 _).trans (flushes (i 0)), by
      show i ∈ ((View.whole main_v14_0).slice (win0_7.rect (ptOf (i 0)))).set
      rw [View.set_slice_whole, Rect.mem_set_unit]
      exact over i _ (idx_out (ptOf (i 0))).1⟩)

/-- The queries' array, after the run. -/
theorem final8 : (dats m 0 c).arrAt 8 cfg0.N = arr (args m c).q :=
  (dats m 0 c).arrAt_eq_of_cover 8 _
    (fun t hf => by
      have h6 := of_decide_eq_true ((flush8 t).symm.trans hf)
      show (cfg0.win 8).cut (grid0.coords t) ((dats m 0 c).after 8 t) = _
      rw [after8]
      funext y
      refine tile_read t h6.2 (oQ m c) _ (oQ_at m c) y (((cfg0.win 8).blk t).view.emb y) ?_ ?_
      · show win0_8.index t (0 : Fin 2) * 512 + 1 * (y 0).val = _; rw [(idx_out t).2.1.1]
      · show win0_8.index t (1 : Fin 2) * 1024 + 1 * (y 1).val = _; rw [(idx_out t).2.1.2])
    (fun i => ⟨ptOf (i 0), (flush8 _).trans (flushes (i 0)), by
      show i ∈ ((View.whole main_v14_1).slice (win0_8.rect (ptOf (i 0)))).set
      rw [View.set_slice_whole, Rect.mem_set_unit]
      exact over i _ (idx_out (ptOf (i 0))).2.1⟩)

/-- The keys' array, after the run. -/
theorem final9 : (dats m 0 c).arrAt 9 cfg0.N = arr (args m c).k :=
  (dats m 0 c).arrAt_eq_of_cover 9 _
    (fun t hf => by
      have h6 := of_decide_eq_true ((flush9 t).symm.trans hf)
      show (cfg0.win 9).cut (grid0.coords t) ((dats m 0 c).after 9 t) = _
      rw [after9]
      funext y
      refine tile_read t h6.2 (oK m c) _ (oK_at m c) y (((cfg0.win 9).blk t).view.emb y) ?_ ?_
      · show win0_9.index t (0 : Fin 2) * 512 + 1 * (y 0).val = _; rw [(idx_out t).2.2.1.1]
      · show win0_9.index t (1 : Fin 2) * 1024 + 1 * (y 1).val = _; rw [(idx_out t).2.2.1.2])
    (fun i => ⟨ptOf (i 0), (flush9 _).trans (flushes (i 0)), by
      show i ∈ ((View.whole main_v14_2).slice (win0_9.rect (ptOf (i 0)))).set
      rw [View.set_slice_whole, Rect.mem_set_unit]
      exact over i _ (idx_out (ptOf (i 0))).2.2.1⟩)

/-- The values' array, after the run. -/
theorem final10 : (dats m 0 c).arrAt 10 cfg0.N = arr (args m c).v :=
  (dats m 0 c).arrAt_eq_of_cover 10 _
    (fun t hf => by
      have h6 := of_decide_eq_true ((flush10 t).symm.trans hf)
      show (cfg0.win 10).cut (grid0.coords t) ((dats m 0 c).after 10 t) = _
      rw [after10]
      funext y
      refine tile_read t h6.2 (oV m c) _ (oV_at m c) y (((cfg0.win 10).blk t).view.emb y) ?_ ?_
      · show win0_10.index t (0 : Fin 2) * 512 + 1 * (y 0).val = _; rw [(idx_out t).2.2.2.1.1]
      · show win0_10.index t (1 : Fin 2) * 1024 + 1 * (y 1).val = _; rw [(idx_out t).2.2.2.1.2])
    (fun i => ⟨ptOf (i 0), (flush10 _).trans (flushes (i 0)), by
      show i ∈ ((View.whole main_v14_3).slice (win0_10.rect (ptOf (i 0)))).set
      rw [View.set_slice_whole, Rect.mem_set_unit]
      exact over i _ (idx_out (ptOf (i 0))).2.2.2.1⟩)

/-- The gates' array, after the run. -/
theorem final11 : (dats m 0 c).arrAt 11 cfg0.N = arr (args m c).g :=
  (dats m 0 c).arrAt_eq_of_cover 11 _
    (fun t hf => by
      have h6 := of_decide_eq_true ((flush11 t).symm.trans hf)
      show (cfg0.win 11).cut (grid0.coords t) ((dats m 0 c).after 11 t) = _
      rw [after11]
      funext y
      refine tile_read t h6.2 (oG m c) _ (oG_at m c) y (((cfg0.win 11).blk t).view.emb y) ?_ ?_
      · show win0_11.index t (0 : Fin 2) * 512 + 1 * (y 0).val = _; rw [(idx_out t).2.2.2.2.1]
      · show win0_11.index t (1 : Fin 2) * 1024 + 1 * (y 1).val = _; rw [(idx_out t).2.2.2.2.2])
    (fun i => ⟨ptOf (i 0), (flush11 _).trans (flushes (i 0)), by
      show i ∈ ((View.whole main_v14_4).slice (win0_11.rect (ptOf (i 0)))).set
      rw [View.set_slice_whole, Rect.mem_set_unit]
      exact over i _ (idx_out (ptOf (i 0))).2.2.2.2⟩)

/-- The run: the five output arrays end as the layer's input projection, the arguments unchanged. -/
theorem run : θ_run defs (onTc (τ := τ) (main (F := Ideal))) ⟨m, fun _ => 0, ρ⟩ fun r => ∀ c : Dev nD,
      r.2.mem ((c : Thread nD τ).loc main_v14_0) = arr (args m c).h0
      ∧ r.2.mem ((c : Thread nD τ).loc main_v14_1) = arr (args m c).q
      ∧ r.2.mem ((c : Thread nD τ).loc main_v14_2) = arr (args m c).k
      ∧ r.2.mem ((c : Thread nD τ).loc main_v14_3) = arr (args m c).v
      ∧ r.2.mem ((c : Thread nD τ).loc main_v14_4) = arr (args m c).g
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1.1 c).1 7).trans (final7 m c), ((h.1.1 c).1 8).trans (final8 m c), ((h.1.1 c).1 9).trans (final9 m c),
      ((h.1.1 c).1 10).trans (final10 m c), ((h.1.1 c).1 11).trans (final11 m c), h.2.1 c⟩)
    (θ_run_and (ran m ρ) (frame m ρ))

end Cert.Kernel2Ideal.In
end
-- ==== Proof.InRef.lean ====
module
public import proofs.«01_k».proof.Proof.Gen.Reference2Ideal.Run
public import proofs.«01_k».proof.Proof.InSpec

@[expose] public section
noncomputable section
namespace Cert.Reference2Ideal.Inp
open Idealize.ShloMosaic Idealize.ShloMosaic.TcCoe Cert.Inp Cert.Reference2Ideal Cert.Reference2Ideal.Gen Cert.Reference2Ideal.Value Idealize.ShloMosaic.StableHlo

/-! ## The reference's stages, of whole arrays -/

/-- The mean of every row. -/
def MEAN (x : FVec Ideal S4x4096x2048 .f32) : FVec Ideal S4x4096x1 .f32 :=
  Host.divf (broadcastInDim S4x4096x1 ![0, 1] bcast_S4x4096_S4x4096x1_0_1 (Host.reduceAdd x (constant S_ .f32 0x00000000#32) reducesTo_S4x4096x2048_S4x4096_d2 h_S_))
    (broadcastInDim S4x4096x1 ![] bcast_S_S4x4096x1 (constant S_ .f32 0x45000000#32))

/-- Every row less its mean. -/
def CEN (x : FVec Ideal S4x4096x2048 .f32) : FVec Ideal S4x4096x2048 .f32 :=
  subf x (broadcastInDim S4x4096x2048 ![0, 1, 2] bcast_S4x4096x1_S4x4096x2048_0_1_2 (MEAN x))

/-- Every row normalised, scaled and shifted. -/
def MOD (x : FVec Ideal S4x4096x2048 .f32) (sc sh : FVec Ideal S4x1x2048 .f32) : FVec Ideal S4x4096x2048 .f32 :=
  addf (mulf (mulf (CEN x) (broadcastInDim S4x4096x2048 ![0, 1, 2] bcast_S4x4096x1_S4x4096x2048_0_1_2
      (Host.rsqrt (addf (MEAN (mulf (CEN x) (CEN x))) (broadcastInDim S4x4096x1 ![] bcast_S_S4x4096x1 (constant S_ .f32 0x3727C5AC#32))))))
      (broadcastInDim S4x4096x2048 ![0, 1, 2] bcast_S4x1x2048_S4x4096x2048_0_1_2 (addf (broadcastInDim S4x1x2048 ![] bcast_S_S4x1x2048 (constant S_ .f32 0x3F800000#32)) sc)))
    (broadcastInDim S4x4096x2048 ![0, 1, 2] bcast_S4x1x2048_S4x4096x2048_0_1_2 sh)

/-- The projection of every row. -/
def PROJ (u : FVec Ideal S4x4096x2048 .f32) (w : FVec Ideal S2048x6144 .f32) : FVec Ideal S4x4096x6144 .f32 :=
  Host.dotGeneral dot_S4x4096x2048_S2048x6144_S4x4096x6144_2_0_01_1_n_n none u w

/-- One array gated by another. -/
def GATE (a b : FVec Ideal S4x4096x1024 .f32) : FVec Ideal S4x4096x1024 .f32 :=
  mulf a (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf b))))

/-- The angles of every position. -/
def ANG (p : IVec S4x4096 32) : FVec Ideal S4x4096x64 .f32 :=
  mulf (broadcastInDim S4x4096x64 ![0, 1, 2] bcast_S4x4096x1_S4x4096x64_0_1_2 (broadcastInDim S4x4096x1 ![0, 1] bcast_S4x4096_S4x4096x1_0_1 (sitofp .f32 p)))
    (broadcastInDim S4x4096x64 ![0, 1, 2] bcast_S1x1x64_S4x4096x64_0_1_2 (broadcastInDim S1x1x64 ![2] bcast_S64_S1x1x64_2
      (Host.exp (Host.divf (mulf (broadcastInDim S64 ![] bcast_S_S64 (constant S_ .f32 0xC1135D8E#32)) (sitofp .f32 (iotaInDim S64 32 0)))
        (broadcastInDim S64 ![] bcast_S_S64 (constant S_ .f32 0x42800000#32))))))

/-- A table of angles spread over the heads. -/
def OVER (x : FVec Ideal S4x4096x64 .f32) : FVec Ideal S4x4096x8x64 .f32 :=
  broadcastInDim S4x4096x8x64 ![0, 1, 2, 3] bcast_S4x4096x1x64_S4x4096x8x64_0_1_2_3 (broadcastInDim S4x4096x1x64 ![0, 1, 3] bcast_S4x4096x64_S4x4096x1x64_0_1_3 x)

/-- The heads' first and second halves. -/
def FST (x : FVec Ideal S4x4096x8x128 .f32) : FVec Ideal S4x4096x8x64 .f32 :=
  extractStridedSlice S4x4096x8x64 ![0, 0, 0, 0] x slices_S4x4096x8x128_S4x4096x8x64_0_0_0_0
def SND (x : FVec Ideal S4x4096x8x128 .f32) : FVec Ideal S4x4096x8x64 .f32 :=
  extractStridedSlice S4x4096x8x64 ![0, 0, 0, 64] x slices_S4x4096x8x128_S4x4096x8x64_0_0_0_64

/-- Every head turned by its position's angles. -/
def ROT (x : FVec Ideal S4x4096x8x128 .f32) (g : FVec Ideal S4x4096x64 .f32) : FVec Ideal S4x4096x8x128 .f32 :=
  concatenate S4x4096x8x128 3 [⟨S4x4096x8x64, subf (mulf (FST x) (OVER (Host.cos g))) (mulf (SND x) (OVER (Host.sin g)))⟩,
    ⟨S4x4096x8x64, addf (mulf (FST x) (OVER (Host.sin g))) (mulf (SND x) (OVER (Host.cos g)))⟩] concatenates_S4x4096x8x64_S4x4096x8x64_S4x4096x8x128_d3

/-! ## The stages at an index -/

/-- A row's mean. -/
theorem MEAN_at (x : FVec Ideal S4x4096x2048 .f32) (b : Fin 4) (t : Fin 4096) :
    (MEAN x (ix3 b t (0 : Fin 1)) : EReal) = mean fun e => x (ix3 b t e) := by
  unfold MEAN mean c2048
  pointwise

/-- A row less its mean. -/
theorem CEN_at (x : FVec Ideal S4x4096x2048 .f32) (b : Fin 4) (t : Fin 4096) (e : Fin 2048) :
    (CEN x (ix3 b t e) : EReal) = x (ix3 b t e) - mean fun e => x (ix3 b t e) := by
  unfold CEN
  pointwise
  rw [MEAN_at]

/-- A row normalised and modulated by its sequence's scale and shift. -/
theorem MOD_at (x : FVec Ideal S4x4096x2048 .f32) (sc sh : FVec Ideal S4x1x2048 .f32) (b : Fin 4) (t : Fin 4096) (e : Fin 2048) :
    (MOD x sc sh (ix3 b t e) : EReal)
      = modRow (fun e => x (ix3 b t e)) (fun e => sc (ix3 b (0 : Fin 1) e)) (fun e => sh (ix3 b (0 : Fin 1) e)) e := by
  unfold MOD modRow lnRow eps
  pointwise [Ideal.ofBits_one_f32]
  rw [MEAN_at, CEN_at]
  simp only [mulf_apply, CEN_at]
  rfl

/-- A projected row: its sum of products with a column of the weights. -/
theorem PROJ_at (u : FVec Ideal S4x4096x2048 .f32) (w : FVec Ideal S2048x6144 .f32) (b : Fin 4) (t : Fin 4096) (n : Fin 6144) :
    (PROJ u w (ix3 b t n) : EReal) = ∑ k : Fin 2048, u (ix3 b t k) * w (ix2 k n) := by
  unfold PROJ
  pointwise [dot_S4x4096x2048_S2048x6144_S4x4096x6144_2_0_01_1_n_n]

/-- One number times another's gate. -/
theorem GATE_at (a b : FVec Ideal S4x4096x1024 .f32) (i : S4x4096x1024.Idx) : (GATE a b i : EReal) = gated (a i) (b i) := by
  unfold GATE gated Ideal.logistic
  pointwise [Ideal.ofBits_one_f32]

/-- The angle of a position at a frequency. -/
theorem ANG_at (p : IVec S4x4096 32) (b : Fin 4) (t : Fin 4096) (n : Fin 64) : (ANG p (ix3 b t n) : EReal) = ang (p (ix2 b t)) n := by
  unfold ANG ang freq num
  pointwise

/-- A table of angles is the same for all heads. -/
theorem OVER_at (x : FVec Ideal S4x4096x64 .f32) (b : Fin 4) (t : Fin 4096) (h : Fin 8) (n : Fin 64) : OVER x (ix4 b t h n) = x (ix3 b t n) := by
  unfold OVER
  pointwise

/-- A head's first half. -/
theorem FST_at (x : FVec Ideal S4x4096x8x128 .f32) (b : Fin 4) (t : Fin 4096) (h : Fin 8) (n : Fin 64) : FST x (ix4 b t h n) = x (ix4 b t h (fstH n)) := by
  unfold FST
  refine congrArg x ?_
  funext a; apply Fin.ext
  fin_cases a <;> exact Nat.zero_add _

/-- A head's second half. -/
theorem SND_at (x : FVec Ideal S4x4096x8x128 .f32) (b : Fin 4) (t : Fin 4096) (h : Fin 8) (n : Fin 64) : SND x (ix4 b t h n) = x (ix4 b t h (sndH n)) := by
  unfold SND
  refine congrArg x ?_
  funext a; apply Fin.ext
  fin_cases a <;> first | exact Nat.zero_add _ | rfl

/-- The two halves side by side, in the first -/
theorem cat_fst (x y : FVec Ideal S4x4096x8x64 .f32) (b : Fin 4) (t : Fin 4096) (h : Fin 8) (d : Fin 128) (hd : d.val < 64) :
    concatenate S4x4096x8x128 3 [⟨S4x4096x8x64, x⟩, ⟨S4x4096x8x64, y⟩] concatenates_S4x4096x8x64_S4x4096x8x64_S4x4096x8x128_d3 (ix4 b t h d) = x (ix4 b t h (pair d)) := by
  refine concatenate_pair_apply_left (t := S4x4096x8x128) (s₁ := S4x4096x8x64) (s₂ := S4x4096x8x64) (3 : Fin 4) x y _ _ rfl (ix4 b t h (pair d)) fun a => ?_
  fin_cases a
  · rfl
  · rfl
  · rfl
  · show d.val % 64 = d.val; omega

/-- and in the second. -/
theorem cat_snd (x y : FVec Ideal S4x4096x8x64 .f32) (b : Fin 4) (t : Fin 4096) (h : Fin 8) (d : Fin 128) (hd : ¬ d.val < 64) :
    concatenate S4x4096x8x128 3 [⟨S4x4096x8x64, x⟩, ⟨S4x4096x8x64, y⟩] concatenates_S4x4096x8x64_S4x4096x8x64_S4x4096x8x128_d3 (ix4 b t h d) = y (ix4 b t h (pair d)) := by
  refine concatenate_pair_apply_right (t := S4x4096x8x128) (s₁ := S4x4096x8x64) (s₂ := S4x4096x8x64) (3 : Fin 4) x y _ _ rfl rfl (ix4 b t h (pair d)) (fun a ha => ?_) ?_
  · fin_cases a
    · rfl
    · rfl
    · rfl
    · exact absurd rfl ha
  · show d.val % 64 + 64 = d.val; omega

/-- A head turned by its position's angles. -/
theorem ROT_at (x : FVec Ideal S4x4096x8x128 .f32) (p : IVec S4x4096 32) (b : Fin 4) (t : Fin 4096) (h : Fin 8) (d : Fin 128) :
    (ROT x (ANG p) (ix4 b t h d) : EReal) = rot (fun d => x (ix4 b t h d)) (p (ix2 b t)) d := by
  unfold ROT rot
  by_cases hd : d.val < 64
  · rw [if_pos hd, cat_fst _ _ _ _ _ _ hd]
    show (FST x _ * OVER _ _ - SND x _ * OVER _ _ : EReal) = _
    rw [FST_at, SND_at, OVER_at, OVER_at, ← ANG_at]; rfl
  · rw [if_neg hd, cat_snd _ _ _ _ _ _ hd]
    show (FST x _ * OVER _ _ + SND x _ * OVER _ _ : EReal) = _
    rw [FST_at, SND_at, OVER_at, OVER_at, ← ANG_at]; rfl

/-! ## The reshapes -/

/-- A token's place in its sequence. -/
def tokOf (r : Fin 16384) : Fin 4096 := ⟨r.val % 4096, by omega⟩

/-- Rows taken by sequences: a row is its sequence's token. -/
theorem rows_at {α : Type} (x : S16384x2048.Idx → α) (h : S16384x2048.ShapeCasts S4x4096x2048) (r : Fin 16384) (e : Fin 2048) :
    shapeCast S4x4096x2048 x h (ix3 (seqOf r) (tokOf r) e) = x (ix2 r e) := by
  refine shapeCast_apply x h _ _ ?_
  refine (Shape.rowMajor_val_two _).trans (Eq.trans ?_ (Shape.rowMajor_val_three _).symm)
  show r.val * 2048 + e.val = ((r.val / 4096) * 4096 + r.val % 4096) * 2048 + e.val
  omega

/-- Positions taken by sequences. -/
theorem pos_at {α : Type} (x : S16384x1.Idx → α) (h : S16384x1.ShapeCasts S4x4096) (r : Fin 16384) :
    shapeCast S4x4096 x h (ix2 (seqOf r) (tokOf r)) = x (ix2 r (0 : Fin 1)) := by
  refine shapeCast_apply x h _ _ ?_
  refine (Shape.rowMajor_val_two _).trans (Eq.trans ?_ (Shape.rowMajor_val_two _).symm)
  show r.val * 1 + 0 = (r.val / 4096) * 4096 + r.val % 4096
  omega

/-- Sequences laid out as rows. -/
theorem flat_at {α : Type} (x : S4x4096x1024.Idx → α) (h : S4x4096x1024.ShapeCasts S16384x1024) (r : Fin 16384) (n : Fin 1024) :
    shapeCast S16384x1024 x h (ix2 r n) = x (ix3 (seqOf r) (tokOf r) n) := by
  refine shapeCast_apply x h _ _ ?_
  refine (Shape.rowMajor_val_three _).trans (Eq.trans ?_ (Shape.rowMajor_val_two _).symm)
  show ((r.val / 4096) * 4096 + r.val % 4096) * 1024 + n.val = r.val * 1024 + n.val
  omega

/-- Sequences and heads laid out as rows and columns. -/
theorem flat4_at {α : Type} (x : S4x4096x8x128.Idx → α) (h : S4x4096x8x128.ShapeCasts S16384x1024) (r : Fin 16384) (n : Fin 1024) :
    shapeCast S16384x1024 x h (ix2 r n) = x (ix4 (seqOf r) (tokOf r) (hOf n) (dOf n)) := by
  refine shapeCast_apply x h _ _ ?_
  refine (Shape.rowMajor_val_four _).trans (Eq.trans ?_ (Shape.rowMajor_val_two _).symm)
  show (((r.val / 4096) * 4096 + r.val % 4096) * 8 + n.val / 128) * 128 + n.val % 128 = r.val * 1024 + n.val
  omega

/-- Columns taken by heads. -/
theorem heads_at {α : Type} (x : S4x4096x1024.Idx → α) (h : S4x4096x1024.ShapeCasts S4x4096x8x128) (b : Fin 4) (t : Fin 4096) (k : Fin 8) (d : Fin 128) :
    shapeCast S4x4096x8x128 x h (ix4 b t k d) = x (ix3 b t (hcol k d)) := by
  refine shapeCast_apply x h _ _ ?_
  refine (Shape.rowMajor_val_three _).trans (Eq.trans ?_ (Shape.rowMajor_val_four _).symm)
  show (b.val * 4096 + t.val) * 1024 + (128 * k.val + d.val) = ((b.val * 4096 + t.val) * 8 + k.val) * 128 + d.val
  omega

/-- A part of the projection, cut out. -/
theorem part_at {α : Type} (x : S4x4096x6144.Idx → α) (o : Fin 3 → Nat) (h : S4x4096x6144.Slices o S4x4096x1024) (j : Fin 6) (h0 : o 0 = 0) (h1 : o 1 = 0) (h2 : o 2 = 1024 * j.val)
    (b : Fin 4) (t : Fin 4096) (n : Fin 1024) : extractStridedSlice S4x4096x1024 o x h (ix3 b t n) = x (ix3 b t (col j n)) := by
  refine congrArg x ?_
  funext a; apply Fin.ext
  fin_cases a
  · show o 0 + b.val = b.val; omega
  · show o 1 + t.val = t.val; omega
  · show o 2 + n.val = 1024 * j.val + n.val; omega

/-! ## The reference's results -/

variable (m : (ℓ : Loc nD τ sig) → Buf (Elt Ideal) ℓ) (c : Dev nD)

/-- The reference's arguments. -/
def args : In where
  x := m ((c : Thread nD τ).loc main_arg0)
  sc := m ((c : Thread nD τ).loc main_arg1)
  sh := m ((c : Thread nD τ).loc main_arg2)
  pos := m ((c : Thread nD τ).loc main_arg3)
  w := m ((c : Thread nD τ).loc main_arg4)

/-- The reference's projection, whole. -/
def PR : FVec Ideal S4x4096x6144 .f32 :=
  PROJ (MOD (shapeCast S4x4096x2048 (args m c).x shapeCasts_S16384x2048_S4x4096x2048) (args m c).sc (args m c).sh) (args m c).w

/-- The reference's positions, by sequences. -/
def PS : IVec S4x4096 32 := shapeCast S4x4096 (args m c).pos shapeCasts_S16384x1_S4x4096

/-- The reference's projection, part by part, is the one the specification names. -/
theorem PR_at (r : Fin 16384) (j : Fin 6) (n : Fin 1024) : (PR m c (ix3 (seqOf r) (tokOf r) (col j n)) : EReal) = (args m c).pr j r n := by
  unfold PR In.pr In.u
  rw [PROJ_at]
  refine Finset.sum_congr rfl fun k _ => ?_
  rw [ MOD_at]
  simp only [rows_at]

/-- Part `j` at a token. -/
theorem PT_at (o : Fin 3 → Nat) (h : S4x4096x6144.Slices o S4x4096x1024) (j : Fin 6) (h0 : o 0 = 0) (h1 : o 1 = 0) (h2 : o 2 = 1024 * j.val) (r : Fin 16384) (n : Fin 1024) :
    (extractStridedSlice S4x4096x1024 o (PR m c) h (ix3 (seqOf r) (tokOf r) n) : EReal) = (args m c).pr j r n :=
  (part_at _ o h j h0 h1 h2 _ _ n).trans (PR_at m c r j n)

/-- Part `j` turned, at a token. -/
theorem RT_at (o : Fin 3 → Nat) (h : S4x4096x6144.Slices o S4x4096x1024) (j : Fin 6) (h0 : o 0 = 0) (h1 : o 1 = 0) (h2 : o 2 = 1024 * j.val) (r : Fin 16384) (n : Fin 1024) :
    (ROT (shapeCast S4x4096x8x128 (extractStridedSlice S4x4096x1024 o (PR m c) h) shapeCasts_S4x4096x1024_S4x4096x8x128) (ANG (PS m c))
      (ix4 (seqOf r) (tokOf r) (hOf n) (dOf n)) : EReal) = (args m c).turned j r n := by
  rw [ROT_at]
  unfold In.turned PS
  rw [pos_at]
  refine congrArg (fun f => rot f _ _) (funext fun d => ?_)
  rw [heads_at]
  exact PT_at m c o h j h0 h1 h2 r _

/-- The reference's first result: the gated h rows. -/
theorem res_h0 (r : Fin 16384) (n : Fin 1024) : (res_main_v102 m c (ix2 r n) : EReal) = (args m c).h0 r n := by
  have e : res_main_v102 m c = shapeCast S16384x1024 (GATE (extractStridedSlice S4x4096x1024 ![0, 0, 0] (PR m c) slices_S4x4096x6144_S4x4096x1024_0_0_0)
    (extractStridedSlice S4x4096x1024 ![0, 0, 1024] (PR m c) slices_S4x4096x6144_S4x4096x1024_0_0_1024)) shapeCasts_S4x4096x1024_S16384x1024 := rfl
  rw [e, flat_at, GATE_at]
  exact congrArg₂ gated (PT_at m c _ _ 0 rfl rfl rfl r n) (PT_at m c _ _ 1 rfl rfl rfl r n)

/-- Its second: the queries, turned. -/
theorem res_q (r : Fin 16384) (n : Fin 1024) : (res_main_v104 m c (ix2 r n) : EReal) = (args m c).q r n := by
  have e : (res_main_v104 m c (ix2 r n) : EReal) = (shapeCast S16384x1024 (ROT (shapeCast S4x4096x8x128 (extractStridedSlice S4x4096x1024 ![0, 0, 2048] (PR m c) slices_S4x4096x6144_S4x4096x1024_0_0_2048)
    shapeCasts_S4x4096x1024_S4x4096x8x128) (ANG (PS m c))) shapeCasts_S4x4096x8x128_S16384x1024) (ix2 r n) := rfl
  rw [e, flat4_at]
  exact RT_at m c _ _ 2 rfl rfl rfl r n

/-- Its third: the keys, turned and scaled. -/
theorem res_k (r : Fin 16384) (n : Fin 1024) : (res_main_v106 m c (ix2 r n) : EReal) = (args m c).k r n := by
  have e : (res_main_v106 m c (ix2 r n) : EReal) = (shapeCast S16384x1024 (mulf (ROT (shapeCast S4x4096x8x128 (extractStridedSlice S4x4096x1024 ![0, 0, 3072] (PR m c) slices_S4x4096x6144_S4x4096x1024_0_0_3072)
    shapeCasts_S4x4096x1024_S4x4096x8x128) (ANG (PS m c))) (broadcastInDim S4x4096x8x128 ![] bcast_S_S4x4096x8x128 (constant S_ .f32 0x3DB504F3#32)))
    shapeCasts_S4x4096x8x128_S16384x1024) (ix2 r n) := rfl
  rw [e, flat4_at]
  exact congrArg (· * scl) (RT_at m c _ _ 3 rfl rfl rfl r n)

/-- Its fourth: the values. -/
theorem res_v (r : Fin 16384) (n : Fin 1024) :
    (truncf .bf16 (shapeCast S16384x1024 (extractStridedSlice S4x4096x1024 ![0, 0, 4096] (PR m c) slices_S4x4096x6144_S4x4096x1024_0_0_4096) shapeCasts_S4x4096x1024_S16384x1024)
      bitsLt_bf16_f32 (ix2 r n) : EReal) = (args m c).v r n := by
  have e : (truncf .bf16 (shapeCast S16384x1024 (extractStridedSlice S4x4096x1024 ![0, 0, 4096] (PR m c) slices_S4x4096x6144_S4x4096x1024_0_0_4096) shapeCasts_S4x4096x1024_S16384x1024)
      bitsLt_bf16_f32 (ix2 r n) : EReal)
    = shapeCast S16384x1024 (extractStridedSlice S4x4096x1024 ![0, 0, 4096] (PR m c) slices_S4x4096x6144_S4x4096x1024_0_0_4096) shapeCasts_S4x4096x1024_S16384x1024 (ix2 r n) := rfl
  rw [e, flat_at]
  exact PT_at m c _ _ 4 rfl rfl rfl r n

/-- Its fifth: the gates. -/
theorem res_g (r : Fin 16384) (n : Fin 1024) : (res_main_v110 m c (ix2 r n) : EReal) = (args m c).g r n := by
  have e : res_main_v110 m c = shapeCast S16384x1024 (GATE (extractStridedSlice S4x4096x1024 ![0, 0, 5120] (PR m c) slices_S4x4096x6144_S4x4096x1024_0_0_5120)
    (extractStridedSlice S4x4096x1024 ![0, 0, 5120] (PR m c) slices_S4x4096x6144_S4x4096x1024_0_0_5120)) shapeCasts_S4x4096x1024_S16384x1024 := rfl
  rw [e, flat_at, GATE_at]
  exact congrArg₂ gated (PT_at m c _ _ 5 rfl rfl rfl r n) (PT_at m c _ _ 5 rfl rfl rfl r n)

end Cert.Reference2Ideal.Inp
end
-- ==== Proof.InSame.lean ====
module
public import proofs.«01_k».proof.Proof.InBody
public import proofs.«01_k».proof.Defs
public import proofs.«01_k».proof.Proof.Gen.Kernel2

@[expose] public section
set_option maxRecDepth 65536
set_option maxHeartbeats 2000000
noncomputable section
namespace Cert.Kernel2.Same
open Idealize.ShloMosaic Idealize.SL.Sem

/-! ## The projection's kernel and its ideal kernel are one program: nothing was rewritten -/

/-- Their bodies are the same, -/
theorem body_eq : Cert.Kernel2.cc0_inproj (F := Bits) = Cert.Kernel2Ideal.cc0_inproj (F := Bits) := rfl

/-- so is what a point calls, -/
theorem point_eq (t s) : Cert.Kernel2.defs₀ (F := Bits) .tc 0 (t, s) = Cert.Kernel2Ideal.defs₀ (F := Bits) .tc 0 (t, s) := by
  unfold Cert.Kernel2.defs₀ Cert.Kernel2Ideal.defs₀
  rw [Defs.onTc_tc, Defs.onTc_tc]
  dsimp only
  rw [body_eq]
  rfl

/-- the table of bodies, -/
theorem table_eq : Cert.Kernel2.defs₀ (F := Bits) = Cert.Kernel2Ideal.defs₀ (F := Bits) := by
  funext p
  match p with
  | .tc =>
    refine funext fun l => ?_
    obtain rfl : l = (0 : Fin 1) := Subsingleton.elim (α := Fin 1) _ _
    exact funext fun ⟨t, s⟩ => point_eq t s
  | .scScalar _ => rfl
  | .scVector _ _ => rfl

/-- the pipeline's definitions -/
theorem defs_eq : Cert.Kernel2.defs (F := Bits) = Cert.Kernel2Ideal.defs (F := Bits) := by
  unfold Cert.Kernel2.defs Cert.Kernel2Ideal.defs
  rw [table_eq]
  rfl

/-- and the main program. -/
theorem main_eq : Cert.Kernel2.main (F := Bits) = Cert.Kernel2Ideal.main (F := Bits) := rfl

/-- The projection kernel's frame, from that of the same program at any numbers. -/
theorem frame : Cert.quiescent_Kernel2 (hKernel2 := Cert.Kernel2.Gen.facts) := by
  intro m g _
  have e := Cert.Kernel2Ideal.In.frame (F := Bits) m g
  rw [← main_eq, ← defs_eq] at e
  exact e

end Cert.Kernel2.Same
end
-- ==== Proof.OutSpec.lean ====
module
public import proofs.«01_k».proof.Proof.InSpec

@[expose] public section
noncomputable section
namespace Cert.Outp
open Idealize.ShloMosaic Cert.Inp

/-- The residual's scale, `2 ^ (1/4)`. -/
def alpha : EReal := Ideal.ofBits .f32 0x3F9837F0#32

/-- What the layer's output projection reads. -/
structure In where
  /-- The two branches. -/
  h : (⟨2, ![16384, 1024]⟩ : Shape).Idx → EReal
  r : (⟨2, ![16384, 1024]⟩ : Shape).Idx → EReal
  /-- The tokens. -/
  x : (⟨2, ![16384, 2048]⟩ : Shape).Idx → EReal
  /-- The projection. -/
  w : (⟨2, ![2048, 2048]⟩ : Shape).Idx → EReal
  /-- Each sequence's gate. -/
  gate : (⟨3, ![4, 1, 2048]⟩ : Shape).Idx → EReal
  /-- The first norm's scale and shift. -/
  g : (⟨2, ![1, 2048]⟩ : Shape).Idx → EReal
  b : (⟨2, ![1, 2048]⟩ : Shape).Idx → EReal
  /-- Each sequence's scale and shift for the second. -/
  sc : (⟨3, ![4, 1, 2048]⟩ : Shape).Idx → EReal
  sh : (⟨3, ![4, 1, 2048]⟩ : Shape).Idx → EReal

/-- The projection's row that the first branch's column `k` meets, and the second's. -/
def lo (k : Fin 1024) : Fin 2048 := ⟨k.val, by omega⟩
def hi (k : Fin 1024) : Fin 2048 := ⟨1024 + k.val, by omega⟩

variable (a : In)

/-- Token `r`'s two branches projected onto column `e`. -/
def In.mix (r : Fin 16384) : Row := fun e =>
  (∑ k : Fin 1024, a.h (ix2 r k) * a.w (ix2 (lo k) e)) + ∑ k : Fin 1024, a.r (ix2 r k) * a.w (ix2 (hi k) e)

/-- The residual sum's row. -/
def In.res (r : Fin 16384) : Row := fun e => alpha * a.x (ix2 r e) + (1 + a.gate (ix3 (seqOf r) (0 : Fin 1) e)) * a.mix r e

/-- The first result: the sum normalised, scaled and shifted. -/
def In.x1 (r : Fin 16384) : Row := fun e => lnRow (a.res r) e * a.g (ix2 (0 : Fin 1) e) + a.b (ix2 (0 : Fin 1) e)

/-- The second: the first normalised again and modulated. -/
def In.u (r : Fin 16384) : Row :=
  modRow (a.x1 r) (fun e => a.sc (ix3 (seqOf r) (0 : Fin 1) e)) (fun e => a.sh (ix3 (seqOf r) (0 : Fin 1) e))

/-- The token and the column of a row of 128 of the second result, which holds sixteen to a token. -/
def tok (q : Fin 262144) : Fin 16384 := ⟨q.val / 16, by omega⟩
def tcol (q : Fin 262144) (n : Fin 128) : Fin 2048 := ⟨q.val % 16 * 128 + n.val, by omega⟩

/-- The two results, as arrays. -/
def In.arr1 : (⟨2, ![16384, 2048]⟩ : Shape).Idx → EReal := fun i => a.x1 (i 0) (i 1)
def In.arr2 : (⟨2, ![262144, 128]⟩ : Shape).Idx → EReal := fun i => a.u (tok (i 0)) (tcol (i 0) (i 1))

end Cert.Outp
end
-- ==== Proof.OutBody.lean ====
module
public import proofs.«01_k».proof.Proof.Gen.Kernel3Ideal.Skeleton
public import proofs.«01_k».proof.Proof.Gen.Kernel3Ideal.Frame
public import Idealize.ShloMosaic.Lib.Pipeline.ReadBack
public import Idealize.ShloMosaic.Lib.VecWindow
public import Idealize.ShloMosaic.Lib.WritesUnit
public import Idealize.ShloMosaic.Lib.Pointwise

@[expose] public section
set_option maxRecDepth 16384
noncomputable section
namespace Cert.Kernel3Ideal.Out
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The output projection's body, run once -/

/-- The buffers the body works on: eleven operands, then its three results, each a whole buffer. -/
structure Mems where
  a1 : Memref sig .tc .vmem S256x1024 .bf16
  h1 : a1.IsWhole
  a2 : Memref sig .tc .vmem S256x1024 .bf16
  h2 : a2.IsWhole
  a3 : Memref sig .tc .vmem S256x2048 .f32
  h3 : a3.IsWhole
  a4 : Memref sig .tc .vmem S2048x2048 .bf16
  h4 : a4.IsWhole
  a5 : Memref sig .tc .vmem S1x1x2048 .f32
  h5 : a5.IsWhole
  a6 : Memref sig .tc .vmem S1x2048 .f32
  h6 : a6.IsWhole
  a7 : Memref sig .tc .vmem S1x2048 .f32
  h7 : a7.IsWhole
  a8 : Memref sig .tc .vmem S1x1x2048 .f32
  h8 : a8.IsWhole
  a9 : Memref sig .tc .vmem S1x1x2048 .f32
  h9 : a9.IsWhole
  a10 : Memref sig .tc .vmem S2048x128 .f32
  h10 : a10.IsWhole
  a11 : Memref sig .tc .vmem S1x128 .f32
  h11 : a11.IsWhole
  a12 : Memref sig .tc .vmem S256x2048 .f32
  h12 : a12.IsWhole
  a13 : Memref sig .tc .vmem S4096x128 .f32
  h13 : a13.IsWhole
  a14 : Memref sig .tc .vmem S256x128 .f32
  h14 : a14.IsWhole

/-- The body on these buffers, at grid coordinates `i`. -/
def Mems.prog (M : Mems) (i : grid0.Coords) : Prog (TpuEff nD τ sig (Elt F) Λ₀ .tc) PUnit :=
  cc0_outproj i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14

/-- A load of a whole buffer's contents reads them. -/
theorem rd_full {sp : Space} {s : Shape} {e : EltTy} {m : Memref sig .tc sp s e} (h : m.IsWhole) {off : Fin s.rank → ℕ}
    (inb : ∀ a, off a + s.size a ≤ s.size a) (x : Vec F s e) :
    View.readAt (Elt F) m.view (Rect.unit off s.size inb).toLoadRect (h.unread x) = x := by
  rw [View.readAt_full, h.read_unread]

/-- A load through a rectangle of a whole buffer's contents reads them there. -/
theorem rd_win {sp : Space} {s : Shape} {e : EltTy} {m : Memref sig .tc sp s e} (h : m.IsWhole) (r : Rect s) (x : Vec F s e) :
    View.readAt (Elt F) m.view r.toLoadRect (h.unread x) = View.ld x r := by
  show View.ld (View.read (Elt F) m.view (h.unread x)) r = _
  rw [h.read_unread]

/-- What the body reads: the two branches' rows, the tokens' rows, the projection, the gate, the first norm's scale and
    shift, the second modulation's scale and shift, and the router with its bias. -/
structure Ins (F : FTy → Type) where
  x1 : Vec F S256x1024 .bf16
  x2 : Vec F S256x1024 .bf16
  x3 : Vec F S256x2048 .f32
  x4 : Vec F S2048x2048 .bf16
  x5 : Vec F S1x1x2048 .f32
  x6 : Vec F S1x2048 .f32
  x7 : Vec F S1x2048 .f32
  x8 : Vec F S1x1x2048 .f32
  x9 : Vec F S1x1x2048 .f32
  x10 : Vec F S2048x128 .f32
  x11 : Vec F S1x128 .f32

variable (X : Ins F)

/-- The projection's first half of the rows, and its second. -/
def Ins.wTop : Vec F S1024x2048 .bf16 := View.ld X.x4 (Rect.unit (s := S2048x2048) ![0, 0] S1024x2048.size inb_S2048x2048_S1024x2048_0_0)
def Ins.wBot : Vec F S1024x2048 .bf16 := View.ld X.x4 (Rect.unit (s := S2048x2048) ![1024, 0] S1024x2048.size inb_S2048x2048_S1024x2048_1024_0)

/-- The rows after the residual sum, normalised, -/
def Ins.nrm : FVec F S256x2048 .f32 := k0_pay2 X.x1 X.wTop X.x2 X.wBot X.x3 X.x5
/-- then scaled and shifted: the first result, -/
def Ins.oX : FVec F S256x2048 .f32 := k0_pay3 X.nrm X.x6 X.x7
/-- and those normalised and modulated again, a row to a token, -/
def Ins.u : FVec F S256x2048 .f32 := k0_pay4 X.nrm X.x6 X.x7 X.x8 X.x9
/-- which the second result holds as sixteen rows to a token. -/
def spread (u : FVec F S256x2048 .f32) : Vec F S4096x128 .f32 := fun i =>
  u (ix2 (⟨(i 0).val / 16, by have : (i 0).val < 4096 := (i 0).isLt; omega⟩ : Fin 256)
    (⟨(i 0).val % 16 * 128 + (i 1).val, by have : (i 1).val < 128 := (i 1).isLt; omega⟩ : Fin 2048))
/-- The routing, the third result. -/
def Ins.route : FVec F S256x128 .f32 :=
  let a : FVec F S256x128 .f32 := k0_pay21 X.u X.x10 X.x11
  let l : FVec F S256x128 .f32 := k0_pay22
  let b : FVec F S256x1 .f32 := k0_pay26 X.u X.x10 X.x11
  let d : FVec F S256x1 .f32 := k0_pay27 X.u X.x10 X.x11
  let e : FVec F S256x128 .f32 := k0_pay28 X.u X.x10 X.x11
  k0_pay1 l (k0_pay35 a l b d e) (k0_pay36 a l b d e) (k0_pay37 l) (k0_pay38 a l d e) (k0_pay39 l) (k0_pay40 a l d e)

/-! ## The sixteen strided stores -/

/-- The sixteen strided slabs lie within the block. -/
theorem slab_inb (s : Fin 16) : ∀ a, S256x128.size a = 0 ∨ (![s.val, 0] : Fin 2 → Nat) a + (![16, 1] : Fin 2 → Nat) a * (S256x128.size a - 1) < S4096x128.size a := by
  revert s; decide
/-- Each slab's 128 columns lie within the row. -/
theorem slab_slices (s : Fin 16) : S256x2048.Slices ![0, s.val * 128] S256x128 := by revert s; decide

/-- Store `s` puts columns `128 s` to `128 s + 127` of every token into the token's row `s`. -/
def slabRect (s : Fin 16) : Rect S4096x128 := ⟨⟨![s.val, 0], S256x128.size, ![16, 1], slab_inb s⟩, spos_16_1⟩
def slab (u : FVec F S256x2048 .f32) (s : Fin 16) : View.Piece (Elt F) S4096x128 .f32 :=
  ⟨slabRect s, extractStridedSlice S256x128 ![0, s.val * 128] u (slab_slices s)⟩

/-- What a store puts there is what `spread` says. -/
theorem slab_eq (u : FVec F S256x2048 .f32) (s : Fin 16) (x : S256x128.Idx) : (slab u s).2 x = spread u ((slabRect s).emb x) := by
  have h1 : (x 1).val < 128 := (x 1).isLt
  have e0 : ((slabRect s).emb x 0).val = s.val + 16 * (x 0).val := rfl
  have e1 : ((slabRect s).emb x 1).val = 0 + 1 * (x 1).val := rfl
  refine extractStridedSlice_apply _ u (slab_slices s) x _ fun a => ?_
  fin_cases a
  · show ((slabRect s).emb x 0).val / 16 = 0 + (x 0).val; rw [e0]; omega
  · show ((slabRect s).emb x 0).val % 16 * 128 + ((slabRect s).emb x 1).val = s.val * 128 + (x 1).val; rw [e0, e1]; omega

/-- A token's row `s` is under store `s`. -/
theorem slab_mem (y : S4096x128.Idx) (s : Fin 16) (h : (y 0).val % 16 = s.val) : y ∈ (slabRect s).set := by
  have h0 : (y 0).val < 4096 := (y 0).isLt
  refine (slabRect s).mem_set.mpr fun a => ?_
  fin_cases a
  · refine ⟨(y 0).val / 16, (by show (y 0).val / 16 < 256; omega), ?_⟩
    show (y 0).val = s.val + 16 * ((y 0).val / 16); omega
  · refine ⟨(y 1).val, (y 1).isLt, ?_⟩
    show (y 1).val = 0 + 1 * (y 1).val; omega

/-- The stores, the last first, together leave `spread`, whatever the buffer held. -/
theorem filled {κ : Kind} {sp : Space} (v : View sig κ sp S4096x128 .f32) (f : v.ty.Contents (Elt F)) (u : FVec F S256x2048 .f32) :
    v.read (Elt F) (v.writes (Elt F) f ([15, 14, 13, 12, 11, 10, 9, 8, 7, 6, 5, 4, 3, 2, 1, 0].map (slab u))) = spread u := by
  funext y
  refine View.read_writes_apply_of_pieces v f (spread u) _ (fun p hp x => ?_) y ?_
  · obtain ⟨s, -, rfl⟩ := List.mem_map.mp hp
    exact slab_eq u s x
  · have hs : ∀ s : Fin 16, s ∈ ([15, 14, 13, 12, 11, 10, 9, 8, 7, 6, 5, 4, 3, 2, 1, 0] : List (Fin 16)) := by decide
    exact ⟨slab u ⟨(y 0).val % 16, by omega⟩, List.mem_map_of_mem (hs _), slab_mem y _ rfl⟩

variable (M : Mems) (c : Dev nD) (i : grid0.Coords) (E : Set ℕ) (K : PUnit → sProp (MT nD τ sig Unit (Elt F) ℕ (UR sig nD τ) ℕ))

/-- The operands' buffers at what the body reads. -/
def held : sProp 𝕄 :=
  iprop(owns (c : Thread nD τ) M.a1 fullShare X.x1 ∗ owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6 ∗ owns (c : Thread nD τ) M.a7 fullShare X.x7 ∗ owns (c : Thread nD τ) M.a8 fullShare X.x8 ∗ owns (c : Thread nD τ) M.a9 fullShare X.x9 ∗ owns (c : Thread nD τ) M.a10 fullShare X.x10 ∗ owns (c : Thread nD τ) M.a11 fullShare X.x11)

set_option maxHeartbeats 4000000 in
/-- The body leaves the three results in their buffers and its operands as they were. -/
theorem run : iprop(held X M c ∗ (∃ d, owns (c : Thread nD τ) M.a12 fullShare d) ∗ (∃ d, owns (c : Thread nD τ) M.a13 fullShare d) ∗ (∃ d, owns (c : Thread nD τ) M.a14 fullShare d)
      ∗ (iprop(held X M c ∗ owns (c : Thread nD τ) M.a12 fullShare X.oX ∗ owns (c : Thread nD τ) M.a13 fullShare (spread X.u)
        ∗ owns (c : Thread nD τ) M.a14 fullShare X.route) -∗ K ⟨⟩))
    ⊢ wp frame (wpE (defs₀ (F := F)) Variants.none c none) E (M.prog i) K := by
  unfold Mems.prog held
  simp only [cc0_outproj_eq_skeleton]; unfold cc0_outproj_skel
  simp only [k0_part1_eq_skeleton, k0_part2_eq_skeleton, k0_part3_eq_skeleton, k0_part4_eq_skeleton, k0_part5_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩,
    ⟨%d12, %f12, %hf12, H12⟩, ⟨%d13, %f13, %hf13, H13⟩, ⟨%d14, %f14, %hf14, H14⟩, Hk⟩
  obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h10.eq_unread hf10; obtain rfl := M.h11.eq_unread hf11
  sl_exec
  sl_step
  iapply Hk
  isplitl [H1 H2 H3 H4 H5 H6 H7 H8 H9 H10 H11]
  · isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]; · iexists _; isplitr; · ipureintro; exact hf10
                     iexact H10
    iexists _; isplitr; · ipureintro; exact hf11
    iexact H11
  have e0 : run.sl.r X M c = X.nrm := by
    unfold run.sl.r
    rw [rd_full, rd_full, rd_full, rd_full, rd_win, rd_win]; rfl
  have e1 : run.sl.r_1 X M c = X.u := by
    unfold run.sl.r_1
    rw [e0, rd_full, rd_full, rd_full, rd_full]; rfl
  isplitl [H12]
  · iexists _; isplitr
    swap; · iexact H12
    ipureintro
    rw [View.read_writes_full, e0, rd_full, rd_full]; rfl
  isplitl [H13]
  · iexists _; isplitr
    swap; · iexact H13
    ipureintro
    rw [e0, e1, rd_full, rd_full, rd_full, rd_full]
    exact filled _ _ X.u
  iexists _; isplitr
  swap; · iexact H14
  ipureintro
  rw [View.read_writes_full]
  unfold run.sl.r_6 run.sl.r_7 run.sl.r_8 run.sl.r_9 run.sl.r_10 run.sl.r_11
  unfold run.sl.r_2 run.sl.r_3 run.sl.r_4 run.sl.r_5
  rw [e1, rd_full, rd_full]; rfl

end Cert.Kernel3Ideal.Out
end
-- ==== Proof.OutData.lean ====
module
public import proofs.«01_k».proof.Proof.OutBody
public import Idealize.ShloMosaic.Lib.Claim

@[expose] public section
set_option maxRecDepth 16384
noncomputable section
namespace Cert.Kernel3Ideal.Out
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The pipeline's data -/

/-- The buffers the body works on at point `t`. -/
def mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)

/-- The body the pipeline calls at point `t` is the body on them. -/
theorem bodyAt_eq (t : Fin cfg0.N) : bodyAt0 (F := F) t = (mems t).prog (grid0.coords t) := rfl

/-- What the body reads at point `t`: each operand's block. -/
def blocks (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t

/-- The proof data on core `c`: inputs at their blocks, the outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (blocks m c t).oX
    | ⟨12, _⟩ => spread (blocks m c t).u
    | ⟨13, _⟩ => (blocks m c t).route
  Φ _ := Pipeline.ΦA spec0 c
  q _ := fullShare
  owed _ := 0

/-- The arrays are what the region finds. -/
theorem A_eq (c : Dev nD) (w : Fin cfg0.W) : (dats m 0 c).A w = V m c (Pipeline.arrRef spec0 w) := by dsimp only [dats]

/-- What the body finds in each input's buffer: its block. -/
theorem before0 (c : Dev nD) (t : Fin cfg0.N) (d) : (dats m 0 c).before 0 t d = iblk m c 0 t :=
  before0_0_of m (dats m 0 c) (A_eq m c 0) (fun t => by dsimp only [dats]) t d
/-- The body finds operand 1's block in its buffer. -/
theorem before1 (c : Dev nD) (t : Fin cfg0.N) (d) : (dats m 0 c).before 1 t d = iblk m c 1 t :=
  before0_1_of m (dats m 0 c) (A_eq m c 1) (fun t => by dsimp only [dats]) t d
/-- The body finds operand 2's block in its buffer. -/
theorem before2 (c : Dev nD) (t : Fin cfg0.N) (d) : (dats m 0 c).before 2 t d = iblk m c 2 t :=
  before0_2_of m (dats m 0 c) (A_eq m c 2) (fun t => by dsimp only [dats]) t d
/-- The body finds operand 3's block in its buffer. -/
theorem before3 (c : Dev nD) (t : Fin cfg0.N) (d) : (dats m 0 c).before 3 t d = iblk m c 3 t :=
  before0_3_of m (dats m 0 c) (A_eq m c 3) (fun t => by dsimp only [dats]) t d
/-- The body finds operand 4's block in its buffer. -/
theorem before4 (c : Dev nD) (t : Fin cfg0.N) (d) : (dats m 0 c).before 4 t d = iblk m c 4 t :=
  before0_4_of m (dats m 0 c) (A_eq m c 4) (fun t => by dsimp only [dats]) t d
/-- The body finds operand 5's block in its buffer. -/
theorem before5 (c : Dev nD) (t : Fin cfg0.N) (d) : (dats m 0 c).before 5 t d = iblk m c 5 t :=
  before0_5_of m (dats m 0 c) (A_eq m c 5) (fun t => by dsimp only [dats]) t d
/-- The body finds operand 6's block in its buffer. -/
theorem before6 (c : Dev nD) (t : Fin cfg0.N) (d) : (dats m 0 c).before 6 t d = iblk m c 6 t :=
  before0_6_of m (dats m 0 c) (A_eq m c 6) (fun t => by dsimp only [dats]) t d
/-- The body finds operand 7's block in its buffer. -/
theorem before7 (c : Dev nD) (t : Fin cfg0.N) (d) : (dats m 0 c).before 7 t d = iblk m c 7 t :=
  before0_7_of m (dats m 0 c) (A_eq m c 7) (fun t => by dsimp only [dats]) t d
/-- The body finds operand 8's block in its buffer. -/
theorem before8 (c : Dev nD) (t : Fin cfg0.N) (d) : (dats m 0 c).before 8 t d = iblk m c 8 t :=
  before0_8_of m (dats m 0 c) (A_eq m c 8) (fun t => by dsimp only [dats]) t d
/-- The body finds operand 9's block in its buffer. -/
theorem before9 (c : Dev nD) (t : Fin cfg0.N) (d) : (dats m 0 c).before 9 t d = iblk m c 9 t :=
  before0_9_of m (dats m 0 c) (A_eq m c 9) (fun t => by dsimp only [dats]) t d
/-- The body finds operand 10's block in its buffer. -/
theorem before10 (c : Dev nD) (t : Fin cfg0.N) (d) : (dats m 0 c).before 10 t d = iblk m c 10 t :=
  before0_10_of m (dats m 0 c) (A_eq m c 10) (fun t => by dsimp only [dats]) t d

/-- The body table's row at point `t` is the body there. -/
theorem row (t : Fin cfg0.N) : defs₀ (F := F) .tc cfg0.body (cfg0.bodyArgs t (cfg0.slots t)) = (mems t).prog (grid0.coords t) := by
  rw [← bodyAt_eq]; unfold defs₀; rw [Defs.onTc_tc]

set_option maxHeartbeats 1600000 in
/-- The body obligation, at every point: what the pipeline hands over is what the body needs, and what it leaves is what
    the data says. -/
theorem obligation (c : Dev nD) : BodyObligation (dats (F := F) m 0 c) (defs₀ (F := F)) Variants.none () Set.univ := fun t => by
  rw [row]
  show iprop((dats m 0 c).Φ t.castSucc ∗ (dats m 0 c).owesAt () t.castSucc
      ∗ bigSep Finset.univ fun w : Fin 14 => iprop(∃ d, owns (c : Thread nD τ) ((cfg0.win w).stage (cfg0.slots t w)) fullShare ((dats m 0 c).before w t d)))
    ⊢ wp frame (wpE (defs₀ (F := F)) Variants.none c none) Set.univ ((mems t).prog (grid0.coords t)) (fun _ => iprop((dats m 0 c).Φ t.succ ∗ (dats m 0 c).owesAt () t.succ
      ∗ bigSep Finset.univ fun w : Fin 14 => (dats m 0 c).leavesExact w t))
  rw [bigSep_W0, bigSep_W0, show (dats m 0 c).Φ t.succ = (dats m 0 c).Φ t.castSucc from rfl]
  simp only [before0, before1, before2, before3, before4, before5, before6, before7, before8, before9, before10]
  rw [show (dats m 0 c).leavesExact 0 t = owns (c : Thread nD τ) (mems t).a1 fullShare (iblk m c 0 t) from rfl,
    show (dats m 0 c).leavesExact 1 t = owns (c : Thread nD τ) (mems t).a2 fullShare (iblk m c 1 t) from rfl,
    show (dats m 0 c).leavesExact 2 t = owns (c : Thread nD τ) (mems t).a3 fullShare (iblk m c 2 t) from rfl,
    show (dats m 0 c).leavesExact 3 t = owns (c : Thread nD τ) (mems t).a4 fullShare (iblk m c 3 t) from rfl,
    show (dats m 0 c).leavesExact 4 t = owns (c : Thread nD τ) (mems t).a5 fullShare (iblk m c 4 t) from rfl,
    show (dats m 0 c).leavesExact 5 t = owns (c : Thread nD τ) (mems t).a6 fullShare (iblk m c 5 t) from rfl,
    show (dats m 0 c).leavesExact 6 t = owns (c : Thread nD τ) (mems t).a7 fullShare (iblk m c 6 t) from rfl,
    show (dats m 0 c).leavesExact 7 t = owns (c : Thread nD τ) (mems t).a8 fullShare (iblk m c 7 t) from rfl,
    show (dats m 0 c).leavesExact 8 t = owns (c : Thread nD τ) (mems t).a9 fullShare (iblk m c 8 t) from rfl,
    show (dats m 0 c).leavesExact 9 t = owns (c : Thread nD τ) (mems t).a10 fullShare (iblk m c 9 t) from rfl,
    show (dats m 0 c).leavesExact 10 t = owns (c : Thread nD τ) (mems t).a11 fullShare (iblk m c 10 t) from rfl,
    show (dats m 0 c).leavesExact 11 t = owns (c : Thread nD τ) (mems t).a12 fullShare (blocks m c t).oX from rfl,
    show (dats m 0 c).leavesExact 12 t = owns (c : Thread nD τ) (mems t).a13 fullShare (spread (blocks m c t).u) from rfl,
    show (dats m 0 c).leavesExact 13 t = owns (c : Thread nD τ) (mems t).a14 fullShare (blocks m c t).route from rfl]
  iintro ⟨HP, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, O11⟩, ⟨%d12, O12⟩, ⟨%d13, O13⟩⟩
  iapply (run (blocks m c t) (mems t) c (grid0.coords t) Set.univ _)
  isplitl [I0 I1 I2 I3 I4 I5 I6 I7 I8 I9 I10]
  · unfold held
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    iexact I10
  isplitl [O11]; · iexists _; iexact O11
  isplitl [O12]; · iexists _; iexact O12
  isplitl [O13]; · iexists _; iexact O13
  unfold held
  iintro ⟨⟨I0, I1, I2, I3, I4, I5, I6, I7, I8, I9, I10⟩, O11, O12, O13⟩
  isplitl [HP]; · iexact HP
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]; · iexact O11
  isplitl [O12]; · iexact O12
  iexact O13

-- the rule's implicit arguments are found by unifying its conclusion with this one
set_option backward.isDefEq.respectTransparency.types false in
/-- The run: every final state has the pipeline's arrays at what the data says and everything else untouched, the counters at zero. -/
theorem ran : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

/-- The frame: every execution ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (ran m ρ)))
    ((θ_run defs _ _).mono (fun _ h => h.2) (ran m ρ))

end Cert.Kernel3Ideal.Out
end
-- ==== Proof.OutKern.lean ====
module
public import proofs.«01_k».proof.Proof.OutSpec
public import proofs.«01_k».proof.Proof.OutData
public import Idealize.ShloMosaic.Lib.KernelVsHost
public import Idealize.ShloMosaic.Lib.StableHlo.ReadAt

@[expose] public section
noncomputable section
namespace Cert.Kernel3Ideal.Out
open Idealize.ShloMosaic Idealize.ShloMosaic.TcCoe Cert.Inp Cert.Outp Cert.Kernel3Ideal Cert.Kernel3Ideal.Gen

/-! ## What the body computes, at an index -/

/-- The residual sum normalised. -/
theorem nrm_at (h r : Vec Ideal S256x1024 .bf16) (wt wb : Vec Ideal S1024x2048 .bf16) (x : Vec Ideal S256x2048 .f32) (g : Vec Ideal S1x1x2048 .f32) (p : Fin 256) (e : Fin 2048) :
    (k0_pay2 h wt r wb x g (ix2 p e) : EReal)
      = lnRow (fun e => alpha * x (ix2 p e) + (1 + g (ix3 (0 : Fin 1) (0 : Fin 1) e))
          * ((∑ k : Fin 1024, (h (ix2 p k) * wt (ix2 k e) : EReal)) + ∑ k : Fin 1024, (r (ix2 p k) * wb (ix2 k e) : EReal))) e := by
  unfold k0_pay2 lnRow mean eps c2048 alpha
  pointwise [Ideal.ofBits_one_f32, dot_S256x1024_S1024x2048_S256x2048_1_0_0_1_n_n]

/-- The first result's scale and shift. -/
theorem oX_at (v : FVec Ideal S256x2048 .f32) (g b : Vec Ideal S1x2048 .f32) (p : Fin 256) (e : Fin 2048) :
    (k0_pay3 v g b (ix2 p e) : EReal) = v (ix2 p e) * g (ix2 (0 : Fin 1) e) + b (ix2 (0 : Fin 1) e) := by
  unfold k0_pay3
  pointwise

/-- The second result, from the first. -/
theorem u_at (v : FVec Ideal S256x2048 .f32) (g b : Vec Ideal S1x2048 .f32) (sc sh : Vec Ideal S1x1x2048 .f32) (p : Fin 256) (e : Fin 2048) :
    (k0_pay4 v g b sc sh (ix2 p e) : EReal)
      = modRow (fun e => k0_pay3 v g b (ix2 p e)) (fun e => sc (ix3 (0 : Fin 1) (0 : Fin 1) e)) (fun e => sh (ix3 (0 : Fin 1) (0 : Fin 1) e)) e := by
  unfold k0_pay4 modRow lnRow mean eps c2048
  pointwise [Ideal.ofBits_one_f32]

variable (m : (ℓ : Loc nD τ sig) → Buf (Elt Ideal) ℓ) (c : Dev nD)

/-- What the kernel is given. -/
def args : Cert.Outp.In where
  h := m ((c : Thread nD τ).loc main_arg0)
  r := m ((c : Thread nD τ).loc main_arg1)
  x := m ((c : Thread nD τ).loc main_arg2)
  w := m ((c : Thread nD τ).loc main_arg3)
  gate := m ((c : Thread nD τ).loc main_arg4)
  g := m ((c : Thread nD τ).loc main_arg5)
  b := m ((c : Thread nD τ).loc main_arg6)
  sc := m ((c : Thread nD τ).loc main_arg7)
  sh := m ((c : Thread nD τ).loc main_arg8)

/-- The projection the pipeline stages is the argument. -/
theorem V_proj (i : S2048x2048.Idx) : (V m c main_v0 i : EReal) = m ((c : Thread nD τ).loc main_arg3) i := by
  unfold V
  simp only [List.flatten_cons, List.flatten_nil, List.append_nil, List.cons_append, List.nil_append, hostOps0]
  after_reads_at

/-! ## Where the blocks lie -/

/-- Point `t` stages the rows of tile `t`, -/
theorem idx_rows : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)
/-- its sequence's gate, scale and shift, -/
theorem idx_seq : ∀ t : Fin cfg0.N,
    (win0_4.index t (0 : Fin 3) = t.val / 16 ∧ win0_4.index t (1 : Fin 3) = 0 ∧ win0_4.index t (2 : Fin 3) = 0)
    ∧ (win0_7.index t (0 : Fin 3) = t.val / 16 ∧ win0_7.index t (1 : Fin 3) = 0 ∧ win0_7.index t (2 : Fin 3) = 0)
    ∧ (win0_8.index t (0 : Fin 3) = t.val / 16 ∧ win0_8.index t (1 : Fin 3) = 0 ∧ win0_8.index t (2 : Fin 3) = 0) :=
  (by decide +kernel : ∀ t : Fin grid0.N, _)
/-- and the rest whole. -/
theorem idx_whole : ∀ (t : Fin cfg0.N) (a : Fin 2), win0_3.index t a = 0 ∧ win0_5.index t a = 0 ∧ win0_6.index t a = 0 :=
  (by decide +kernel : ∀ (t : Fin grid0.N) (a : Fin 2), _)

/-- The array's row that row `p` of tile `t` is. -/
def arow (t : Fin cfg0.N) (p : Fin 256) : Fin 16384 := ⟨256 * t.val + p.val, by have : t.val < 64 := lt_of_lt_of_eq t.isLt N_0; omega⟩

/-- An index of a two-axis array from its block's, and of a sequence's row. -/
theorem row_idx {R C B : ℕ} (i : Fin 2 → ℕ) (z y : (⟨2, ![R, C]⟩ : Shape).Idx) (p e : ℕ)
    (h0 : (z 0).val = i 0 * B + 1 * p) (h1 : (z 1).val = i 1 * C + 1 * e) (e0 : (y 0).val = i 0 * B + p) (e1 : (y 1).val = e) (hi : i 1 = 0) : z = y := by
  funext a; apply Fin.ext
  match a with
  | ⟨0, _⟩ => exact h0.trans (by rw [Nat.one_mul]; exact e0.symm)
  | ⟨1, _⟩ => exact h1.trans (by rw [hi, Nat.zero_mul, Nat.zero_add, Nat.one_mul]; exact e1.symm)

/-- A block of one sequence's row, at a column, is that row's entry of the array. -/
theorem seq_idx (i : Fin 3 → ℕ) (t : Fin cfg0.N) (hi : i 0 = t.val / 16 ∧ i 1 = 0 ∧ i 2 = 0) (p : Fin 256) (e : Fin 2048) (z : S4x1x2048.Idx)
    (h0 : (z 0).val = i 0 * 1 + 1 * 0) (h2 : (z 2).val = i 2 * 2048 + 1 * e.val) : z = ix3 (seqOf (arow t p)) (0 : Fin 1) e := by
  funext a; apply Fin.ext
  match a with
  | ⟨0, _⟩ => refine h0.trans ?_; show _ = (256 * t.val + p.val) / 4096; rw [hi.1]; omega
  | ⟨1, _⟩ => have : (z 1).val < 1 := (z 1).isLt; show (z 1).val = 0; omega
  | ⟨2, _⟩ => refine h2.trans ?_; show _ = e.val; rw [hi.2.2]; omega

/-- A tile's rows of the two branches -/
theorem h_at (t : Fin cfg0.N) (p : Fin 256) (k : Fin 1024) : iblk m c 0 t (ix2 p k) = (args m c).h (ix2 (arow t p) k) :=
  (congrFun (V_main_arg0 m c) _).trans (congrArg (args m c).h (row_idx (B := 256) (win0_0.index t) _ _ p.val k.val rfl rfl
    (by rw [(idx_rows t).1.1, Nat.mul_comm]; rfl) rfl (idx_rows t).1.2))
/-- The retention branch's block holds its point's rows. -/
theorem r_at (t : Fin cfg0.N) (p : Fin 256) (k : Fin 1024) : iblk m c 1 t (ix2 p k) = (args m c).r (ix2 (arow t p) k) :=
  (congrFun (V_main_arg1 m c) _).trans (congrArg (args m c).r (row_idx (B := 256) (win0_1.index t) _ _ p.val k.val rfl rfl
    (by rw [(idx_rows t).2.1.1, Nat.mul_comm]; rfl) rfl (idx_rows t).2.1.2))
/-- and of the tokens. -/
theorem x_at (t : Fin cfg0.N) (p : Fin 256) (e : Fin 2048) : iblk m c 2 t (ix2 p e) = (args m c).x (ix2 (arow t p) e) :=
  (congrFun (V_main_arg2 m c) _).trans (congrArg (args m c).x (row_idx (B := 256) (win0_2.index t) _ _ p.val e.val rfl rfl
    (by rw [(idx_rows t).2.2.1.1, Nat.mul_comm]; rfl) rfl (idx_rows t).2.2.1.2))
/-- The projection, -/
theorem w_at (t : Fin cfg0.N) (k e : Fin 2048) : (iblk m c 3 t (ix2 k e) : EReal) = (args m c).w (ix2 k e) :=
  (V_proj m c _).trans (congrArg (args m c).w (row_idx (B := 2048) (win0_3.index t) _ _ k.val e.val rfl rfl
    (by rw [(idx_whole t 0).1, Nat.zero_mul, Nat.zero_add]; rfl) rfl (idx_whole t 1).1))
/-- the first norm's scale -/
theorem g_at (t : Fin cfg0.N) (e : Fin 2048) : iblk m c 5 t (ix2 (0 : Fin 1) e) = (args m c).g (ix2 (0 : Fin 1) e) :=
  (congrFun (V_main_arg5 m c) _).trans (congrArg (args m c).g (row_idx (B := 1) (win0_5.index t) _ _ 0 e.val rfl rfl
    (by rw [(idx_whole t 0).2.1]; rfl) rfl (idx_whole t 1).2.1))
/-- and shift. -/
theorem b_at (t : Fin cfg0.N) (e : Fin 2048) : iblk m c 6 t (ix2 (0 : Fin 1) e) = (args m c).b (ix2 (0 : Fin 1) e) :=
  (congrFun (V_main_arg6 m c) _).trans (congrArg (args m c).b (row_idx (B := 1) (win0_6.index t) _ _ 0 e.val rfl rfl
    (by rw [(idx_whole t 0).2.2]; rfl) rfl (idx_whole t 1).2.2))
/-- A tile's gate, -/
theorem gate_at (t : Fin cfg0.N) (p : Fin 256) (e : Fin 2048) :
    iblk m c 4 t (ix3 (0 : Fin 1) (0 : Fin 1) e) = (args m c).gate (ix3 (seqOf (arow t p)) (0 : Fin 1) e) :=
  (congrFun (V_main_arg4 m c) _).trans (congrArg (args m c).gate (seq_idx (win0_4.index t) t (idx_seq t).1 p e _ rfl rfl))
/-- scale -/
theorem sc_at (t : Fin cfg0.N) (p : Fin 256) (e : Fin 2048) :
    iblk m c 7 t (ix3 (0 : Fin 1) (0 : Fin 1) e) = (args m c).sc (ix3 (seqOf (arow t p)) (0 : Fin 1) e) :=
  (congrFun (V_main_arg7 m c) _).trans (congrArg (args m c).sc (seq_idx (win0_7.index t) t (idx_seq t).2.1 p e _ rfl rfl))
/-- and shift. -/
theorem sh_at (t : Fin cfg0.N) (p : Fin 256) (e : Fin 2048) :
    iblk m c 8 t (ix3 (0 : Fin 1) (0 : Fin 1) e) = (args m c).sh (ix3 (seqOf (arow t p)) (0 : Fin 1) e) :=
  (congrFun (V_main_arg8 m c) _).trans (congrArg (args m c).sh (seq_idx (win0_8.index t) t (idx_seq t).2.2 p e _ rfl rfl))

/-! ## What the tiles leave -/

/-- The two halves of the projection's rows. -/
theorem top_at (t : Fin cfg0.N) (k : Fin 1024) (e : Fin 2048) : ((blocks m c t).wTop (ix2 k e) : EReal) = (args m c).w (ix2 (lo k) e) := by
  refine Eq.trans (congrArg (iblk m c 3 t) ?_) (w_at m c t (lo k) e)
  exact row_idx (B := 0) (fun _ => 0) _ _ k.val e.val rfl rfl (Nat.zero_add _).symm rfl rfl
/-- The lower half of the weights, at an index. -/
theorem bot_at (t : Fin cfg0.N) (k : Fin 1024) (e : Fin 2048) : ((blocks m c t).wBot (ix2 k e) : EReal) = (args m c).w (ix2 (hi k) e) := by
  refine Eq.trans (congrArg (iblk m c 3 t) ?_) (w_at m c t (hi k) e)
  exact row_idx (B := 1024) ![1, 0] _ _ k.val e.val rfl rfl rfl rfl rfl

/-- A tile's normalised sums. -/
theorem N_at (t : Fin cfg0.N) (p : Fin 256) (e : Fin 2048) : ((blocks m c t).nrm (ix2 p e) : EReal) = lnRow ((args m c).res (arow t p)) e := by
  refine (nrm_at _ _ _ _ _ _ p e).trans (congrArg (fun f => lnRow f e) (funext fun e => ?_))
  exact congrArg₂ (fun x y : EReal => x + y) (congrArg (fun x : EReal => alpha * x) (x_at m c t p e))
    (congrArg₂ (fun x y : EReal => x * y) (congrArg (fun x : EReal => 1 + x) (gate_at m c t p e))
      (congrArg₂ (fun x y : EReal => x + y)
        (Finset.sum_congr rfl fun k _ => congrArg₂ (fun x y : EReal => x * y) (h_at m c t p k) (top_at m c t k e))
        (Finset.sum_congr rfl fun k _ => congrArg₂ (fun x y : EReal => x * y) (r_at m c t p k) (bot_at m c t k e))))

/-- A tile's first result -/
theorem X_at (t : Fin cfg0.N) (p : Fin 256) (e : Fin 2048) : ((blocks m c t).oX (ix2 p e) : EReal) = (args m c).x1 (arow t p) e := by
  refine (oX_at _ _ _ p e).trans ?_
  unfold Cert.Outp.In.x1
  exact congrArg₂ (· + ·) (congrArg₂ (· * ·) (N_at m c t p e) (g_at m c t e)) (b_at m c t e)

/-- and its second. -/
theorem U_at (t : Fin cfg0.N) (p : Fin 256) (e : Fin 2048) : ((blocks m c t).u (ix2 p e) : EReal) = (args m c).u (arow t p) e := by
  refine (u_at _ _ _ _ _ p e).trans ?_
  unfold Cert.Outp.In.u
  rw [show (fun e => k0_pay3 (blocks m c t).nrm (blocks m c t).x6 (blocks m c t).x7 (ix2 p e)) = (args m c).x1 (arow t p) from funext fun e => X_at m c t p e,
    show (fun e => (blocks m c t).x8 (ix3 (0 : Fin 1) (0 : Fin 1) e)) = _ from funext fun e => sc_at m c t p e,
    show (fun e => (blocks m c t).x9 (ix3 (0 : Fin 1) (0 : Fin 1) e)) = _ from funext fun e => sh_at m c t p e]

end Cert.Kernel3Ideal.Out
end
-- ==== Proof.OutValue.lean ====
module
public import proofs.«01_k».proof.Proof.OutKern

@[expose] public section
noncomputable section
namespace Cert.Kernel3Ideal.Out
open Idealize.ShloMosaic Idealize.ShloMosaic.TcCoe Idealize.SL.Sem Cert.Inp Cert.Outp Cert.Kernel3Ideal Cert.Kernel3Ideal.Gen

variable (m : (ℓ : Loc nD τ sig) → Buf (Elt Ideal) ℓ) (ρ : Dev nD → PrngReg) (c : Dev nD)

/-! ## The two result arrays after the run -/

/-- The point that writes a block of `B` rows over row `r`. -/
def ptOf (B : ℕ) (r : ℕ) (h : r / B < 64) : Fin cfg0.N := ⟨r / B, lt_of_lt_of_eq h N_0.symm⟩

/-- The first result's array, after the run. -/
theorem final11 : (dats m 0 c).arrAt 11 cfg0.N = (args m c).arr1 :=
  (dats m 0 c).arrAt_eq_of_cover 11 _
    (fun t hf => by
      show (cfg0.win 11).cut (grid0.coords t) (blocks m c t).oX = _
      funext y
      refine ((congrArg (blocks m c t).oX (ValueIdx.eq_ix2 y)).trans (X_at m c t (y 0) (y 1))).trans ?_
      refine congrArg₂ (args m c).x1 (Fin.ext ?_) (Fin.ext ?_)
      · show 256 * t.val + (y 0).val = win0_11.index t (0 : Fin 2) * 256 + 1 * (y 0).val; rw [(idx_rows t).2.2.2.1.1]; omega
      · show (y 1).val = win0_11.index t (1 : Fin 2) * 2048 + 1 * (y 1).val; rw [(idx_rows t).2.2.2.1.2]; omega)
    (fun i => by
      have h0 : (i 0).val < 16384 := (i 0).isLt
      have h1 : (i 1).val < 2048 := (i 1).isLt
      have hp : (i 0).val / 256 < 64 := by omega
      refine ⟨ptOf 256 (i 0).val hp, flush0_11 _, ?_⟩
      show i ∈ ((View.whole main_v1_0).slice (win0_11.rect (ptOf 256 (i 0).val hp))).set
      rw [View.set_slice_whole, Rect.mem_set_unit]
      intro a
      have e := (idx_rows (ptOf 256 (i 0).val hp)).2.2.2.1
      match a with
      | ⟨0, _⟩ => show win0_11.index _ (0 : Fin 2) * 256 ≤ (i 0).val ∧ (i 0).val < win0_11.index _ (0 : Fin 2) * 256 + 256
                  rw [e.1]; show (i 0).val / 256 * 256 ≤ _ ∧ _ < (i 0).val / 256 * 256 + 256; omega
      | ⟨1, _⟩ => show win0_11.index _ (1 : Fin 2) * 2048 ≤ (i 1).val ∧ (i 1).val < win0_11.index _ (1 : Fin 2) * 2048 + 2048
                  rw [e.2]; omega)

/-- The second's, after the run. -/
theorem final12 : (dats m 0 c).arrAt 12 cfg0.N = (args m c).arr2 :=
  (dats m 0 c).arrAt_eq_of_cover 12 _
    (fun t hf => by
      show (cfg0.win 12).cut (grid0.coords t) (spread (blocks m c t).u) = _
      funext y
      have h0 : (y 0).val < 4096 := (y 0).isLt
      have h1 : (y 1).val < 128 := (y 1).isLt
      refine (U_at m c t ⟨(y 0).val / 16, by omega⟩ ⟨(y 0).val % 16 * 128 + (y 1).val, by omega⟩).trans ?_
      refine congrArg₂ (args m c).u (Fin.ext ?_) (Fin.ext ?_)
      · show 256 * t.val + (y 0).val / 16 = (win0_12.index t (0 : Fin 2) * 4096 + 1 * (y 0).val) / 16
        rw [(idx_rows t).2.2.2.2.1]; omega
      · show (y 0).val % 16 * 128 + (y 1).val = (win0_12.index t (0 : Fin 2) * 4096 + 1 * (y 0).val) % 16 * 128 + (win0_12.index t (1 : Fin 2) * 128 + 1 * (y 1).val)
        rw [(idx_rows t).2.2.2.2.1, (idx_rows t).2.2.2.2.2]; omega)
    (fun i => by
      have h0 : (i 0).val < 262144 := (i 0).isLt
      have h1 : (i 1).val < 128 := (i 1).isLt
      have hp : (i 0).val / 4096 < 64 := by omega
      refine ⟨ptOf 4096 (i 0).val hp, flush0_12 _, ?_⟩
      show i ∈ ((View.whole main_v1_1).slice (win0_12.rect (ptOf 4096 (i 0).val hp))).set
      rw [View.set_slice_whole, Rect.mem_set_unit]
      intro a
      have e := (idx_rows (ptOf 4096 (i 0).val hp)).2.2.2.2
      match a with
      | ⟨0, _⟩ => show win0_12.index _ (0 : Fin 2) * 4096 ≤ (i 0).val ∧ (i 0).val < win0_12.index _ (0 : Fin 2) * 4096 + 4096
                  rw [e.1]; show (i 0).val / 4096 * 4096 ≤ _ ∧ _ < (i 0).val / 4096 * 4096 + 4096; omega
      | ⟨1, _⟩ => show win0_12.index _ (1 : Fin 2) * 128 ≤ (i 1).val ∧ (i 1).val < win0_12.index _ (1 : Fin 2) * 128 + 128
                  rw [e.2]; omega)

/-- The run: the two result arrays end as the layer's output projection, the arguments unchanged. -/
theorem ends : θ_run defs (onTc (τ := τ) (main (F := Ideal))) ⟨m, fun _ => 0, ρ⟩ fun r => ∀ c : Dev nD,
      r.2.mem ((c : Thread nD τ).loc main_v1_0) = (args m c).arr1
      ∧ r.2.mem ((c : Thread nD τ).loc main_v1_1) = (args m c).arr2
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1.1 c).1 11).trans (final11 m c), ((h.1.1 c).1 12).trans (final12 m c), h.2.1 c⟩)
    (θ_run_and (ran m ρ) (frame m ρ))

end Cert.Kernel3Ideal.Out
end
-- ==== Proof.OutRef.lean ====
module
public import proofs.«01_k».proof.Proof.Gen.Reference3Ideal.Run
public import proofs.«01_k».proof.Proof.InRef
public import proofs.«01_k».proof.Proof.OutSpec

@[expose] public section
noncomputable section
namespace Cert.Reference3Ideal.Outp
open Idealize.ShloMosaic Idealize.ShloMosaic.TcCoe Cert.Inp Cert.Outp Cert.Reference3Ideal Cert.Reference3Ideal.Gen Cert.Reference3Ideal.Value Idealize.ShloMosaic.StableHlo
open Cert.Reference2Ideal.Inp (MEAN MEAN_at CEN CEN_at MOD MOD_at rows_at tokOf)

/-! ## The reference's stages, of whole arrays -/

/-- Every row normalised. -/
def NRM (x : FVec Ideal S4x4096x2048 .f32) : FVec Ideal S4x4096x2048 .f32 :=
  mulf (CEN x) (broadcastInDim S4x4096x2048 ![0, 1, 2] bcast_S4x4096x1_S4x4096x2048_0_1_2
    (Host.rsqrt (addf (MEAN (mulf (CEN x) (CEN x))) (broadcastInDim S4x4096x1 ![] bcast_S_S4x4096x1 (constant S_ .f32 0x3727C5AC#32)))))

/-- The two branches side by side. -/
def SIDE (h r : FVec Ideal S4x4096x1024 .f32) : FVec Ideal S4x4096x2048 .f32 :=
  concatenate S4x4096x2048 2 [⟨S4x4096x1024, h⟩, ⟨S4x4096x1024, r⟩] concatenates_S4x4096x1024_S4x4096x1024_S4x4096x2048_d2

/-- The residual sum of every row. -/
def RES (h r : FVec Ideal S4x4096x1024 .f32) (x : FVec Ideal S4x4096x2048 .f32) (w : FVec Ideal S2048x2048 .f32) (gate : FVec Ideal S4x1x2048 .f32) : FVec Ideal S4x4096x2048 .f32 :=
  addf (mulf (broadcastInDim S4x4096x2048 ![] bcast_S_S4x4096x2048 (constant S_ .f32 0x3F9837F0#32)) x)
    (mulf (broadcastInDim S4x4096x2048 ![0, 1, 2] bcast_S4x1x2048_S4x4096x2048_0_1_2 (addf (broadcastInDim S4x1x2048 ![] bcast_S_S4x1x2048 (constant S_ .f32 0x3F800000#32)) gate))
      (Host.dotGeneral dot_S4x4096x2048_S2048x2048_S4x4096x2048_2_0_01_1_n_n none (SIDE h r) w))

/-- A row over every token. -/
def WIDE (g : FVec Ideal S1x2048 .f32) : FVec Ideal S4x4096x2048 .f32 :=
  broadcastInDim S4x4096x2048 ![0, 1, 2] bcast_S1x1x2048_S4x4096x2048_0_1_2 (broadcastInDim S1x1x2048 ![2] bcast_S2048_S1x1x2048_2 (shapeCast S2048 g shapeCasts_S1x2048_S2048))

/-! ## The stages at an index -/

/-- A normalised row. -/
theorem NRM_at (x : FVec Ideal S4x4096x2048 .f32) (b : Fin 4) (t : Fin 4096) (e : Fin 2048) :
    (NRM x (ix3 b t e) : EReal) = lnRow (fun e => x (ix3 b t e)) e := by
  unfold NRM lnRow eps
  pointwise
  rw [MEAN_at, CEN_at]
  simp only [mulf_apply, CEN_at]
  rfl

/-- The first branch's columns come first, -/
theorem SIDE_lo (h r : FVec Ideal S4x4096x1024 .f32) (b : Fin 4) (t : Fin 4096) (k : Fin 1024) : SIDE h r (ix3 b t (lo k)) = h (ix3 b t k) := by
  unfold SIDE
  refine concatenate_pair_apply_left (t := S4x4096x2048) (s₁ := S4x4096x1024) (s₂ := S4x4096x1024) (2 : Fin 3) h r _ _ rfl (ix3 b t k) fun a => ?_
  fin_cases a <;> rfl

/-- the second's after them. -/
theorem SIDE_hi (h r : FVec Ideal S4x4096x1024 .f32) (b : Fin 4) (t : Fin 4096) (k : Fin 1024) : SIDE h r (ix3 b t (hi k)) = r (ix3 b t k) := by
  unfold SIDE
  refine concatenate_pair_apply_right (t := S4x4096x2048) (s₁ := S4x4096x1024) (s₂ := S4x4096x1024) (2 : Fin 3) h r _ _ rfl rfl (ix3 b t k) (fun a ha => ?_) ?_
  · fin_cases a
    · rfl
    · rfl
    · exact absurd rfl ha
  · show k.val + 1024 = 1024 + k.val; omega

/-- The residual sum: the product over both branches' columns is the sum of the branches' products. -/
theorem RES_at (h r : FVec Ideal S4x4096x1024 .f32) (x : FVec Ideal S4x4096x2048 .f32) (w : FVec Ideal S2048x2048 .f32) (gate : FVec Ideal S4x1x2048 .f32)
    (b : Fin 4) (t : Fin 4096) (e : Fin 2048) :
    (RES h r x w gate (ix3 b t e) : EReal) = alpha * x (ix3 b t e) + (1 + gate (ix3 b (0 : Fin 1) e))
      * ((∑ k : Fin 1024, (h (ix3 b t k) * w (ix2 (lo k) e) : EReal)) + ∑ k : Fin 1024, (r (ix3 b t k) * w (ix2 (hi k) e) : EReal)) := by
  have hs : (∑ k : Fin 2048, (SIDE h r (ix3 b t k) * w (ix2 k e) : EReal))
      = (∑ k : Fin 1024, (h (ix3 b t k) * w (ix2 (lo k) e) : EReal)) + ∑ k : Fin 1024, (r (ix3 b t k) * w (ix2 (hi k) e) : EReal) := by
    refine (Fin.sum_univ_add (a := 1024) (b := 1024) (fun k : Fin 2048 => (SIDE h r (ix3 b t k) * w (ix2 k e) : EReal))).trans ?_
    refine congrArg₂ (· + ·) (Finset.sum_congr rfl fun k _ => ?_) (Finset.sum_congr rfl fun k _ => ?_)
    · exact congrArg (· * (w (ix2 (lo k) e) : EReal)) (SIDE_lo h r b t k)
    · exact congrArg (· * (w (ix2 (hi k) e) : EReal)) (SIDE_hi h r b t k)
  rw [← hs]
  unfold RES alpha
  pointwise [Ideal.ofBits_one_f32, dot_S4x4096x2048_S2048x2048_S4x4096x2048_2_0_01_1_n_n]

/-- A row over every token is that row at each. -/
theorem WIDE_at (g : FVec Ideal S1x2048 .f32) (b : Fin 4) (t : Fin 4096) (e : Fin 2048) : WIDE g (ix3 b t e) = g (ix2 (0 : Fin 1) e) := by
  unfold WIDE
  pointwise

/-! ## The reshapes -/

/-- The branches' rows, by sequences. -/
theorem half_at {α : Type} (x : S16384x1024.Idx → α) (h : S16384x1024.ShapeCasts S4x4096x1024) (r : Fin 16384) (k : Fin 1024) :
    shapeCast S4x4096x1024 x h (ix3 (seqOf r) (tokOf r) k) = x (ix2 r k) := by
  refine shapeCast_apply x h _ _ ?_
  refine (Shape.rowMajor_val_two _).trans (Eq.trans ?_ (Shape.rowMajor_val_three _).symm)
  show r.val * 1024 + k.val = ((r.val / 4096) * 4096 + r.val % 4096) * 1024 + k.val
  omega

/-- The tokens' rows put back in one list, -/
theorem flat_at {α : Type} (x : S4x4096x2048.Idx → α) (h : S4x4096x2048.ShapeCasts S16384x2048) (r : Fin 16384) (e : Fin 2048) :
    shapeCast S16384x2048 x h (ix2 r e) = x (ix3 (seqOf r) (tokOf r) e) := by
  refine shapeCast_apply x h _ _ ?_
  refine (Shape.rowMajor_val_three _).trans (Eq.trans ?_ (Shape.rowMajor_val_two _).symm)
  show ((r.val / 4096) * 4096 + r.val % 4096) * 2048 + e.val = r.val * 2048 + e.val
  omega

/-- and cut into sixteen rows each. -/
theorem slabs_at {α : Type} (x : S4x4096x2048.Idx → α) (h : S4x4096x2048.ShapeCasts S262144x128) (q : Fin 262144) (n : Fin 128) :
    shapeCast S262144x128 x h (ix2 q n) = x (ix3 (seqOf (tok q)) (tokOf (tok q)) (tcol q n)) := by
  refine shapeCast_apply x h _ _ ?_
  refine (Shape.rowMajor_val_three _).trans (Eq.trans ?_ (Shape.rowMajor_val_two _).symm)
  show ((q.val / 16 / 4096) * 4096 + q.val / 16 % 4096) * 2048 + (q.val % 16 * 128 + n.val) = q.val * 128 + n.val
  omega

/-! ## The reference's results -/

variable (m : (ℓ : Loc nD τ sig) → Buf (Elt Ideal) ℓ) (c : Dev nD)

/-- The reference's arguments. -/
def args : Cert.Outp.In where
  h := m ((c : Thread nD τ).loc main_arg0)
  r := m ((c : Thread nD τ).loc main_arg1)
  x := m ((c : Thread nD τ).loc main_arg2)
  w := m ((c : Thread nD τ).loc main_arg3)
  gate := m ((c : Thread nD τ).loc main_arg4)
  g := m ((c : Thread nD τ).loc main_arg5)
  b := m ((c : Thread nD τ).loc main_arg6)
  sc := m ((c : Thread nD τ).loc main_arg7)
  sh := m ((c : Thread nD τ).loc main_arg8)

/-- The reference's residual sums -/
def RS : FVec Ideal S4x4096x2048 .f32 :=
  RES (shapeCast S4x4096x1024 (args m c).h shapeCasts_S16384x1024_S4x4096x1024) (shapeCast S4x4096x1024 (args m c).r shapeCasts_S16384x1024_S4x4096x1024)
    (shapeCast S4x4096x2048 (args m c).x shapeCasts_S16384x2048_S4x4096x2048) (args m c).w (args m c).gate
/-- and first result, by sequences. -/
def X1 : FVec Ideal S4x4096x2048 .f32 := addf (mulf (NRM (RS m c)) (WIDE (args m c).g)) (WIDE (args m c).b)

/-- A token's residual sum. -/
theorem RS_at (r : Fin 16384) (e : Fin 2048) : (RS m c (ix3 (seqOf r) (tokOf r) e) : EReal) = (args m c).res r e := by
  unfold RS Cert.Outp.In.res Cert.Outp.In.mix
  rw [RES_at]
  simp only [half_at, rows_at]

/-- A token's first result. -/
theorem X1_at (r : Fin 16384) (e : Fin 2048) : (X1 m c (ix3 (seqOf r) (tokOf r) e) : EReal) = (args m c).x1 r e := by
  unfold X1 Cert.Outp.In.x1
  rw [addf_apply, mulf_apply, WIDE_at, WIDE_at, NRM_at]
  simp only [RS_at]
  rfl

/-- The first result is the spec's, -/
theorem res_x1 : res_main_v64 m c = (args m c).arr1 := by
  have e : res_main_v64 m c = shapeCast S16384x2048 (X1 m c) shapeCasts_S4x4096x2048_S16384x2048 := rfl
  rw [e]
  funext i
  refine (congrArg _ (ValueIdx.eq_ix2 i)).trans ?_
  exact (flat_at (X1 m c) _ (i 0) (i 1)).trans (X1_at m c (i 0) (i 1))

/-- and so is the second. -/
theorem res_u : res_main_v65 m c = (args m c).arr2 := by
  have e : res_main_v65 m c = shapeCast S262144x128 (MOD (X1 m c) (args m c).sc (args m c).sh) shapeCasts_S4x4096x2048_S262144x128 := rfl
  rw [e]
  funext i
  refine (congrArg _ (ValueIdx.eq_ix2 i)).trans ?_
  refine (slabs_at (MOD (X1 m c) (args m c).sc (args m c).sh) _ (i 0) (i 1)).trans ((MOD_at _ _ _ _ _ _).trans ?_)
  simp only [X1_at]
  rfl

end Cert.Reference3Ideal.Outp
end
-- ==== Proof.OutSame.lean ====
module
public import proofs.«01_k».proof.Proof.OutData
public import proofs.«01_k».proof.Defs
public import proofs.«01_k».proof.Proof.Gen.Kernel3

@[expose] public section
set_option maxRecDepth 65536
set_option maxHeartbeats 2000000
noncomputable section
namespace Cert.Kernel3.Same
open Idealize.ShloMosaic Idealize.SL.Sem

/-! ## The output projection's kernel and its ideal kernel are one program: nothing was rewritten -/

/-- Their bodies are the same, -/
theorem body_eq : Cert.Kernel3.cc0_outproj (F := Bits) = Cert.Kernel3Ideal.cc0_outproj (F := Bits) := rfl

/-- so is what a point calls, -/
theorem point_eq (t s) : Cert.Kernel3.defs₀ (F := Bits) .tc 0 (t, s) = Cert.Kernel3Ideal.defs₀ (F := Bits) .tc 0 (t, s) := by
  unfold Cert.Kernel3.defs₀ Cert.Kernel3Ideal.defs₀
  rw [Defs.onTc_tc, Defs.onTc_tc]
  dsimp only
  rw [body_eq]
  rfl

/-- the table of bodies, -/
theorem table_eq : Cert.Kernel3.defs₀ (F := Bits) = Cert.Kernel3Ideal.defs₀ (F := Bits) := by
  funext p
  match p with
  | .tc =>
    refine funext fun l => ?_
    obtain rfl : l = (0 : Fin 1) := Subsingleton.elim (α := Fin 1) _ _
    exact funext fun ⟨t, s⟩ => point_eq t s
  | .scScalar _ => rfl
  | .scVector _ _ => rfl

/-- the pipeline's definitions -/
theorem defs_eq : Cert.Kernel3.defs (F := Bits) = Cert.Kernel3Ideal.defs (F := Bits) := by
  unfold Cert.Kernel3.defs Cert.Kernel3Ideal.defs
  rw [table_eq]
  rfl

/-- and the main program. -/
theorem main_eq : Cert.Kernel3.main (F := Bits) = Cert.Kernel3Ideal.main (F := Bits) := rfl

/-- The output projection kernel's frame, from that of the same program at any numbers. -/
theorem frame : Cert.quiescent_Kernel3 (hKernel3 := Cert.Kernel3.Gen.facts) := by
  intro m g _
  have e := Cert.Kernel3Ideal.Out.frame (F := Bits) m g
  rw [← main_eq, ← defs_eq] at e
  exact e

end Cert.Kernel3.Same
end
-- ==== Proof.AdaSpec.lean ====
module
public import proofs.«01_k».proof.Proof.InSpec

@[expose] public section
noncomputable section
namespace Cert.Ada
open Idealize.ShloMosaic Cert.Inp

/-! ## The modulation: what its call computes -/

/-- The conditioning rows, the weights and the offsets. -/
structure In where
  c : (⟨2, ![8, 2048]⟩ : Shape).Idx → EReal
  w : (⟨2, ![2048, 12288]⟩ : Shape).Idx → EReal
  b : (⟨2, ![1, 12288]⟩ : Shape).Idx → EReal

variable (a : In)

/-- Row `r`'s modulation at column `n`: the row gated by itself, times the weights' column, and the offset. -/
def In.out (r : Fin 8) (n : Fin 12288) : EReal :=
  (∑ k : Fin 2048, gated (a.c (ix2 r k)) (a.c (ix2 r k)) * a.w (ix2 k n)) + a.b (ix2 (0 : Fin 1) n)

/-- The result as an array. -/
def In.arr : (⟨2, ![8, 12288]⟩ : Shape).Idx → EReal := fun i => a.out (i 0) (i 1)

end Cert.Ada
end
-- ==== Proof.AdaKern.lean ====
module
public import proofs.«01_k».proof.Proof.AdaSpec
public import proofs.«01_k».proof.Proof.Gen.Kernel4Ideal.Value
public import Idealize.ShloMosaic.Lib.KernelVsHost
public import Idealize.ShloMosaic.Lib.Pipeline.ValueKit

@[expose] public section
noncomputable section
namespace Cert.Kernel4Ideal.Ada
open Idealize.ShloMosaic Idealize.ShloMosaic.TcCoe Idealize.SL.Sem Cert.Inp Cert.Kernel4Ideal Cert.Kernel4Ideal.Gen

/-- What the body stores, at an index. -/
theorem pay_at (x : Vec Ideal S8x2048 .f32) (w : Vec Ideal S2048x1024 .f32) (b : Vec Ideal S1x1024 .f32) (r : Fin 8) (n : Fin 1024) :
    (k0_pay1 x w b (ix2 r n) : EReal)
      = (∑ k : Fin 2048, gated (x (ix2 r k)) (x (ix2 r k)) * (w (ix2 k n) : EReal)) + b (ix2 (0 : Fin 1) n) := by
  unfold k0_pay1 gated
  pointwise [dot_S8x2048_S2048x1024_S8x1024_1_0_0_1_n_n]

/-- The block a point leaves is what its body stores. -/
theorem out_eq (x : Vec Ideal S8x2048 .f32) (w : Vec Ideal S2048x1024 .f32) (b : Vec Ideal S1x1024 .f32) : out0_3 x w b = k0_pay1 x w b := by
  have hz : (![0, 0] : Fin 2 → ℕ) = fun _ => 0 := by funext a; fin_cases a <;> rfl
  unfold out0_3
  rw [View.canon_unit_zero hz, View.ld_unit_zero hz, View.ld_unit_zero hz, View.ld_unit_zero hz]

variable (m : (ℓ : Loc nD τ sig) → Buf (Elt Ideal) ℓ) (ρ : Dev nD → PrngReg) (c : Dev nD)

/-- What the kernel is given. -/
def args : Cert.Ada.In where
  c := m ((c : Thread nD τ).loc main_arg0)
  w := m ((c : Thread nD τ).loc main_arg1)
  b := m ((c : Thread nD τ).loc main_arg2)

/-- Point `t` stages the conditioning whole and the `t`th 1024 columns of the rest. -/
theorem idx : ∀ t : Fin cfg0.N,
    (win0_0.index t (0 : Fin 2) = 0 ∧ win0_0.index t (1 : Fin 2) = 0) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 2) = 0 ∧ win0_3.index t (1 : Fin 2) = t.val) :=
  (by decide +kernel : ∀ t : Fin grid0.N, _)

/-- The array's column that column `n` of point `t` is. -/
def acol (t : Fin cfg0.N) (n : Fin 1024) : Fin 12288 := ⟨1024 * t.val + n.val, by have : t.val < 12 := lt_of_lt_of_eq t.isLt N_0; omega⟩

/-- Two indices of a two-axis array are one when their coordinates are. -/
theorem same_idx {R C : ℕ} (z y : (⟨2, ![R, C]⟩ : Shape).Idx) (h0 : (z 0).val = (y 0).val) (h1 : (z 1).val = (y 1).val) : z = y := by
  funext a; apply Fin.ext
  match a with
  | ⟨0, _⟩ => exact h0
  | ⟨1, _⟩ => exact h1

/-- The conditioning rows, -/
theorem c_at (t : Fin cfg0.N) (r : Fin 8) (k : Fin 2048) : (iblk m c 0 t (ix2 r k) : EReal) = (args m c).c (ix2 r k) := by
  refine congrArg (args m c).c (same_idx _ _ ?_ ?_)
  · show win0_0.index t (0 : Fin 2) * 8 + 1 * r.val = r.val; rw [(idx t).1.1]; omega
  · show win0_0.index t (1 : Fin 2) * 2048 + 1 * k.val = k.val; rw [(idx t).1.2]; omega
/-- a point's columns of the weights -/
theorem w_at (t : Fin cfg0.N) (k : Fin 2048) (n : Fin 1024) : (iblk m c 1 t (ix2 k n) : EReal) = (args m c).w (ix2 k (acol t n)) := by
  refine congrArg (args m c).w (same_idx _ _ ?_ ?_)
  · show win0_1.index t (0 : Fin 2) * 2048 + 1 * k.val = k.val; rw [(idx t).2.1.1]; omega
  · show win0_1.index t (1 : Fin 2) * 1024 + 1 * n.val = 1024 * t.val + n.val; rw [(idx t).2.1.2]; omega
/-- and of the offsets. -/
theorem b_at (t : Fin cfg0.N) (n : Fin 1024) : (iblk m c 2 t (ix2 (0 : Fin 1) n) : EReal) = (args m c).b (ix2 (0 : Fin 1) (acol t n)) := by
  refine congrArg (args m c).b (same_idx _ _ ?_ ?_)
  · show win0_2.index t (0 : Fin 2) * 1 + 1 * 0 = 0; rw [(idx t).2.2.1.1]
  · show win0_2.index t (1 : Fin 2) * 1024 + 1 * n.val = 1024 * t.val + n.val; rw [(idx t).2.2.1.2]; omega

/-- What a point leaves is its columns of the modulation. -/
theorem block_at (t : Fin cfg0.N) (r : Fin 8) (n : Fin 1024) :
    (out0_3 (iblk m c 0 t) (iblk m c 1 t) (iblk m c 2 t) (ix2 r n) : EReal) = (args m c).out r (acol t n) := by
  rw [out_eq]
  refine (pay_at _ _ _ r n).trans ?_
  exact congrArg₂ (fun x y : EReal => x + y)
    (Finset.sum_congr rfl fun k _ => congrArg₂ (fun x y : EReal => gated x x * y) (c_at m c t r k) (w_at m c t k n)) (b_at m c t n)

/-- The result's array, after the run. -/
theorem final : (dats m 0 c).arrAt 3 cfg0.N = (args m c).arr :=
  (dats m 0 c).arrAt_eq_of_cover 3 _
    (fun t hf => by
      rw [Cert.Kernel4Ideal.Value.flushed3]
      funext y
      refine ((congrArg (out0_3 (iblk m c 0 t) (iblk m c 1 t) (iblk m c 2 t)) (ValueIdx.eq_ix2 y)).trans (block_at m c t (y 0) (y 1))).trans ?_
      refine congrArg₂ (args m c).out (Fin.ext ?_) (Fin.ext ?_)
      · show (y 0).val = win0_3.index t (0 : Fin 2) * 8 + 1 * (y 0).val; rw [(idx t).2.2.2.1]; omega
      · show 1024 * t.val + (y 1).val = win0_3.index t (1 : Fin 2) * 1024 + 1 * (y 1).val; rw [(idx t).2.2.2.2]; omega)
    (fun i => by
      have h0 : (i 0).val < 8 := (i 0).isLt
      have h1 : (i 1).val < 12288 := (i 1).isLt
      have hp : (i 1).val / 1024 < 12 := by omega
      let p : Fin cfg0.N := ⟨(i 1).val / 1024, lt_of_lt_of_eq hp N_0.symm⟩
      refine ⟨p, flush0_3 _, ?_⟩
      show i ∈ ((View.whole main_v0).slice (win0_3.rect p)).set
      rw [View.set_slice_whole, Rect.mem_set_unit]
      intro a
      have e := (idx p).2.2.2
      match a with
      | ⟨0, _⟩ => show win0_3.index _ (0 : Fin 2) * 8 ≤ (i 0).val ∧ (i 0).val < win0_3.index _ (0 : Fin 2) * 8 + 8
                  rw [e.1]; omega
      | ⟨1, _⟩ => show win0_3.index _ (1 : Fin 2) * 1024 ≤ (i 1).val ∧ (i 1).val < win0_3.index _ (1 : Fin 2) * 1024 + 1024
                  rw [e.2]; show (i 1).val / 1024 * 1024 ≤ _ ∧ _ < (i 1).val / 1024 * 1024 + 1024; omega)

/-- The run: the result ends as the modulation, the arguments unchanged. -/
theorem ends : θ_run defs (onTc (τ := τ) (main (F := Ideal))) ⟨m, fun _ => 0, ρ⟩ fun r => ∀ c : Dev nD,
      r.2.mem ((c : Thread nD τ).loc main_v0) = (args m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Cert.Kernel4Ideal.Value.run_blocks m ρ)

end Cert.Kernel4Ideal.Ada
end
-- ==== Proof.AdaRef.lean ====
module
public import proofs.«01_k».proof.Proof.AdaSpec
public import proofs.«01_k».proof.Proof.Gen.Reference4Ideal.Run
public import Idealize.ShloMosaic.Lib.KernelVsHost

@[expose] public section
noncomputable section
namespace Cert.Reference4Ideal.Ada
open Idealize.ShloMosaic Idealize.ShloMosaic.TcCoe Idealize.SL.Sem Cert.Inp Cert.Reference4Ideal Cert.Reference4Ideal.Gen

/-- Every number gated by itself. -/
def SILU (x : FVec Ideal S8x2048 .f32) : FVec Ideal S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- The reference's result. -/
def RES (x : FVec Ideal S8x2048 .f32) (w : FVec Ideal S2048x12288 .f32) (b : FVec Ideal S1x12288 .f32) : FVec Ideal S8x12288 .f32 :=
  addf (Host.dotGeneral dot_S8x2048_S2048x12288_S8x12288_1_0_0_1_n_n none (SILU x) w)
    (broadcastInDim S8x12288 ![0, 1] bcast_S1x12288_S8x12288_0_1 (broadcastInDim S1x12288 ![1] bcast_S12288_S1x12288_1 (shapeCast S12288 b shapeCasts_S1x12288_S12288)))

/-- A number gated by itself. -/
theorem SILU_at (x : FVec Ideal S8x2048 .f32) (i : S8x2048.Idx) : (SILU x i : EReal) = gated (x i) (x i) := by
  unfold SILU gated Ideal.logistic
  pointwise [Ideal.ofBits_one_f32]

/-- The result at an index. -/
theorem RES_at (x : FVec Ideal S8x2048 .f32) (w : FVec Ideal S2048x12288 .f32) (b : FVec Ideal S1x12288 .f32) (r : Fin 8) (n : Fin 12288) :
    (RES x w b (ix2 r n) : EReal) = (∑ k : Fin 2048, gated (x (ix2 r k)) (x (ix2 r k)) * (w (ix2 k n) : EReal)) + b (ix2 (0 : Fin 1) n) := by
  unfold RES
  pointwise [dot_S8x2048_S2048x12288_S8x12288_1_0_0_1_n_n]
  simp only [SILU_at]

variable (m : (ℓ : Loc nD τ sig) → Buf (Elt Ideal) ℓ) (ρ : Dev nD → PrngReg) (c : Dev nD)

/-- The reference's arguments. -/
def args : Cert.Ada.In where
  c := m ((c : Thread nD τ).loc main_arg0)
  w := m ((c : Thread nD τ).loc main_arg1)
  b := m ((c : Thread nD τ).loc main_arg2)

/-- The reference's result is the modulation. -/
theorem res_eq : RES (args m c).c (args m c).w (args m c).b = (args m c).arr := by
  funext i
  exact (congrArg _ (ValueIdx.eq_ix2 i)).trans (RES_at _ _ _ (i 0) (i 1))

/-- The run: the result ends as the modulation, the arguments unchanged. -/
theorem ends : θ_run defs (onTc (τ := τ) (main (F := Ideal))) ⟨m, fun _ => 0, ρ⟩ fun r => ∀ c : Dev nD,
      r.2.mem ((c.tc : Thread nD τ).loc main_v5) = (args m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res_eq m c), (h c).2⟩) (Cert.Reference4Ideal.Value.run m ρ)

end Cert.Reference4Ideal.Ada
end
-- ==== Proof.ConvSpec.lean ====
module
public import proofs.«01_k».proof.Proof.InSpec

@[expose] public section
noncomputable section
namespace Cert.Conv
open Idealize.ShloMosaic Cert.Inp

/-! ## The causal convolution branch: what its call computes -/

/-- A two-axis array at two numbers, nothing where they lie outside it. -/
def at2 {R C : ℕ} (f : (⟨2, ![R, C]⟩ : Shape).Idx → EReal) (a b : ℕ) : EReal :=
  if h : a < R ∧ b < C then f (ix2 ⟨a, h.1⟩ ⟨b, h.2⟩) else 0

/-- Inside the array it is the array's entry. -/
theorem at2_in {R C : ℕ} (f : (⟨2, ![R, C]⟩ : Shape).Idx → EReal) (a : Fin R) (b : Fin C) : at2 f a.val b.val = f (ix2 a b) :=
  dif_pos ⟨a.isLt, b.isLt⟩

/-- The number 1024 that the means divide by. -/
def c1024 : EReal := Ideal.ofBits .f32 0x44800000#32

/-- The mean over the channels. -/
def chMean (f : Fin 1024 → EReal) : EReal := Ideal.div (∑ e, f e) c1024

/-- The channels normalised to mean 0 and variance 1, at one of them. -/
def chNorm (f : Fin 1024 → EReal) (e : Fin 1024) : EReal :=
  (f e - chMean f) * Ideal.rsqrt (chMean (fun y => (f y - chMean f) * (f y - chMean f)) + eps)

/-- The branch's rows, the taps, the offsets and the norm's scale and shift. -/
structure In where
  h : (⟨3, ![4, 4096, 1024]⟩ : Shape).Idx → EReal
  w : (⟨2, ![31, 1024]⟩ : Shape).Idx → EReal
  b : (⟨2, ![1, 1024]⟩ : Shape).Idx → EReal
  g : (⟨2, ![1, 1024]⟩ : Shape).Idx → EReal
  s : (⟨2, ![1, 1024]⟩ : Shape).Idx → EReal

variable (a : In)

/-- Row `n` of a sequence with thirty rows of nothing before it. -/
def In.row (q : Fin 4) (n : ℕ) (e : Fin 1024) : EReal :=
  if h : 30 ≤ n ∧ n < 4126 then a.h (ix3 q ⟨n - 30, by omega⟩ e) else 0

/-- A channel of the convolution at row `t`: the row and the thirty before it by the taps, and the offset. -/
def In.pre (q : Fin 4) (t : ℕ) (e : Fin 1024) : EReal :=
  (∑ j ∈ Finset.range 31, at2 a.w j e.val * a.row q (t + j) e) + a.b (ix2 (0 : Fin 1) e)

/-- It normalised over the channels, scaled and shifted, -/
def In.lin (q : Fin 4) (t : ℕ) (e : Fin 1024) : EReal :=
  chNorm (a.pre q t) e * a.g (ix2 (0 : Fin 1) e) + a.s (ix2 (0 : Fin 1) e)

/-- and gated by itself. -/
def In.out (q : Fin 4) (t : ℕ) (e : Fin 1024) : EReal := gated (a.lin q t e) (a.lin q t e)

/-- The result as an array. -/
def In.arr : (⟨3, ![4, 4096, 1024]⟩ : Shape).Idx → EReal := fun i => a.out (i 0) (i 1).val (i 2)

end Cert.Conv
end
-- ==== Proof.ConvTrip.lean ====
module
public import proofs.«01_k».proof.Proof.ConvSpec
public import proofs.«01_k».proof.Proof.Gen.Kernel5Ideal.Value
public import Idealize.ShloMosaic.Lib.KernelVsHost
public import Idealize.ShloMosaic.Lib.Pipeline.ValueKit

@[expose] public section
noncomputable section
namespace Cert.Kernel5Ideal.Conv
open Idealize.ShloMosaic Idealize.ShloMosaic.TcCoe Idealize.SL.Sem Cert.Inp Cert.Conv Cert.Kernel5Ideal Cert.Kernel5Ideal.Gen

/-- What a load through a whole buffer reads. -/
theorem load_at {R C : ℕ} (M : Memref sig .tc .vmem (⟨2, ![R, C]⟩ : Shape) .f32) (X : BufTy.Contents (Elt Ideal) M.view.ty) (off size : Fin 2 → ℕ) (inb : ∀ a, off a + size a ≤ (⟨2, ![R, C]⟩ : Shape).size a)
    (y : (⟨2, size⟩ : Shape).Idx) :
    (M.view.readAt (Elt Ideal) (Rect.unit (s := (⟨2, ![R, C]⟩ : Shape)) off size inb).toLoadRect X y : EReal) = at2 (M.view.read (Elt Ideal) X) (off 0 + (y 0).val) (off 1 + (y 1).val) := by
  have h0 : off 0 + (y 0).val < R := lt_of_lt_of_le (Nat.add_lt_add_left (y 0).isLt _) (inb 0)
  have h1 : off 1 + (y 1).val < C := lt_of_lt_of_le (Nat.add_lt_add_left (y 1).isLt _) (inb 1)
  unfold at2
  rw [dif_pos ⟨h0, h1⟩]
  refine congrArg (M.view.read (Elt Ideal) X) ?_
  funext a; apply Fin.ext
  match a with
  | ⟨0, _⟩ => show off 0 + 1 * (y 0).val = off 0 + (y 0).val; omega
  | ⟨1, _⟩ => show off 1 + 1 * (y 1).val = off 1 + (y 1).val; omega

/-- The sum over the taps that row `a`, column `l` of a tile holds. -/
def taps {R C : ℕ} (w : (⟨2, ![31, C]⟩ : Shape).Idx → EReal) (b : (⟨2, ![R, C]⟩ : Shape).Idx → EReal) (a l : ℕ) : EReal :=
  ∑ j ∈ Finset.range 31, at2 w j l * at2 b (a + 2 + j) l

/-- A trip's first row and the offsets from it, as numbers. -/
theorem row_nat (k : Fin k0_t1_loop.trips) (a : ℕ) (ha : a < 64) :
    (Scalar.indexCast (Scalar.addi (Scalar.muli (Scf.iv 0#32 1#32 k.val) 128#32) (BitVec.ofNat 32 a))).toNat = 128 * k.val + a := by
  have hk : k.val < 4 := Nat.lt_of_lt_of_le k.isLt k0_t1_abs.2.1
  simp [Scalar.indexCast, Scalar.addi, Scalar.muli, Scf.iv, IntOp.addi, IntOp.muli]
  omega
/-- A trip's first row itself. -/
theorem row_nat' (k : Fin k0_t1_loop.trips) :
    (Scalar.indexCast (Scalar.muli (Scf.iv 0#32 1#32 k.val) 128#32)).toNat = 128 * k.val := by
  have hk : k.val < 4 := Nat.lt_of_lt_of_le k.isLt k0_t1_abs.2.1
  simp [Scalar.indexCast, Scalar.addi, Scalar.muli, Scf.iv, IntOp.addi, IntOp.muli]
  omega

/-- Where a tile's index lies. -/
theorem tile_at {R C : ℕ} (off size : Fin 2 → ℕ) (inb : ∀ a, off a + size a ≤ (⟨2, ![R, C]⟩ : Shape).size a) (y : (⟨2, size⟩ : Shape).Idx) (a : Fin 2) :
    ((Rect.unit (s := (⟨2, ![R, C]⟩ : Shape)) off size inb).emb y a).val = off a + (y a).val := by
  rw [Rect.emb_apply]; show off a + 1 * (y a).val = _; omega

/-- The first coordinate of an index of two axes, -/
theorem coord₀ {R C : ℕ} (a : Fin R) (b : Fin C) : ((ix2 a b : (⟨2, ![R, C]⟩ : Shape).Idx) 0).val = a.val := rfl
/-- and the second. -/
theorem coord₁ {R C : ℕ} (a : Fin R) (b : Fin C) : ((ix2 a b : (⟨2, ![R, C]⟩ : Shape).Idx) 1).val = b.val := rfl

/-- A row's number, the tile's first row and the row in the tile put first. -/
theorem rows₁ (x s : ℕ) {y : Fin 128} (a : ℕ) : x + a + (s + y.val) = x + y.val + (s + a) := by omega
/-- The row in the tile before its offset, -/
theorem rows₂ (x a : ℕ) (y : Fin 128) : x + a + y.val = x + y.val + a := by omega
/-- and the offsets together. -/
theorem rows₃ (x a b : ℕ) (y : Fin 128) : x + y.val + a + b = x + y.val + (a + b) := by omega

set_option maxRecDepth 65536 in
set_option maxHeartbeats 4000000 in
set_option backward.isDefEq.respectTransparency.types false in
/-- Every tile a trip writes holds the sums over the taps of its rows and channels. -/
theorem trip_at (𝒱 : Variants) (c : Dev nD) (bd : Option 𝒱.V) (i : grid0.Coords) (arg2 : Memref sig .tc .vmem S1x512x1024 .f32) (harg2 : arg2.IsWhole) (arg3 : Memref sig .tc .vmem S1x32x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .bf16) (harg8 : arg8.IsWhole) (arg9 : Memref sig .tc .vmem S544x1024 .f32) (harg9 : arg9.IsWhole) (arg10 : Memref sig .tc .vmem S512x1024 .f32) (harg10 : arg10.IsWhole) (w : BufTy.Contents (Elt Ideal) arg4.view.ty) (b : BufTy.Contents (Elt Ideal) arg9.view.ty) (k : Fin k0_t1_loop.trips) :
   ∀ pc ∈ tripL_k0_t1 (F := Ideal) 𝒱 c bd i arg2 harg2 arg3 harg3 arg4 harg4 arg5 harg5 arg6 harg6 arg7 harg7 arg8 harg8 arg9 harg9 arg10 harg10 w b k, ∀ y,
     (pc.2 y : EReal) = taps (R := 544) (arg4.view.read (Elt Ideal) w) (arg9.view.read (Elt Ideal) b) (pc.1.emb y 0).val (pc.1.emb y 1).val := by
  unfold tripL_k0_t1 trip_k0_t1
  dsimp only
  intro pc hpc
  simp only [List.mem_cons, List.not_mem_nil, or_false] at hpc
  rcases hpc with h | h | h | h | h | h | h | h
  all_goals
    subst h
    sl_unfold_words
    dsimp only
    refine fun (y : (⟨2, ![128, 128]⟩ : Shape).Idx) => ?_
    obtain ⟨r, l, rfl⟩ : ∃ (r l : Fin 128), y = ix2 r l := ⟨_, _, ValueIdx.eq_ix2 y⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay92]
    pointwise
    simp only [load_at, tile_at]
    simp only [row_nat _ _ (by decide : 0 < 64), row_nat _ _ (by decide : 8 < 64), row_nat _ _ (by decide : 16 < 64), row_nat _ _ (by decide : 24 < 64), row_nat _ _ (by decide : 32 < 64), row_nat']
    unfold taps
    simp only [Finset.sum_range_succ, Finset.sum_range_zero, Matrix.cons_val_zero, Matrix.cons_val_one]
    generalize at2 (arg4.view.read (Elt Ideal) w) = W
    generalize at2 (arg9.view.read (Elt Ideal) b) = B
    generalize 128 * k.val = K
    simp only [coord₀, coord₁, Fin.val_zero, rows₁, rows₂, rows₃, Nat.add_zero, Nat.zero_add, Nat.reduceAdd, zero_add, add_zero]
    abel_nf

end Cert.Kernel5Ideal.Conv
end
-- ==== Proof.ConvOut.lean ====
module
public import proofs.«01_k».proof.Proof.ConvTrip

@[expose] public section
noncomputable section
namespace Cert.Kernel5Ideal.Conv
open Idealize.ShloMosaic Idealize.ShloMosaic.TcCoe Idealize.SL.Sem Cert.Inp Cert.Conv Cert.Kernel5Ideal Cert.Kernel5Ideal.Gen

/-! ## The rows the body gathers -/

/-- The body's two writes into its gathered rows: the block's own after the thirty-two before it. -/
abbrev bufL (i : grid0.Coords) (x0 : Vec Ideal S1x512x1024 .f32) (x1 : Vec Ideal S1x32x1024 .f32) : List (View.Piece (Elt Ideal) S544x1024 .f32) :=
  [⟨Rect.unit ![32, 0] S512x1024.size (by decide), k0_pay91 x0⟩, ⟨Rect.unit ![0, 0] S32x1024.size (by decide), k0_pay90 i x1⟩]

/-- The rows from the thirty-third on are the block's. -/
theorem buf_hi (i : grid0.Coords) (x0 : Vec Ideal S1x512x1024 .f32) (x1 : Vec Ideal S1x32x1024 .f32) (p : Fin 512) (e : Fin 1024) :
    at2 (R := 544) (View.canon (bufL i x0 x1)) (32 + p.val) e.val = x0 (ix3 (0 : Fin 1) p e) := by
  have h : 32 + p.val < 544 := by omega
  rw [at2_in (R := 544) _ ⟨32 + p.val, h⟩ e]
  have e1 : (ix2 (⟨32 + p.val, h⟩ : Fin 544) e : S544x1024.Idx) = (Rect.unit (s := S544x1024) ![32, 0] S512x1024.size (by decide)).emb (ix2 p e) := by
    funext a; apply Fin.ext
    match a with
    | ⟨0, _⟩ => rw [Rect.emb_apply]; show 32 + p.val = 32 + 1 * p.val; omega
    | ⟨1, _⟩ => rw [Rect.emb_apply]; show e.val = 0 + 1 * e.val; omega
  rw [e1]
  refine (View.canon_cons_emb _ _ _ _).trans ?_
  unfold k0_pay91
  pointwise

/-- Those before it are the block before's, nothing at a sequence's first block. -/
theorem buf_lo (i : grid0.Coords) (x0 : Vec Ideal S1x512x1024 .f32) (x1 : Vec Ideal S1x32x1024 .f32) (p : Fin 32) (e : Fin 1024) :
    at2 (R := 544) (View.canon (bufL i x0 x1)) p.val e.val = if 0 < (i 1).val then (x1 (ix3 (0 : Fin 1) p e) : EReal) else 0 := by
  have h : p.val < 544 := by omega
  rw [at2_in (R := 544) _ ⟨p.val, h⟩ e]
  have e1 : (ix2 (⟨p.val, h⟩ : Fin 544) e : S544x1024.Idx) = (Rect.unit (s := S544x1024) ![0, 0] S32x1024.size (by decide)).emb (ix2 p e) := by
    funext a; apply Fin.ext
    match a with
    | ⟨0, _⟩ => rw [Rect.emb_apply]; show p.val = 0 + 1 * p.val; omega
    | ⟨1, _⟩ => rw [Rect.emb_apply]; show e.val = 0 + 1 * e.val; omega
  rw [View.canon_cons_of_not_mem]
  · rw [e1]
    refine (View.canon_cons_emb _ _ _ _).trans ?_
    have hi : (i 1).val < 8 := (i 1).isLt
    have hc : (Scalar.cmpi .sgt (BitVec.ofNat 32 (i 1).val) 0#32 : BitVec 1) = if 0 < (i 1).val then 1#1 else 0#1 := by
      generalize (i 1).val = n at hi
      revert n; decide
    unfold k0_pay90
    dsimp only
    rw [hc]
    by_cases h0 : 0 < (i 1).val
    · rw [if_pos h0, if_pos h0]
      show (shapeCast S32x1024 (shapeCast S32x1024 x1 _) _ (ix2 p e) : EReal) = _
      pointwise
    · rw [if_neg h0, if_neg h0]
      show (shapeCast S32x1024 (broadcast S32x1024 (Scalar.ofBits .f32 0x00000000#32 : Ideal .f32)) _ (ix2 p e) : EReal) = _
      pointwise
  · rw [Rect.mem_set_unit]
    intro k
    have := (k 0).1
    have : 32 ≤ p.val := this
    omega

/-! ## What the loop leaves -/

section
variable (𝒱 : Variants) (c : Dev nD) (bd : Option 𝒱.V) (i : grid0.Coords) (arg2 : Memref sig .tc .vmem S1x512x1024 .f32) (harg2 : arg2.IsWhole) (arg3 : Memref sig .tc .vmem S1x32x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .bf16) (harg8 : arg8.IsWhole) (arg9 : Memref sig .tc .vmem S544x1024 .f32) (harg9 : arg9.IsWhole) (arg10 : Memref sig .tc .vmem S512x1024 .f32) (harg10 : arg10.IsWhole) (w : BufTy.Contents (Elt Ideal) arg4.view.ty) (b : BufTy.Contents (Elt Ideal) arg9.view.ty)

/-- So do all the trips' tiles. -/
theorem trips_at : ∀ n : ℕ, n ≤ k0_t1_loop.trips →
   ∀ pc ∈ pb_k0_t1 (F := Ideal) 𝒱 c bd i arg2 harg2 arg3 harg3 arg4 harg4 arg5 harg5 arg6 harg6 arg7 harg7 arg8 harg8 arg9 harg9 arg10 harg10 w b n, ∀ y,
     (pc.2 y : EReal) = taps (R := 544) (arg4.view.read (Elt Ideal) w) (arg9.view.read (Elt Ideal) b) (pc.1.emb y 0).val (pc.1.emb y 1).val
  | 0, _, pc, hpc => by
    rw [pb_k0_t1.eq_1] at hpc
    exact absurd hpc List.not_mem_nil
  | n + 1, hn, pc, hpc => by
    rw [pb_k0_t1_succ 𝒱 c bd i arg2 harg2 arg3 harg3 arg4 harg4 arg5 harg5 arg6 harg6 arg7 harg7 arg8 harg8 arg9 harg9 arg10 harg10 w b ⟨n, hn⟩] at hpc
    rcases List.mem_append.mp hpc with h | h
    · exact trip_at 𝒱 c bd i arg2 harg2 arg3 harg3 arg4 harg4 arg5 harg5 arg6 harg6 arg7 harg7 arg8 harg8 arg9 harg9 arg10 harg10 w b ⟨n, hn⟩ pc h
    · exact trips_at n (Nat.le_of_succ_le hn) pc h

/-- What is read back after the loop. -/
theorem loop_at (r : Fin 512) (e : Fin 1024) :
    (arg10.view.readCov (pb_k0_t1 (F := Ideal) 𝒱 c bd i arg2 harg2 arg3 harg3 arg4 harg4 arg5 harg5 arg6 harg6 arg7 harg7 arg8 harg8 arg9 harg9 arg10 harg10 w b (Scf.trips k0_t1_loop.lb k0_t1_loop.ub k0_t1_loop.st))
        (Rect.unit ![0, 0] S512x1024.size inb_S512x1024_S512x1024_0_0).toLoadRect (ix2 r e) : EReal)
      = taps (R := 544) (arg4.view.read (Elt Ideal) w) (arg9.view.read (Elt Ideal) b) r.val e.val := by
  rw [View.readCov_eq_canon']
  refine View.canon_eq_of_allAt _ _ _ (View.cover_of_tiledL (pb_k0_t1 (F := Ideal) 𝒱 c bd i arg2 harg2 arg3 harg3 arg4 harg4 arg5 harg5 arg6 harg6 arg7 harg7 arg8 harg8 arg9 harg9 arg10 harg10 w b (Scf.trips k0_t1_loop.lb k0_t1_loop.ub k0_t1_loop.st)) S128x128.size (by sl_kernel_rfl) _) ?_
  intro pc hpc x hx
  refine (trips_at 𝒱 c bd i arg2 harg2 arg3 harg3 arg4 harg4 arg5 harg5 arg6 harg6 arg7 harg7 arg8 harg8 arg9 harg9 arg10 harg10 w b _ le_rfl pc hpc x).trans ?_
  rw [hx]
  refine congrArg₂ (taps (R := 544) (arg4.view.read (Elt Ideal) w) (arg9.view.read (Elt Ideal) b)) ?_ ?_
  · show 0 + 1 * r.val = r.val; omega
  · show 0 + 1 * e.val = e.val; omega

end

/-! ## What the body stores -/

/-- The stored block from the sums over the taps, at an index. -/
theorem pay_at (v : Vec Ideal S512x1024 .f32) (b g s : Vec Ideal S1x1024 .f32) (r : Fin 512) (e : Fin 1024) :
    (k0_pay1 (k0_pay93 v b) (k0_pay94 v b) k0_pay95 g s (ix3 (0 : Fin 1) r e) : EReal)
      = gated (chNorm (fun e => v (ix2 r e) + b (ix2 (0 : Fin 1) e)) e * g (ix2 (0 : Fin 1) e) + s (ix2 (0 : Fin 1) e))
          (chNorm (fun e => v (ix2 r e) + b (ix2 (0 : Fin 1) e)) e * g (ix2 (0 : Fin 1) e) + s (ix2 (0 : Fin 1) e)) := by
  unfold k0_pay1 k0_pay94 k0_pay93 k0_pay95 chNorm chMean c1024 eps gated
  pointwise

set_option backward.isDefEq.respectTransparency.types false in
/-- The block a point leaves, at an index. -/
theorem out_at (c : Dev nD) (i : grid0.Coords) (arg2 : Memref sig .tc .vmem S1x512x1024 .f32) (harg2 : arg2.IsWhole) (arg3 : Memref sig .tc .vmem S1x32x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .bf16) (harg8 : arg8.IsWhole) (arg9 : Memref sig .tc .vmem S544x1024 .f32) (harg9 : arg9.IsWhole) (arg10 : Memref sig .tc .vmem S512x1024 .f32) (harg10 : arg10.IsWhole)
    (x0 : Vec Ideal S1x512x1024 .f32) (x1 : Vec Ideal S1x32x1024 .f32) (x2 : Vec Ideal S31x1024 .f32) (x3 : Vec Ideal S1x1024 .f32) (x4 : Vec Ideal S1x1024 .f32) (x5 : Vec Ideal S1x1024 .f32) (r : Fin 512) (e : Fin 1024) :
   (out0_A_6 c i arg2 harg2 arg3 harg3 arg4 harg4 arg5 harg5 arg6 harg6 arg7 harg7 arg8 harg8 arg9 harg9 arg10 harg10 x0 x1 x2 x3 x4 x5 (ix3 (0 : Fin 1) r e) : EReal)
     = gated (chNorm (fun e => taps (R := 544) x2 (View.canon (bufL i x0 x1)) r.val e.val + x3 (ix2 (0 : Fin 1) e)) e * x4 (ix2 (0 : Fin 1) e) + x5 (ix2 (0 : Fin 1) e))
         (chNorm (fun e => taps (R := 544) x2 (View.canon (bufL i x0 x1)) r.val e.val + x3 (ix2 (0 : Fin 1) e)) e * x4 (ix2 (0 : Fin 1) e) + x5 (ix2 (0 : Fin 1) e)) := by
  have hz : (![0, 0, 0] : Fin 3 → ℕ) = fun _ => 0 := by funext a; fin_cases a <;> rfl
  have hz2 : (![0, 0] : Fin 2 → ℕ) = fun _ => 0 := by funext a; fin_cases a <;> rfl
  have z0 : ∀ (x : Vec Ideal S1x512x1024 .f32) (h), View.ld x (Rect.unit (s := S1x512x1024) ![0, 0, 0] S1x512x1024.size h) = x := fun x h => View.ld_unit_zero hz h x
  have z1 : ∀ (x : Vec Ideal S1x32x1024 .f32) (h), View.ld x (Rect.unit (s := S1x32x1024) ![0, 0, 0] S1x32x1024.size h) = x := fun x h => View.ld_unit_zero hz h x
  have z2 : ∀ (x : Vec Ideal S1x1024 .f32) (h), View.ld x (Rect.unit (s := S1x1024) ![0, 0] S1x1024.size h) = x := fun x h => View.ld_unit_zero hz2 h x
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  rw [View.canon_unit_zero hz]
  sl_unfold_words
  refine (pay_at _ _ _ _ r e).trans ?_
  simp only [View.readAt_eq_ld, harg2.read_unread, harg3.read_unread, harg5.read_unread, harg6.read_unread, harg7.read_unread, z0, z1, z2]
  refine congrArg (fun x : EReal => gated x x) ?_
  refine congrArg₂ (fun x y : EReal => x + y) (congrArg₂ (fun x y : EReal => x * y) (congrArg (fun f => chNorm f e) (funext fun e =>
    congrArg₂ (fun x y : EReal => x + y) ?_ (congrFun (z2 x3 _) _))) (congrFun (z2 x4 _) _)) (congrFun (z2 x5 _) _)
  refine (loop_at Variants.none c none i arg2 harg2 arg3 harg3 arg4 harg4 arg5 harg5 arg6 harg6 arg7 harg7 arg8 harg8 arg9 harg9 arg10 harg10 _ _ r e).trans ?_
  rw [harg4.read_unread, View.read_writes_junk_eq_canon]

end Cert.Kernel5Ideal.Conv
end
-- ==== Proof.ConvKern.lean ====
module
public import proofs.«01_k».proof.Proof.ConvOut

@[expose] public section
noncomputable section
namespace Cert.Kernel5Ideal.Conv
open Idealize.ShloMosaic Idealize.ShloMosaic.TcCoe Idealize.SL.Sem Cert.Inp Cert.Conv Cert.Kernel5Ideal Cert.Kernel5Ideal.Gen

variable (m : (ℓ : Loc nD τ sig) → Buf (Elt Ideal) ℓ) (ρ : Dev nD → PrngReg) (c : Dev nD)

/-- What the kernel is given. -/
def args : Cert.Conv.In where
  h := m ((c : Thread nD τ).loc main_arg0)
  w := m ((c : Thread nD τ).loc main_arg1)
  b := m ((c : Thread nD τ).loc main_arg2)
  g := m ((c : Thread nD τ).loc main_arg3)
  s := m ((c : Thread nD τ).loc main_arg4)

/-- Point `t` stages block `t % 8` of sequence `t / 8` and leaves that block of the result, -/
theorem idx_main : ∀ t : Fin cfg0.N,
    (win0_0.index t (0 : Fin 3) = t.val / 8 ∧ win0_0.index t (1 : Fin 3) = t.val % 8 ∧ win0_0.index t (2 : Fin 3) = 0)
    ∧ (win0_6.index t (0 : Fin 3) = t.val / 8 ∧ win0_6.index t (1 : Fin 3) = t.val % 8 ∧ win0_6.index t (2 : Fin 3) = 0) :=
  (by decide +kernel : ∀ t : Fin grid0.N, _)
/-- with the 32 rows before it, -/
theorem idx_halo : ∀ t : Fin cfg0.N,
    (win0_1.index t (0 : Fin 3) = t.val / 8 ∧ win0_1.index t (1 : Fin 3) = 16 * (t.val % 8) - 1 ∧ win0_1.index t (2 : Fin 3) = 0) ∧ (grid0.coords t 1).val = t.val % 8 :=
  (by decide +kernel : ∀ t : Fin grid0.N, _)
/-- and the rest whole. -/
theorem idx_whole : ∀ (t : Fin cfg0.N) (a : Fin 2), win0_2.index t a = 0 ∧ win0_3.index t a = 0 ∧ win0_4.index t a = 0 ∧ win0_5.index t a = 0 :=
  (by decide +kernel : ∀ (t : Fin grid0.N) (a : Fin 2), _)

/-- A point's sequence -/
def seq (t : Fin cfg0.N) : Fin 4 := ⟨t.val / 8, by have : t.val < 32 := lt_of_lt_of_eq t.isLt N_0; omega⟩
/-- and the sequence's row that row `p` of its block is. -/
def tok (t : Fin cfg0.N) (p : Fin 512) : Fin 4096 := ⟨512 * (t.val % 8) + p.val, by omega⟩

/-- An index of three axes is known by its coordinates. -/
theorem is_idx {A B C : ℕ} (z : (⟨3, ![A, B, C]⟩ : Shape).Idx) (x : Fin A) (y : Fin B) (w : Fin C) (h0 : (z 0).val = x.val) (h1 : (z 1).val = y.val) (h2 : (z 2).val = w.val) :
    z = ix3 x y w := by
  funext a; apply Fin.ext
  match a with
  | ⟨0, _⟩ => exact h0
  | ⟨1, _⟩ => exact h1
  | ⟨2, _⟩ => exact h2

/-- A block staged whole is the array. -/
theorem whole_idx {R C : ℕ} (i : Fin 2 → ℕ) (h : ∀ a, i a = 0) (z y : (⟨2, ![R, C]⟩ : Shape).Idx) (h0 : (z 0).val = i 0 * R + 1 * (y 0).val) (h1 : (z 1).val = i 1 * C + 1 * (y 1).val) : z = y := by
  funext a; apply Fin.ext
  match a with
  | ⟨0, _⟩ => refine h0.trans ?_; rw [h]; show 0 * R + 1 * (y 0).val = (y 0).val; omega
  | ⟨1, _⟩ => refine h1.trans ?_; rw [h]; show 0 * C + 1 * (y 1).val = (y 1).val; omega

/-- The block's rows, -/
theorem main_at (t : Fin cfg0.N) (p : Fin 512) (e : Fin 1024) : (iblk m c 0 t (ix3 (0 : Fin 1) p e) : EReal) = (args m c).h (ix3 (seq t) (tok t p) e) := by
  refine congrArg (args m c).h (is_idx _ _ _ _ ?_ ?_ ?_)
  · show win0_0.index t (0 : Fin 3) * 1 + 1 * 0 = t.val / 8; rw [(idx_main t).1.1]; omega
  · show win0_0.index t (1 : Fin 3) * 512 + 1 * p.val = 512 * (t.val % 8) + p.val; rw [(idx_main t).1.2.1]; omega
  · show win0_0.index t (2 : Fin 3) * 1024 + 1 * e.val = e.val; rw [(idx_main t).1.2.2]; omega
/-- those before it, -/
theorem halo_at (t : Fin cfg0.N) (h : 0 < t.val % 8) (p : Fin 32) (e : Fin 1024) :
    (iblk m c 1 t (ix3 (0 : Fin 1) p e) : EReal) = (args m c).h (ix3 (seq t) ⟨512 * (t.val % 8) + p.val - 32, by omega⟩ e) := by
  refine congrArg (args m c).h (is_idx _ _ _ _ ?_ ?_ ?_)
  · show win0_1.index t (0 : Fin 3) * 1 + 1 * 0 = t.val / 8; rw [(idx_halo t).1.1]; omega
  · show win0_1.index t (1 : Fin 3) * 32 + 1 * p.val = 512 * (t.val % 8) + p.val - 32; rw [(idx_halo t).1.2.1]; omega
  · show win0_1.index t (2 : Fin 3) * 1024 + 1 * e.val = e.val; rw [(idx_halo t).1.2.2]; omega
/-- the taps, -/
theorem w_at (t : Fin cfg0.N) : iblk m c 2 t = (args m c).w :=
  funext fun y => congrArg (args m c).w (whole_idx (win0_2.index t) (fun a => (idx_whole t a).1) _ y rfl rfl)
/-- the offsets, -/
theorem b_at (t : Fin cfg0.N) : iblk m c 3 t = (args m c).b :=
  funext fun y => congrArg (args m c).b (whole_idx (win0_3.index t) (fun a => (idx_whole t a).2.1) _ y rfl rfl)
/-- the norm's scale -/
theorem g_at (t : Fin cfg0.N) : iblk m c 4 t = (args m c).g :=
  funext fun y => congrArg (args m c).g (whole_idx (win0_4.index t) (fun a => (idx_whole t a).2.2.1) _ y rfl rfl)
/-- and shift. -/
theorem s_at (t : Fin cfg0.N) : iblk m c 5 t = (args m c).s :=
  funext fun y => congrArg (args m c).s (whole_idx (win0_5.index t) (fun a => (idx_whole t a).2.2.2) _ y rfl rfl)

/-- The gathered rows are the sequence's, from thirty before the block on. -/
theorem buf_at (t : Fin cfg0.N) (n : ℕ) (hn : n + 2 < 544) (e : Fin 1024) :
    at2 (R := 544) (View.canon (bufL (grid0.coords t) (iblk m c 0 t) (iblk m c 1 t))) (n + 2) e.val = (args m c).row (seq t) (512 * (t.val % 8) + n) e := by
  unfold In.row
  by_cases h : 30 ≤ n
  · rw [dif_pos (by omega)]
    have e1 : n + 2 = 32 + (⟨n - 30, by omega⟩ : Fin 512).val := by show n + 2 = 32 + (n - 30); omega
    rw [e1]
    refine (buf_hi _ _ _ _ e).trans ((main_at m c t _ e).trans (congrArg (args m c).h (congrArg (fun x => ix3 (seq t) x e) (Fin.ext ?_))))
    show 512 * (t.val % 8) + (n - 30) = 512 * (t.val % 8) + n - 30; omega
  · refine (buf_lo _ _ _ (⟨n + 2, by omega⟩ : Fin 32) e).trans ?_
    rw [(idx_halo t).2]
    by_cases h0 : 0 < t.val % 8
    · rw [if_pos h0, dif_pos (by omega)]
      refine (halo_at m c t h0 _ e).trans (congrArg (args m c).h (congrArg (fun x => ix3 (seq t) x e) (Fin.ext ?_)))
      show 512 * (t.val % 8) + (n + 2) - 32 = 512 * (t.val % 8) + n - 30; omega
    · rw [if_neg h0, dif_neg (by omega)]

/-- The sums over the taps, and the offset. -/
theorem pre_at (t : Fin cfg0.N) (p : Fin 512) (e : Fin 1024) :
    taps (R := 544) (args m c).w (View.canon (bufL (grid0.coords t) (iblk m c 0 t) (iblk m c 1 t))) p.val e.val + (args m c).b (ix2 (0 : Fin 1) e)
      = (args m c).pre (seq t) (tok t p).val e := by
  unfold taps In.pre
  refine congrArg (fun x : EReal => x + (args m c).b (ix2 (0 : Fin 1) e)) (Finset.sum_congr rfl fun j hj => ?_)
  have hj : j < 31 := Finset.mem_range.mp hj
  refine congrArg (fun x : EReal => at2 (args m c).w j e.val * x) ?_
  have e1 : p.val + 2 + j = (p.val + j) + 2 := by omega
  rw [e1, buf_at m c t (p.val + j) (by omega) e]
  refine congrArg (fun n => (args m c).row (seq t) n e) ?_
  show 512 * (t.val % 8) + (p.val + j) = 512 * (t.val % 8) + p.val + j; omega

/-- The result's array, after the run. -/
theorem final : (dats m 0 c).arrAt 6 cfg0.N = (args m c).arr :=
  (dats m 0 c).arrAt_eq_of_cover 6 _
    (fun t hf => by
      rw [Cert.Kernel5Ideal.Value.flushed6_A]
      funext y
      obtain ⟨z, p, e, rfl⟩ : ∃ (z : Fin 1) (p : Fin 512) (e : Fin 1024), y = ix3 z p e := ⟨_, _, _, ValueIdx.eq_ix3 y⟩
      obtain rfl : z = 0 := Subsingleton.elim _ _
      refine (out_at c (grid0.coords t) _ _ _ _ _ _ _ _ _ _ _ _ _ _ _ _ _ _ _ _ _ _ _ _ p e).trans ?_
      rw [w_at, b_at, g_at, s_at]
      simp only [pre_at]
      refine (congrArg (args m c).arr (is_idx _ (seq t) (tok t p) e ?_ ?_ ?_)).symm
      · show win0_6.index t (0 : Fin 3) * 1 + 1 * 0 = t.val / 8; rw [(idx_main t).2.1]; omega
      · show win0_6.index t (1 : Fin 3) * 512 + 1 * p.val = 512 * (t.val % 8) + p.val; rw [(idx_main t).2.2.1]; omega
      · show win0_6.index t (2 : Fin 3) * 1024 + 1 * e.val = e.val; rw [(idx_main t).2.2.2]; omega)
    (fun i => by
      have h0 : (i 0).val < 4 := (i 0).isLt
      have h1 : (i 1).val < 4096 := (i 1).isLt
      have h2 : (i 2).val < 1024 := (i 2).isLt
      have hp : 8 * (i 0).val + (i 1).val / 512 < 32 := by omega
      let p : Fin cfg0.N := ⟨8 * (i 0).val + (i 1).val / 512, lt_of_lt_of_eq hp N_0.symm⟩
      refine ⟨p, flush0_6 _, ?_⟩
      show i ∈ ((View.whole main_v0).slice (win0_6.rect p)).set
      rw [View.set_slice_whole, Rect.mem_set_unit]
      intro a
      have e := (idx_main p).2
      have ep : p.val = 8 * (i 0).val + (i 1).val / 512 := rfl
      match a with
      | ⟨0, _⟩ => show win0_6.index _ (0 : Fin 3) * 1 ≤ (i 0).val ∧ (i 0).val < win0_6.index _ (0 : Fin 3) * 1 + 1
                  rw [e.1, ep]; omega
      | ⟨1, _⟩ => show win0_6.index _ (1 : Fin 3) * 512 ≤ (i 1).val ∧ (i 1).val < win0_6.index _ (1 : Fin 3) * 512 + 512
                  rw [e.2.1, ep]; omega
      | ⟨2, _⟩ => show win0_6.index _ (2 : Fin 3) * 1024 ≤ (i 2).val ∧ (i 2).val < win0_6.index _ (2 : Fin 3) * 1024 + 1024
                  rw [e.2.2]; omega)

/-- The run: the result ends as the convolution branch, the arguments unchanged. -/
theorem ends : θ_run defs (onTc (τ := τ) (main (F := Ideal))) ⟨m, fun _ => 0, ρ⟩ fun r => ∀ c : Dev nD,
      r.2.mem ((c : Thread nD τ).loc main_v0) = (args m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (Cert.Kernel5Ideal.Value.run_blocks m ρ)

end Cert.Kernel5Ideal.Conv
end
-- ==== Proof.ConvRef.lean ====
module
public import proofs.«01_k».proof.Proof.ConvSpec
public import proofs.«01_k».proof.Proof.Gen.Reference5Ideal.Run
public import Idealize.ShloMosaic.Lib.KernelVsHost

@[expose] public section
noncomputable section
namespace Cert.Reference5Ideal.Conv
open Idealize.ShloMosaic Idealize.ShloMosaic.TcCoe Idealize.ShloMosaic.StableHlo Idealize.SL.Sem Cert.Inp Cert.Conv Cert.Reference5Ideal Cert.Reference5Ideal.Gen Cert.Reference5Ideal.Value

variable (m : (ℓ : Loc nD τ sig) → Buf (Elt Ideal) ℓ) (ρ : Dev nD → PrngReg) (c : Dev nD)

/-- The reference's arguments. -/
def args : Cert.Conv.In where
  h := m ((c : Thread nD τ).loc main_arg0)
  w := m ((c : Thread nD τ).loc main_arg1)
  b := m ((c : Thread nD τ).loc main_arg2)
  g := m ((c : Thread nD τ).loc main_arg3)
  s := m ((c : Thread nD τ).loc main_arg4)

/-- The sequences with thirty rows of nothing before each. -/
theorem pad_at (q : Fin 4) (n : Fin 4126) (e : Fin 1024) :
    (res_main_v0 (launchContents m c) (ix3 q n e : S4x4126x1024.Idx) : EReal) = (args m c).row q n.val e := by
  unfold res_main_v0 In.row
  by_cases h : 30 ≤ n.val
  · rw [dif_pos ⟨h, n.isLt⟩]
    refine pad_apply_of_inside _ _ _ _ _ _ _ _ (ix3 q ⟨n.val - 30, by omega⟩ e) fun a => ?_
    match a with
    | ⟨0, _⟩ => show q.val = 0 + q.val * 1; omega
    | ⟨1, _⟩ => show n.val = 30 + (n.val - 30) * 1; omega
    | ⟨2, _⟩ => show e.val = 0 + e.val * 1; omega
  · rw [dif_neg fun k => h k.1]
    refine (pad_apply_of_not_inside _ _ _ _ _ _ _ _ (1 : Fin 3) fun k => h k.1).trans ?_
    pointwise
    show (((0#32 : BitVec 32).toInt : ℝ) : EReal) = 0
    simp

/-- The rows from the `j`th on, of the padded sequences. -/
theorem slice_at (j : ℕ) (hs : S4x4126x1024.Slices ![0, j, 0] S4x4096x1024) (hj : j < 31) (q : Fin 4) (t : Fin 4096) (e : Fin 1024) :
    (extractStridedSlice S4x4096x1024 ![0, j, 0] (res_main_v0 (launchContents m c)) hs (ix3 q t e) : EReal) = (args m c).row q (t.val + j) e := by
  rw [← pad_at m c q ⟨t.val + j, by omega⟩ e]
  pointwise
  refine congrArg (res_main_v0 (launchContents m c)) ?_
  funext a; apply Fin.ext
  match a with
  | ⟨0, _⟩ => show _ = q.val; simp
  | ⟨1, _⟩ => show _ = t.val + j; simp [Nat.add_comm]
  | ⟨2, _⟩ => show _ = e.val; simp

/-- A tap over every row. -/
theorem tap_at (w : FVec Ideal S31x1024 .f32) (j : ℕ) (hs : S31x1024.Slices ![j, 0] S1x1024) (hj : j < 31) (q : Fin 4) (t : Fin 4096) (e : Fin 1024) :
    (broadcastInDim S4x4096x1024 ![0, 1, 2] bcast_S1x1x1024_S4x4096x1024_0_1_2 (broadcastInDim S1x1x1024 ![2] bcast_S1024_S1x1x1024_2
      (shapeCast S1024 (extractStridedSlice S1x1024 ![j, 0] w hs) shapeCasts_S1x1024_S1024)) (ix3 q t e) : EReal) = at2 w j e.val := by
  rw [at2_in w ⟨j, hj⟩ e]
  pointwise

/-- A slice of the sequences by its tap, at an index. -/
theorem prod_at (w : FVec Ideal S31x1024 .f32) (j : ℕ) (hs : S4x4126x1024.Slices ![0, j, 0] S4x4096x1024) (hw : S31x1024.Slices ![j, 0] S1x1024)
    (q : Fin 4) (t : Fin 4096) (e : Fin 1024) (hj : j < 31) :
    (mulf (F := Ideal) (φ := .f32) (extractStridedSlice S4x4096x1024 ![0, j, 0] (res_main_v0 (launchContents m c)) hs)
      (broadcastInDim S4x4096x1024 ![0, 1, 2] bcast_S1x1x1024_S4x4096x1024_0_1_2 (broadcastInDim S1x1x1024 ![2] bcast_S1024_S1x1x1024_2
        (shapeCast S1024 (extractStridedSlice S1x1024 ![j, 0] w hw) shapeCasts_S1x1024_S1024))) (ix3 q t e) : EReal)
      = at2 w j e.val * (args m c).row q (t.val + j) e := by
  rw [mulf_apply]
  exact (congrArg₂ (fun x y : EReal => x * y) (slice_at m c j hs hj q t e) (tap_at w j hw hj q t e)).trans (mul_comm _ _)

/-- One row over every token. -/
def WIDE (g : FVec Ideal S1x1024 .f32) : FVec Ideal S4x4096x1024 .f32 :=
  broadcastInDim S4x4096x1024 ![0, 1, 2] bcast_S1x1x1024_S4x4096x1024_0_1_2 (broadcastInDim S1x1x1024 ![2] bcast_S1024_S1x1x1024_2 (shapeCast S1024 g shapeCasts_S1x1024_S1024))
/-- Every token's mean over the channels. -/
def MEAN (x : FVec Ideal S4x4096x1024 .f32) : FVec Ideal S4x4096x1 .f32 :=
  Host.divf (broadcastInDim S4x4096x1 ![0, 1] bcast_S4x4096_S4x4096x1_0_1 (Host.reduceAdd x (constant S_ .f32 0x00000000#32) reducesTo_S4x4096x1024_S4x4096_d2 h_S_))
    (broadcastInDim S4x4096x1 ![] bcast_S_S4x4096x1 (constant S_ .f32 0x44800000#32))
/-- Every token less its mean. -/
def CEN (x : FVec Ideal S4x4096x1024 .f32) : FVec Ideal S4x4096x1024 .f32 :=
  subf x (broadcastInDim S4x4096x1024 ![0, 1, 2] bcast_S4x4096x1_S4x4096x1024_0_1_2 (MEAN x))
/-- Every token normalised. -/
def NRM (x : FVec Ideal S4x4096x1024 .f32) : FVec Ideal S4x4096x1024 .f32 :=
  mulf (CEN x) (broadcastInDim S4x4096x1024 ![0, 1, 2] bcast_S4x4096x1_S4x4096x1024_0_1_2
    (Host.rsqrt (addf (MEAN (mulf (CEN x) (CEN x))) (broadcastInDim S4x4096x1 ![] bcast_S_S4x4096x1 (constant S_ .f32 0x3727C5AC#32)))))
/-- Every number gated by itself. -/
def SILU (x : FVec Ideal S4x4096x1024 .f32) : FVec Ideal S4x4096x1024 .f32 :=
  mulf x (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf x))))

/-- One row over every token, at an index; -/
theorem WIDE_at (g : FVec Ideal S1x1024 .f32) (q : Fin 4) (t : Fin 4096) (e : Fin 1024) : (WIDE g (ix3 q t e) : EReal) = g (ix2 (0 : Fin 1) e) := by
  unfold WIDE
  pointwise
/-- the mean, -/
theorem MEAN_at (x : FVec Ideal S4x4096x1024 .f32) (q : Fin 4) (t : Fin 4096) : (MEAN x (ix3 q t (0 : Fin 1)) : EReal) = chMean fun e => x (ix3 q t e) := by
  unfold MEAN chMean c1024
  pointwise
/-- a token less it, -/
theorem CEN_at (x : FVec Ideal S4x4096x1024 .f32) (q : Fin 4) (t : Fin 4096) (e : Fin 1024) :
    (CEN x (ix3 q t e) : EReal) = x (ix3 q t e) - chMean fun e => x (ix3 q t e) := by
  unfold CEN
  pointwise
  rw [MEAN_at]
/-- normalised, -/
theorem NRM_at (x : FVec Ideal S4x4096x1024 .f32) (q : Fin 4) (t : Fin 4096) (e : Fin 1024) :
    (NRM x (ix3 q t e) : EReal) = chNorm (fun e => x (ix3 q t e)) e := by
  unfold NRM chNorm eps
  pointwise
  rw [MEAN_at, CEN_at]
  simp only [mulf_apply, CEN_at]
  rfl
/-- and gated. -/
theorem SILU_at (x : FVec Ideal S4x4096x1024 .f32) (i : S4x4096x1024.Idx) : (SILU x i : EReal) = gated (x i) (x i) := by
  unfold SILU gated Ideal.logistic
  pointwise [Ideal.ofBits_one_f32]

set_option maxHeartbeats 4000000 in
set_option maxRecDepth 65536 in
set_option backward.isDefEq.respectTransparency.types false in
/-- The convolution at an index. -/
theorem pre_at (q : Fin 4) (t : Fin 4096) (e : Fin 1024) : (res_main_v222 (launchContents m c) (ix3 q t e : S4x4096x1024.Idx) : EReal) = (args m c).pre q t.val e := by
  unfold res_main_v222 res_main_v155 res_main_v78 In.pre
  refine (addf_apply _ _ _).trans (congrArg₂ (fun x y : EReal => x + y) ?_ (WIDE_at _ q t e))
  iterate 31
    rw [Finset.sum_range_succ]
    refine (addf_apply _ _ _).trans (congrArg₂ (fun x y : EReal => x + y) ?_ (prod_at m c _ _ _ _ q t e (by decide)))
  rw [Finset.sum_range_zero]
  show (broadcastInDim S4x4096x1024 ![] bcast_S_S4x4096x1024 (constant (F := Ideal) S_ .f32 0x00000000#32) (ix3 q t e) : EReal) = 0
  pointwise

/-- The normalised, scaled and shifted convolution at an index. -/
theorem lin_at (q : Fin 4) (t : Fin 4096) (e : Fin 1024) : (res_main_v248 (launchContents m c) (ix3 q t e : S4x4096x1024.Idx) : EReal) = (args m c).lin q t.val e := by
  have h : res_main_v248 (launchContents m c) = addf (mulf (NRM (res_main_v222 (launchContents m c))) (WIDE (args m c).g)) (WIDE (args m c).s) := rfl
  rw [h]
  unfold In.lin
  refine (addf_apply _ _ _).trans ?_
  refine congrArg₂ (fun x y : EReal => x + y) ((mulf_apply _ _ _).trans (congrArg₂ (fun x y : EReal => x * y) ?_ (WIDE_at _ q t e))) (WIDE_at _ q t e)
  refine (NRM_at _ q t e).trans ?_
  exact congrArg (fun f => chNorm f e) (funext fun e => pre_at m c q t e)

/-- The reference's result is the convolution branch. -/
theorem res_eq : truncf .bf16 (SILU (res_main_v248 (launchContents m c))) bitsLt_bf16_f32 = (args m c).arr := by
  funext i
  obtain ⟨q, t, e, rfl⟩ : ∃ (q : Fin 4) (t : Fin 4096) (e : Fin 1024), i = ix3 q t e := ⟨_, _, _, ValueIdx.eq_ix3 i⟩
  refine (truncf_apply _ _ _ _).trans ((SILU_at _ _).trans ?_)
  exact congrArg (fun x : EReal => gated x x) (lin_at m c q t e)

/-- The run: the result ends as the convolution branch, the arguments unchanged. -/
theorem ends : θ_run defs (onTc (τ := τ) (main (F := Ideal))) ⟨m, fun _ => 0, ρ⟩ fun r => ∀ c : Dev nD,
      r.2.mem ((c.tc : Thread nD τ).loc main_v250) = (args m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (res_eq m c), (h c).2⟩) (Cert.Reference5Ideal.Value.run m ρ)

end Cert.Reference5Ideal.Conv
end
-- ==== Proof.lean ====
module

public import proofs.«01_k».proof.Proof.Kern
public import proofs.«01_k».proof.Proof.Ref
public import proofs.«01_k».proof.Proof.InValue
public import proofs.«01_k».proof.Proof.InRef
public import proofs.«01_k».proof.Proof.InSame
public import proofs.«01_k».proof.Proof.OutValue
public import proofs.«01_k».proof.Proof.OutRef
public import proofs.«01_k».proof.Proof.OutSame
public import proofs.«01_k».proof.Proof.AdaKern
public import proofs.«01_k».proof.Proof.AdaRef
public import proofs.«01_k».proof.Proof.ConvKern
public import proofs.«01_k».proof.Proof.ConvRef
public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

/-- The kernel's result and the reference's, from memories that agree on the arguments, are the same retention. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hq : Cert.ReferenceIdeal.Ret.aq m' c = Cert.KernelIdeal.Ret.aq m c) (hk : Cert.ReferenceIdeal.Ret.ak m' c = Cert.KernelIdeal.Ret.ak m c)
    (hv : Cert.ReferenceIdeal.Ret.av m' c = Cert.KernelIdeal.Ret.av m c) (hg : Cert.ReferenceIdeal.Ret.ag m' c = Cert.KernelIdeal.Ret.ag m c) :
    (StableHlo.finalContents Cert.ReferenceIdeal.Value.condOps Cert.ReferenceIdeal.Value.preI Cert.ReferenceIdeal.Value.bodyI Cert.ReferenceIdeal.Value.postI 32 m' c
      (Proc.devRef .tc Cert.ReferenceIdeal.main_v97) : Cert.Ret.Arr) = Cert.KernelIdeal.Value.G8 m c := by
  funext i
  have e : i = ValueIdx.ix2 (i 0) (i 1) := ValueIdx.eq_ix2 i
  refine Eq.trans ?_ (Cert.KernelIdeal.Ret.G8_eq m c i).symm
  rw [e]
  refine (Cert.ReferenceIdeal.Ret.ref_at m' c (i 0) (i 1)).trans ?_
  rw [hq, hk, hv, hg]
  rfl

/-- From memories that agree on the arguments both programs run and end with equal results. -/
theorem value : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Value.G8 m c, Cert.KernelIdeal.Value.run m g, ?_⟩
  refine (θ_run (Cert.ReferenceIdeal.defs (F := Ideal)) _ _).mono (fun r h c => ⟨(h c).1.trans ?_, (h c).2⟩) (Cert.ReferenceIdeal.Ret.run m' g')
  exact same m m' c (hm c).1 (hm c).2.1 (hm c).2.2.1 (hm c).2.2.2

/-- The reference's frame: it declares no semaphore. -/
theorem frameR : Cert.quiescent_ReferenceIdeal (hReferenceIdeal := Cert.ReferenceIdeal.Gen.facts) := fun m g _ =>
  (θ_run (Cert.ReferenceIdeal.defs (F := Ideal)) _ _).mono (fun r h => ⟨fun c => (h c).2, Idealize.ShloMosaic.sem_eq_zero_of_no_sems (by decide) r.2⟩) (Cert.ReferenceIdeal.Ret.run m g)

/-- The projection's reference ends with these five arrays, its arguments unchanged. -/
theorem projRef (m : (ℓ : Loc Cert.Reference2Ideal.nD Cert.Reference2Ideal.τ Cert.Reference2Ideal.sig) → Buf (Elt Ideal) ℓ) (g : Dev Cert.Reference2Ideal.nD → PrngReg)
    (a : Dev Cert.Reference2Ideal.nD → Cert.Inp.In) (ha : ∀ c, Cert.Reference2Ideal.Inp.args m c = a c) :
    θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_v102) = Cert.Kernel2Ideal.In.arr (a c).h0
      ∧ r.2.mem ((c.tc : Thread Cert.Reference2Ideal.nD Cert.Reference2Ideal.τ).loc Cert.Reference2Ideal.main_v104) = Cert.Kernel2Ideal.In.arr (a c).q
      ∧ r.2.mem ((c.tc : Thread Cert.Reference2Ideal.nD Cert.Reference2Ideal.τ).loc Cert.Reference2Ideal.main_v106) = Cert.Kernel2Ideal.In.arr (a c).k
      ∧ r.2.mem ((c.tc : Thread Cert.Reference2Ideal.nD Cert.Reference2Ideal.τ).loc Cert.Reference2Ideal.main_v108) = Cert.Kernel2Ideal.In.arr (a c).v
      ∧ r.2.mem ((c.tc : Thread Cert.Reference2Ideal.nD Cert.Reference2Ideal.τ).loc Cert.Reference2Ideal.main_v110) = Cert.Kernel2Ideal.In.arr (a c).g
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)) := by
  have at_idx : ∀ (x : (⟨2, ![16384, 1024]⟩ : Shape).Idx → EReal) (f : Fin 16384 → Fin 1024 → EReal), (∀ r n, x (ValueIdx.ix2 r n) = f r n) → x = Cert.Kernel2Ideal.In.arr f := by
    intro x f hx
    funext i
    rw [ValueIdx.eq_ix2 i]
    exact hx (i 0) (i 1)
  refine (θ_run (Cert.Reference2Ideal.defs (F := Ideal)) _ _).mono (fun r h c => ?_) (Cert.Reference2Ideal.Value.run m g)
  rw [← ha c]
  exact ⟨(h c).1.trans (at_idx _ _ (Cert.Reference2Ideal.Inp.res_h0 m c)), (h c).2.1.trans (at_idx _ _ (Cert.Reference2Ideal.Inp.res_q m c)),
    (h c).2.2.1.trans (at_idx _ _ (Cert.Reference2Ideal.Inp.res_k m c)), (h c).2.2.2.1.trans (at_idx _ _ (Cert.Reference2Ideal.Inp.res_v m c)),
    (h c).2.2.2.2.1.trans (at_idx _ _ (Cert.Reference2Ideal.Inp.res_g m c)), (h c).2.2.2.2.2⟩

/-- From memories that agree on the arguments the projection's kernel and reference run and end with equal results. -/
theorem projValue : Cert.algebraic_Kernel2Ideal_Reference2Ideal (hKernel2Ideal := Cert.Kernel2Ideal.Gen.facts) (hReference2Ideal := Cert.Reference2Ideal.Gen.facts) := by
  intro m g m' g' _ hm
  refine ⟨fun c => Cert.Kernel2Ideal.In.arr (Cert.Kernel2Ideal.In.args m c).h0, fun c => Cert.Kernel2Ideal.In.arr (Cert.Kernel2Ideal.In.args m c).q,
    fun c => Cert.Kernel2Ideal.In.arr (Cert.Kernel2Ideal.In.args m c).k, fun c => Cert.Kernel2Ideal.In.arr (Cert.Kernel2Ideal.In.args m c).v,
    fun c => Cert.Kernel2Ideal.In.arr (Cert.Kernel2Ideal.In.args m c).g, Cert.Kernel2Ideal.In.run m g, projRef m' g' (fun c => Cert.Kernel2Ideal.In.args m c) fun c => ?_⟩
  obtain ⟨h0, h1, h2, h3, h4⟩ := hm c
  unfold Cert.Reference2Ideal.Inp.args Cert.Kernel2Ideal.In.args
  rw [h0, h1, h2, h3, h4]

/-- The projection's reference's frame: it declares no semaphore. -/
theorem projFrameR : Cert.quiescent_Reference2Ideal (hReference2Ideal := Cert.Reference2Ideal.Gen.facts) := fun m g _ =>
  (θ_run (Cert.Reference2Ideal.defs (F := Ideal)) _ _).mono
    (fun r h => ⟨fun c => (h c).2.2.2.2.2, Idealize.ShloMosaic.sem_eq_zero_of_no_sems (by decide) r.2⟩) (projRef m g (Cert.Reference2Ideal.Inp.args m) fun _ => rfl)

/-- From memories that agree on the arguments the output projection's kernel and reference run and end with equal results. -/
theorem outValue : Cert.algebraic_Kernel3Ideal_Reference3Ideal (hKernel3Ideal := Cert.Kernel3Ideal.Gen.facts) (hReference3Ideal := Cert.Reference3Ideal.Gen.facts) := by
  intro m g m' g' _ hm
  refine ⟨fun c => (Cert.Kernel3Ideal.Out.args m c).arr1, fun c => (Cert.Kernel3Ideal.Out.args m c).arr2, Cert.Kernel3Ideal.Out.ends m g, ?_⟩
  refine (θ_run (Cert.Reference3Ideal.defs (F := Ideal)) _ _).mono (fun r h c => ?_) (Cert.Reference3Ideal.Value.run m' g')
  have e : Cert.Reference3Ideal.Outp.args m' c = Cert.Kernel3Ideal.Out.args m c := by
    obtain ⟨h0, h1, h2, h3, h4, h5, h6, h7, h8, -⟩ := hm c
    unfold Cert.Reference3Ideal.Outp.args Cert.Kernel3Ideal.Out.args
    rw [h0, h1, h2, h3, h4, h5, h6, h7, h8]
  exact ⟨(h c).1.trans ((Cert.Reference3Ideal.Outp.res_x1 m' c).trans (congrArg Cert.Outp.In.arr1 e)),
    (h c).2.1.trans ((Cert.Reference3Ideal.Outp.res_u m' c).trans (congrArg Cert.Outp.In.arr2 e)), (h c).2.2⟩

/-- The output projection's reference's frame: it declares no semaphore. -/
theorem outFrameR : Cert.quiescent_Reference3Ideal (hReference3Ideal := Cert.Reference3Ideal.Gen.facts) := fun m g _ =>
  (θ_run (Cert.Reference3Ideal.defs (F := Ideal)) _ _).mono
    (fun r h => ⟨fun c => (h c).2.2, Idealize.ShloMosaic.sem_eq_zero_of_no_sems (by decide) r.2⟩) (Cert.Reference3Ideal.Value.run m g)

/-- From memories that agree on the arguments the modulation's kernel and reference run and end with equal results. -/
theorem adaValue : Cert.algebraic_Kernel4Ideal_Reference4Ideal (hKernel4Ideal := Cert.Kernel4Ideal.Gen.facts) (hReference4Ideal := Cert.Reference4Ideal.Gen.facts) := by
  intro m g m' g' _ hm
  refine ⟨fun c => (Cert.Kernel4Ideal.Ada.args m c).arr, Cert.Kernel4Ideal.Ada.ends m g, ?_⟩
  refine (θ_run (Cert.Reference4Ideal.defs (F := Ideal)) _ _).mono (fun r h c => ?_) (Cert.Reference4Ideal.Ada.ends m' g')
  have e : Cert.Reference4Ideal.Ada.args m' c = Cert.Kernel4Ideal.Ada.args m c := by
    obtain ⟨h0, h1, h2⟩ := hm c
    unfold Cert.Reference4Ideal.Ada.args Cert.Kernel4Ideal.Ada.args
    rw [h0, h1, h2]
  exact ⟨(h c).1.trans (congrArg Cert.Ada.In.arr e), (h c).2⟩

/-- The modulation's reference's frame: it declares no semaphore. -/
theorem adaFrameR : Cert.quiescent_Reference4Ideal (hReference4Ideal := Cert.Reference4Ideal.Gen.facts) := fun m g _ =>
  (θ_run (Cert.Reference4Ideal.defs (F := Ideal)) _ _).mono
    (fun r h => ⟨fun c => (h c).2, Idealize.ShloMosaic.sem_eq_zero_of_no_sems (by decide) r.2⟩) (Cert.Reference4Ideal.Ada.ends m g)

/-- From memories that agree on the arguments the convolution's kernel and reference run and end with equal results. -/
theorem convValue : Cert.algebraic_Kernel5Ideal_Reference5Ideal (hKernel5Ideal := Cert.Kernel5Ideal.Gen.facts) (hReference5Ideal := Cert.Reference5Ideal.Gen.facts) := by
  intro m g m' g' _ hm
  refine ⟨fun c => (Cert.Kernel5Ideal.Conv.args m c).arr, Cert.Kernel5Ideal.Conv.ends m g, ?_⟩
  refine (θ_run (Cert.Reference5Ideal.defs (F := Ideal)) _ _).mono (fun r h c => ?_) (Cert.Reference5Ideal.Conv.ends m' g')
  have e : Cert.Reference5Ideal.Conv.args m' c = Cert.Kernel5Ideal.Conv.args m c := by
    obtain ⟨h0, h1, h2, h3, h4⟩ := hm c
    unfold Cert.Reference5Ideal.Conv.args Cert.Kernel5Ideal.Conv.args
    rw [h0, h1, h2, h3, h4]
  exact ⟨(h c).1.trans (congrArg Cert.Conv.In.arr e), (h c).2⟩

/-- The convolution's reference's frame: it declares no semaphore. -/
theorem convFrameR : Cert.quiescent_Reference5Ideal (hReference5Ideal := Cert.Reference5Ideal.Gen.facts) := fun m g _ =>
  (θ_run (Cert.Reference5Ideal.defs (F := Ideal)) _ _).mono
    (fun r h => ⟨fun c => (h c).2, Idealize.ShloMosaic.sem_eq_zero_of_no_sems (by decide) r.2⟩) (Cert.Reference5Ideal.Conv.ends m g)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m g _ => Cert.Kernel.Gen.frame m g, fun m g _ => Cert.KernelIdeal.Gen.frame m g, frameR,
  Cert.Kernel2.Same.frame, fun m g _ => Cert.Kernel2Ideal.In.frame m g, projFrameR,
  Cert.Kernel3.Same.frame, fun m g _ => Cert.Kernel3Ideal.Out.frame m g, outFrameR,
  fun m g _ => Cert.Kernel4.Gen.frame m g, fun m g _ => Cert.Kernel4Ideal.Gen.frame m g, adaFrameR,
  fun m g _ => Cert.Kernel5.Gen.frame m g, fun m g _ => Cert.Kernel5Ideal.Gen.frame m g, convFrameR,
  trivial, value, trivial, projValue, trivial, outValue, trivial, adaValue, trivial, convValue⟩

end Cert.Proof

end
